-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x32x1x160000 : Shape := ⟨4, ![2, 32, 1, 160000]⟩
abbrev S2x32x1x152000 : Shape := ⟨4, ![2, 32, 1, 152000]⟩
abbrev S12800 : Shape := ⟨1, ![12800]⟩
abbrev S12672 : Shape := ⟨1, ![12672]⟩
abbrev S4 : Shape := ⟨1, ![4]⟩
abbrev S5 : Shape := ⟨1, ![5]⟩
abbrev S1x1x1x12800 : Shape := ⟨4, ![1, 1, 1, 12800]⟩
abbrev S1 : Shape := ⟨1, ![1]⟩
abbrev S_ : Shape := ⟨0, ![]⟩
abbrev S16 : Shape := ⟨1, ![16]⟩
abbrev S1x1x1x12672 : Shape := ⟨4, ![1, 1, 1, 12672]⟩
abbrev S12608 : Shape := ⟨1, ![12608]⟩
abbrev S1x1x1x12608 : Shape := ⟨4, ![1, 1, 1, 12608]⟩

abbrev nBuf : Table → Nat
  | .hbm => 2
  | .local .scVector .vmem => 8
  | _ => 0

abbrev bufTy : (tb : Table) → Fin (nBuf tb) → BufTy
  | .hbm, ⟨0, _⟩ => ⟨S2x32x1x160000, .f32⟩
  | .hbm, ⟨1, _⟩ => ⟨S2x32x1x152000, .f32⟩
  | .local .scVector .vmem, ⟨0, _⟩ => ⟨S12800, .f32⟩
  | .local .scVector .vmem, ⟨1, _⟩ => ⟨S12800, .f32⟩
  | .local .scVector .vmem, ⟨2, _⟩ => ⟨S12800, .f32⟩
  | .local .scVector .vmem, ⟨3, _⟩ => ⟨S12800, .f32⟩
  | .local .scVector .vmem, ⟨4, _⟩ => ⟨S12672, .f32⟩
  | .local .scVector .vmem, ⟨5, _⟩ => ⟨S12672, .f32⟩
  | .local .scVector .vmem, ⟨6, _⟩ => ⟨S12672, .f32⟩
  | .local .scVector .vmem, ⟨7, _⟩ => ⟨S12672, .f32⟩
  | _, _ => ⟨S2x32x1x160000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c0_i32_50 : BitVec 32 := 0#32
  let v168 : BitVec 32 := Scalar.addi v147 c0_i32_50
  let c147200_i32 : BitVec 32 := 147200#32
  let v169 : BitVec 32 := Scalar.minsi v168 c147200_i32
  v169
def k0_off1 (i : grid0.Coords) (c0_i32 : BitVec 32) (c7904_i32 : BitVec 32) (c985_i32 : BitVec 32) (c1627_i32 : BitVec 32) (c7691_i32 : BitVec 32) (c1784_i32 : BitVec 32) (c2962_i32 : BitVec 32) (c3348_i32 : BitVec 32) (c5987_i32 : BitVec 32) (c956_i32 : BitVec 32) (c6905_i32 : BitVec 32) (c3735_i32 : BitVec 32) (c7239_i32 : BitVec 32) (c5393_i32 : BitVec 32) (c6702_i32 : BitVec 32) (c7731_i32 : BitVec 32) (c1237_i32 : BitVec 32) (c1989_i32 : BitVec 32) (c3292_i32 : BitVec 32) (c6192_i32 : BitVec 32) (c7084_i32 : BitVec 32) (c3148_i32 : BitVec 32) (c6582_i32 : BitVec 32) (c5635_i32 : BitVec 32) (c5003_i32 : BitVec 32) (c4812_i32 : BitVec 32) (c1945_i32 : BitVec 32) (c2152_i32 : BitVec 32) (c1094_i32 : BitVec 32) (c6977_i32 : BitVec 32) (c5709_i32 : BitVec 32) (c6071_i32 : BitVec 32) (c644_i32 : BitVec 32) (c0_i32_50 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_51 : BitVec 32 := 0#32
  let v174 : BitVec 1 := Scalar.cmpi .sgt v3 c0_i32_51
  let v175 : BitVec 32 := Scalar.extui v174
  let c0_i32_52 : BitVec 32 := 0#32
  let v176 : BitVec 1 := Scalar.cmpi .slt v3 c0_i32_52
  let v177 : BitVec 32 := Scalar.extui v176
  let v178 : BitVec 32 := Scalar.subi v175 v177
  let c32_i32 : BitVec 32 := 32#32
  let c0_i32_53 : BitVec 32 := 0#32
  let v179 : BitVec 1 := Scalar.cmpi .sgt c32_i32 c0_i32_53
  let v180 : BitVec 32 := Scalar.extui v179
  let c0_i32_54 : BitVec 32 := 0#32
  let v181 : BitVec 1 := Scalar.cmpi .slt c32_i32 c0_i32_54
  let v182 : BitVec 32 := Scalar.extui v181
  let v183 : BitVec 32 := Scalar.subi v180 v182
  let v184 : BitVec 1 := Scalar.cmpi .ne v178 v183
  let v185 : BitVec 32 := Scalar.remsi v3 c32_i32
  let c0_i32_55 : BitVec 32 := 0#32
  let v186 : BitVec 1 := Scalar.cmpi .ne v185 c0_i32_55
  let v187 : BitVec 1 := Scalar.andi v184 v186
  let v173 : BitVec 32 := Scalar.divsi v3 c32_i32
  let c1_i32_56 : BitVec 32 := 1#32
  let v188 : BitVec 32 := Scalar.subi v173 c1_i32_56
  let v189 : BitVec 32 := Scalar.select v187 v188 v173
  let c32_i32_57 : BitVec 32 := 32#32
  let c0_i32_58 : BitVec 32 := 0#32
  let v190 : BitVec 1 := Scalar.cmpi .eq c32_i32_57 c0_i32_58
  let c1_i32_59 : BitVec 32 := 1#32
  let v191 : BitVec 32 := Scalar.select v190 c1_i32_59 c32_i32_57
  let v192 : BitVec 32 := Scalar.remsi v3 v191
  let c0_i32_61 : BitVec 32 := 0#32
  let v194 : BitVec 1 := Scalar.cmpi .slt v192 c0_i32_61
  let c0_i32_62 : BitVec 32 := 0#32
  let v195 : BitVec 1 := Scalar.cmpi .slt v191 c0_i32_62
  let v196 : BitVec 1 := Scalar.xori v194 v195
  let c0_i32_60 : BitVec 32 := 0#32
  let v193 : BitVec 1 := Scalar.cmpi .ne v192 c0_i32_60
  let v197 : BitVec 1 := Scalar.andi v196 v193
  let v198 : BitVec 32 := Scalar.addi v192 v191
  let v199 : BitVec 32 := Scalar.select v197 v198 v192
  let c0_i32_63 : BitVec 32 := 0#32
  let c31_i32 : BitVec 32 := 31#32
  let v66 : BitVec 1 := Scalar.cmpi .eq v1 c31_i32
  let c30_i32 : BitVec 32 := 30#32
  let v64 : BitVec 1 := Scalar.cmpi .eq v1 c30_i32
  let c29_i32 : BitVec 32 := 29#32
  let v62 : BitVec 1 := Scalar.cmpi .eq v1 c29_i32
  let c28_i32 : BitVec 32 := 28#32
  let v60 : BitVec 1 := Scalar.cmpi .eq v1 c28_i32
  let c27_i32 : BitVec 32 := 27#32
  let v58 : BitVec 1 := Scalar.cmpi .eq v1 c27_i32
  let c26_i32 : BitVec 32 := 26#32
  let v56 : BitVec 1 := Scalar.cmpi .eq v1 c26_i32
  let c25_i32 : BitVec 32 := 25#32
  let v54 : BitVec 1 := Scalar.cmpi .eq v1 c25_i32
  let c24_i32 : BitVec 32 := 24#32
  let v52 : BitVec 1 := Scalar.cmpi .eq v1 c24_i32
  let c23_i32 : BitVec 32 := 23#32
  let v50 : BitVec 1 := Scalar.cmpi .eq v1 c23_i32
  let c22_i32 : BitVec 32 := 22#32
  let v48 : BitVec 1 := Scalar.cmpi .eq v1 c22_i32
  let c21_i32 : BitVec 32 := 21#32
  let v46 : BitVec 1 := Scalar.cmpi .eq v1 c21_i32
  let c20_i32 : BitVec 32 := 20#32
  let v44 : BitVec 1 := Scalar.cmpi .eq v1 c20_i32
  let c19_i32 : BitVec 32 := 19#32
  let v42 : BitVec 1 := Scalar.cmpi .eq v1 c19_i32
  let c18_i32 : BitVec 32 := 18#32
  let v40 : BitVec 1 := Scalar.cmpi .eq v1 c18_i32
  let c17_i32 : BitVec 32 := 17#32
  let v38 : BitVec 1 := Scalar.cmpi .eq v1 c17_i32
  let c16_i32 : BitVec 32 := 16#32
  let v36 : BitVec 1 := Scalar.cmpi .eq v1 c16_i32
  let c15_i32 : BitVec 32 := 15#32
  let v34 : BitVec 1 := Scalar.cmpi .eq v1 c15_i32
  let c14_i32 : BitVec 32 := 14#32
  let v32 : BitVec 1 := Scalar.cmpi .eq v1 c14_i32
  let c13_i32 : BitVec 32 := 13#32
  let v30 : BitVec 1 := Scalar.cmpi .eq v1 c13_i32
  let c12_i32 : BitVec 32 := 12#32
  let v28 : BitVec 1 := Scalar.cmpi .eq v1 c12_i32
  let c11_i32 : BitVec 32 := 11#32
  let v26 : BitVec 1 := Scalar.cmpi .eq v1 c11_i32
  let c10_i32 : BitVec 32 := 10#32
  let v24 : BitVec 1 := Scalar.cmpi .eq v1 c10_i32
  let c9_i32 : BitVec 32 := 9#32
  let v22 : BitVec 1 := Scalar.cmpi .eq v1 c9_i32
  let c8_i32 : BitVec 32 := 8#32
  let v20 : BitVec 1 := Scalar.cmpi .eq v1 c8_i32
  let c7_i32 : BitVec 32 := 7#32
  let v18 : BitVec 1 := Scalar.cmpi .eq v1 c7_i32
  let c6_i32 : BitVec 32 := 6#32
  let v16 : BitVec 1 := Scalar.cmpi .eq v1 c6_i32
  let c5_i32 : BitVec 32 := 5#32
  let v14 : BitVec 1 := Scalar.cmpi .eq v1 c5_i32
  let c4_i32 : BitVec 32 := 4#32
  let v12 : BitVec 1 := Scalar.cmpi .eq v1 c4_i32
  let c3_i32 : BitVec 32 := 3#32
  let v10 : BitVec 1 := Scalar.cmpi .eq v1 c3_i32
  let c2_i32_3 : BitVec 32 := 2#32
  let v8 : BitVec 1 := Scalar.cmpi .eq v1 c2_i32_3
  let c1_i32_2 : BitVec 32 := 1#32
  let v6 : BitVec 1 := Scalar.cmpi .eq v1 c1_i32_2
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let v168 : BitVec 32 := Scalar.addi v147 c0_i32_50
  let c147200_i32 : BitVec 32 := 147200#32
  let v169 : BitVec 32 := Scalar.minsi v168 c147200_i32
  let v170 : BitVec 32 := v169
  ![v189.toNat, v199.toNat, 0, v170.toNat]
def k0_off1_at (r : Fin 24) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 12 then
    if r.val < 6 then
      if r.val < 3 then
        if r.val < 1 then
          (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 0#32)
        else
          if r.val < 2 then
            (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 12672#32)
          else
            (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 25344#32)
      else
        if r.val < 4 then
          (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 38016#32)
        else
          if r.val < 5 then
            (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 50688#32)
          else
            (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 63360#32)
    else
      if r.val < 9 then
        if r.val < 7 then
          (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 76032#32)
        else
          if r.val < 8 then
            (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 88704#32)
          else
            (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 101376#32)
      else
        if r.val < 10 then
          (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 114048#32)
        else
          if r.val < 11 then
            (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 126720#32)
          else
            (0#32, 7904#32, 985#32, 1627#32, 7691#32, 1784#32, 2962#32, 3348#32, 5987#32, 956#32, 6905#32, 3735#32, 7239#32, 5393#32, 6702#32, 7731#32, 1237#32, 1989#32, 3292#32, 6192#32, 7084#32, 3148#32, 6582#32, 5635#32, 5003#32, 4812#32, 1945#32, 2152#32, 1094#32, 6977#32, 5709#32, 6071#32, 644#32, 139392#32)
  else
    if r.val < 18 then
      if r.val < 15 then
        if r.val < 13 then
          (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 0#32)
        else
          if r.val < 14 then
            (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 12672#32)
          else
            (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 25344#32)
      else
        if r.val < 16 then
          (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 38016#32)
        else
          if r.val < 17 then
            (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 50688#32)
          else
            (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 63360#32)
    else
      if r.val < 21 then
        if r.val < 19 then
          (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 76032#32)
        else
          if r.val < 20 then
            (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 88704#32)
          else
            (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 101376#32)
      else
        if r.val < 22 then
          (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 114048#32)
        else
          if r.val < 23 then
            (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 126720#32)
          else
            (1#32, 5000#32, 6150#32, 2361#32, 3410#32, 4599#32, 6323#32, 4955#32, 3853#32, 4324#32, 6592#32, 6909#32, 1796#32, 6253#32, 4274#32, 724#32, 1198#32, 3812#32, 5239#32, 7131#32, 7761#32, 7427#32, 6603#32, 5639#32, 2754#32, 1490#32, 1051#32, 3954#32, 1026#32, 807#32, 5419#32, 2369#32, 914#32, 139392#32)
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c12672_i32 : BitVec 32 := 12672#32
  let v208 : BitVec 32 := Scalar.addi v147 c12672_i32
  let c147200_i32_67 : BitVec 32 := 147200#32
  let v209 : BitVec 32 := Scalar.minsi v208 c147200_i32_67
  v209
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c25344_i32 : BitVec 32 := 25344#32
  let v248 : BitVec 32 := Scalar.addi v147 c25344_i32
  let c147200_i32_85 : BitVec 32 := 147200#32
  let v249 : BitVec 32 := Scalar.minsi v248 c147200_i32_85
  v249
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c38016_i32 : BitVec 32 := 38016#32
  let v288 : BitVec 32 := Scalar.addi v147 c38016_i32
  let c147200_i32_103 : BitVec 32 := 147200#32
  let v289 : BitVec 32 := Scalar.minsi v288 c147200_i32_103
  v289
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c0_i32_121 : BitVec 32 := 0#32
  let v328 : BitVec 32 := Scalar.addi v147 c0_i32_121
  let c147200_i32_122 : BitVec 32 := 147200#32
  let v329 : BitVec 32 := Scalar.minsi v328 c147200_i32_122
  v329
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c0_i32_140 : BitVec 32 := 0#32
  let v368 : BitVec 32 := Scalar.addi v147 c0_i32_140
  let c147200_i32_141 : BitVec 32 := 147200#32
  let v369 : BitVec 32 := Scalar.minsi v368 c147200_i32_141
  v369
@[reducible] def k0_t1_loop : Scf.Loop 32 :=
  let c0_i32_142 : BitVec 32 := 0#32
  let c792_i32 : BitVec 32 := 792#32
  let v376 : BitVec 32 := Scalar.addi c0_i32_142 c792_i32
  let c1_i32_143 : BitVec 32 := 1#32
  ⟨c0_i32_142, v376, c1_i32_143⟩

def k0_chk1 (v4227 : IVec S16 32) : Prop :=
  (∀ a x, ((![v4227] : Fin 1 → IVec S16 32) a x).toNat < S12800.size a)
theorem k0_idx1_inb : ∀ (v4227 : IVec S16 32) (k0_hw1 : k0_chk1 v4227), ∀ a x, ((![v4227] : Fin 1 → IVec S16 32) a x).toNat < S12800.size a := fun v4227 k0_hw1 => k0_hw1
def k0_off2 (k0_t1 : Fin k0_t1_loop.trips) : Fin 1 → Nat :=
  let c0_i32_2100 : BitVec 32 := 0#32
  let c0_i32_142 : BitVec 32 := 0#32
  let c1_i32_143 : BitVec 32 := 1#32
  let arg14 : BitVec 32 := Scf.iv c0_i32_142 c1_i32_143 k0_t1
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c0_i32_145 : BitVec 32 := 0#32
  let v377 : BitVec 32 := Scalar.addi v147 c0_i32_145
  let c147200_i32_146 : BitVec 32 := 147200#32
  let v378 : BitVec 32 := Scalar.minsi v377 c147200_i32_146
  v378
def k0_off3 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_148 : BitVec 32 := 0#32
  let v383 : BitVec 1 := Scalar.cmpi .sgt v3 c0_i32_148
  let v384 : BitVec 32 := Scalar.extui v383
  let c0_i32_149 : BitVec 32 := 0#32
  let v385 : BitVec 1 := Scalar.cmpi .slt v3 c0_i32_149
  let v386 : BitVec 32 := Scalar.extui v385
  let v387 : BitVec 32 := Scalar.subi v384 v386
  let c32_i32_147 : BitVec 32 := 32#32
  let c0_i32_150 : BitVec 32 := 0#32
  let v388 : BitVec 1 := Scalar.cmpi .sgt c32_i32_147 c0_i32_150
  let v389 : BitVec 32 := Scalar.extui v388
  let c0_i32_151 : BitVec 32 := 0#32
  let v390 : BitVec 1 := Scalar.cmpi .slt c32_i32_147 c0_i32_151
  let v391 : BitVec 32 := Scalar.extui v390
  let v392 : BitVec 32 := Scalar.subi v389 v391
  let v393 : BitVec 1 := Scalar.cmpi .ne v387 v392
  let v394 : BitVec 32 := Scalar.remsi v3 c32_i32_147
  let c0_i32_152 : BitVec 32 := 0#32
  let v395 : BitVec 1 := Scalar.cmpi .ne v394 c0_i32_152
  let v396 : BitVec 1 := Scalar.andi v393 v395
  let v382 : BitVec 32 := Scalar.divsi v3 c32_i32_147
  let c1_i32_153 : BitVec 32 := 1#32
  let v397 : BitVec 32 := Scalar.subi v382 c1_i32_153
  let v398 : BitVec 32 := Scalar.select v396 v397 v382
  let c32_i32_154 : BitVec 32 := 32#32
  let c0_i32_155 : BitVec 32 := 0#32
  let v399 : BitVec 1 := Scalar.cmpi .eq c32_i32_154 c0_i32_155
  let c1_i32_156 : BitVec 32 := 1#32
  let v400 : BitVec 32 := Scalar.select v399 c1_i32_156 c32_i32_154
  let v401 : BitVec 32 := Scalar.remsi v3 v400
  let c0_i32_158 : BitVec 32 := 0#32
  let v403 : BitVec 1 := Scalar.cmpi .slt v401 c0_i32_158
  let c0_i32_159 : BitVec 32 := 0#32
  let v404 : BitVec 1 := Scalar.cmpi .slt v400 c0_i32_159
  let v405 : BitVec 1 := Scalar.xori v403 v404
  let c0_i32_157 : BitVec 32 := 0#32
  let v402 : BitVec 1 := Scalar.cmpi .ne v401 c0_i32_157
  let v406 : BitVec 1 := Scalar.andi v405 v402
  let v407 : BitVec 32 := Scalar.addi v401 v400
  let v408 : BitVec 32 := Scalar.select v406 v407 v401
  let c0_i32_160 : BitVec 32 := 0#32
  let c0_i32_163 : BitVec 32 := 0#32
  ![v398.toNat, v408.toNat, 0, 0]
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c50688_i32 : BitVec 32 := 50688#32
  let v417 : BitVec 32 := Scalar.addi v147 c50688_i32
  let c147200_i32_166 : BitVec 32 := 147200#32
  let v418 : BitVec 32 := Scalar.minsi v417 c147200_i32_166
  v418
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c12672_i32_184 : BitVec 32 := 12672#32
  let v457 : BitVec 32 := Scalar.addi v147 c12672_i32_184
  let c147200_i32_185 : BitVec 32 := 147200#32
  let v458 : BitVec 32 := Scalar.minsi v457 c147200_i32_185
  v458
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c12672_i32_203 : BitVec 32 := 12672#32
  let v497 : BitVec 32 := Scalar.addi v147 c12672_i32_203
  let c147200_i32_204 : BitVec 32 := 147200#32
  let v498 : BitVec 32 := Scalar.minsi v497 c147200_i32_204
  v498
@[reducible] def k0_t2_loop : Scf.Loop 32 :=
  let c0_i32_205 : BitVec 32 := 0#32
  let c792_i32_206 : BitVec 32 := 792#32
  let v505 : BitVec 32 := Scalar.addi c0_i32_205 c792_i32_206
  let c1_i32_207 : BitVec 32 := 1#32
  ⟨c0_i32_205, v505, c1_i32_207⟩

def k0_chk2 (v4227 : IVec S16 32) : Prop :=
  (∀ a x, ((![v4227] : Fin 1 → IVec S16 32) a x).toNat < S12800.size a)
theorem k0_idx2_inb : ∀ (v4227 : IVec S16 32) (k0_hw2 : k0_chk2 v4227), ∀ a x, ((![v4227] : Fin 1 → IVec S16 32) a x).toNat < S12800.size a := fun v4227 k0_hw2 => k0_hw2
def k0_off4 (k0_t2 : Fin k0_t2_loop.trips) : Fin 1 → Nat :=
  let c0_i32_2100 : BitVec 32 := 0#32
  let c0_i32_205 : BitVec 32 := 0#32
  let c1_i32_207 : BitVec 32 := 1#32
  let arg14 : BitVec 32 := Scf.iv c0_i32_205 c1_i32_207 k0_t2
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c12672_i32_209 : BitVec 32 := 12672#32
  let v506 : BitVec 32 := Scalar.addi v147 c12672_i32_209
  let c147200_i32_210 : BitVec 32 := 147200#32
  let v507 : BitVec 32 := Scalar.minsi v506 c147200_i32_210
  v507
def k0_off5 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_212 : BitVec 32 := 0#32
  let v512 : BitVec 1 := Scalar.cmpi .sgt v3 c0_i32_212
  let v513 : BitVec 32 := Scalar.extui v512
  let c0_i32_213 : BitVec 32 := 0#32
  let v514 : BitVec 1 := Scalar.cmpi .slt v3 c0_i32_213
  let v515 : BitVec 32 := Scalar.extui v514
  let v516 : BitVec 32 := Scalar.subi v513 v515
  let c32_i32_211 : BitVec 32 := 32#32
  let c0_i32_214 : BitVec 32 := 0#32
  let v517 : BitVec 1 := Scalar.cmpi .sgt c32_i32_211 c0_i32_214
  let v518 : BitVec 32 := Scalar.extui v517
  let c0_i32_215 : BitVec 32 := 0#32
  let v519 : BitVec 1 := Scalar.cmpi .slt c32_i32_211 c0_i32_215
  let v520 : BitVec 32 := Scalar.extui v519
  let v521 : BitVec 32 := Scalar.subi v518 v520
  let v522 : BitVec 1 := Scalar.cmpi .ne v516 v521
  let v523 : BitVec 32 := Scalar.remsi v3 c32_i32_211
  let c0_i32_216 : BitVec 32 := 0#32
  let v524 : BitVec 1 := Scalar.cmpi .ne v523 c0_i32_216
  let v525 : BitVec 1 := Scalar.andi v522 v524
  let v511 : BitVec 32 := Scalar.divsi v3 c32_i32_211
  let c1_i32_217 : BitVec 32 := 1#32
  let v526 : BitVec 32 := Scalar.subi v511 c1_i32_217
  let v527 : BitVec 32 := Scalar.select v525 v526 v511
  let c32_i32_218 : BitVec 32 := 32#32
  let c0_i32_219 : BitVec 32 := 0#32
  let v528 : BitVec 1 := Scalar.cmpi .eq c32_i32_218 c0_i32_219
  let c1_i32_220 : BitVec 32 := 1#32
  let v529 : BitVec 32 := Scalar.select v528 c1_i32_220 c32_i32_218
  let v530 : BitVec 32 := Scalar.remsi v3 v529
  let c0_i32_222 : BitVec 32 := 0#32
  let v532 : BitVec 1 := Scalar.cmpi .slt v530 c0_i32_222
  let c0_i32_223 : BitVec 32 := 0#32
  let v533 : BitVec 1 := Scalar.cmpi .slt v529 c0_i32_223
  let v534 : BitVec 1 := Scalar.xori v532 v533
  let c0_i32_221 : BitVec 32 := 0#32
  let v531 : BitVec 1 := Scalar.cmpi .ne v530 c0_i32_221
  let v535 : BitVec 1 := Scalar.andi v534 v531
  let v536 : BitVec 32 := Scalar.addi v530 v529
  let v537 : BitVec 32 := Scalar.select v535 v536 v530
  let c0_i32_224 : BitVec 32 := 0#32
  let c12672_i32_227 : BitVec 32 := 12672#32
  ![v527.toNat, v537.toNat, 0, 12672]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c63360_i32 : BitVec 32 := 63360#32
  let v546 : BitVec 32 := Scalar.addi v147 c63360_i32
  let c147200_i32_230 : BitVec 32 := 147200#32
  let v547 : BitVec 32 := Scalar.minsi v546 c147200_i32_230
  v547
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c25344_i32_248 : BitVec 32 := 25344#32
  let v586 : BitVec 32 := Scalar.addi v147 c25344_i32_248
  let c147200_i32_249 : BitVec 32 := 147200#32
  let v587 : BitVec 32 := Scalar.minsi v586 c147200_i32_249
  v587
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c25344_i32_267 : BitVec 32 := 25344#32
  let v626 : BitVec 32 := Scalar.addi v147 c25344_i32_267
  let c147200_i32_268 : BitVec 32 := 147200#32
  let v627 : BitVec 32 := Scalar.minsi v626 c147200_i32_268
  v627
@[reducible] def k0_t3_loop : Scf.Loop 32 :=
  let c0_i32_269 : BitVec 32 := 0#32
  let c792_i32_270 : BitVec 32 := 792#32
  let v634 : BitVec 32 := Scalar.addi c0_i32_269 c792_i32_270
  let c1_i32_271 : BitVec 32 := 1#32
  ⟨c0_i32_269, v634, c1_i32_271⟩

def k0_chk3 (v4227 : IVec S16 32) : Prop :=
  (∀ a x, ((![v4227] : Fin 1 → IVec S16 32) a x).toNat < S12800.size a)
theorem k0_idx3_inb : ∀ (v4227 : IVec S16 32) (k0_hw3 : k0_chk3 v4227), ∀ a x, ((![v4227] : Fin 1 → IVec S16 32) a x).toNat < S12800.size a := fun v4227 k0_hw3 => k0_hw3
def k0_off6 (k0_t3 : Fin k0_t3_loop.trips) : Fin 1 → Nat :=
  let c0_i32_2100 : BitVec 32 := 0#32
  let c0_i32_269 : BitVec 32 := 0#32
  let c1_i32_271 : BitVec 32 := 1#32
  let arg14 : BitVec 32 := Scf.iv c0_i32_269 c1_i32_271 k0_t3
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c25344_i32_273 : BitVec 32 := 25344#32
  let v635 : BitVec 32 := Scalar.addi v147 c25344_i32_273
  let c147200_i32_274 : BitVec 32 := 147200#32
  let v636 : BitVec 32 := Scalar.minsi v635 c147200_i32_274
  v636
def k0_off7 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_276 : BitVec 32 := 0#32
  let v641 : BitVec 1 := Scalar.cmpi .sgt v3 c0_i32_276
  let v642 : BitVec 32 := Scalar.extui v641
  let c0_i32_277 : BitVec 32 := 0#32
  let v643 : BitVec 1 := Scalar.cmpi .slt v3 c0_i32_277
  let v644 : BitVec 32 := Scalar.extui v643
  let v645 : BitVec 32 := Scalar.subi v642 v644
  let c32_i32_275 : BitVec 32 := 32#32
  let c0_i32_278 : BitVec 32 := 0#32
  let v646 : BitVec 1 := Scalar.cmpi .sgt c32_i32_275 c0_i32_278
  let v647 : BitVec 32 := Scalar.extui v646
  let c0_i32_279 : BitVec 32 := 0#32
  let v648 : BitVec 1 := Scalar.cmpi .slt c32_i32_275 c0_i32_279
  let v649 : BitVec 32 := Scalar.extui v648
  let v650 : BitVec 32 := Scalar.subi v647 v649
  let v651 : BitVec 1 := Scalar.cmpi .ne v645 v650
  let v652 : BitVec 32 := Scalar.remsi v3 c32_i32_275
  let c0_i32_280 : BitVec 32 := 0#32
  let v653 : BitVec 1 := Scalar.cmpi .ne v652 c0_i32_280
  let v654 : BitVec 1 := Scalar.andi v651 v653
  let v640 : BitVec 32 := Scalar.divsi v3 c32_i32_275
  let c1_i32_281 : BitVec 32 := 1#32
  let v655 : BitVec 32 := Scalar.subi v640 c1_i32_281
  let v656 : BitVec 32 := Scalar.select v654 v655 v640
  let c32_i32_282 : BitVec 32 := 32#32
  let c0_i32_283 : BitVec 32 := 0#32
  let v657 : BitVec 1 := Scalar.cmpi .eq c32_i32_282 c0_i32_283
  let c1_i32_284 : BitVec 32 := 1#32
  let v658 : BitVec 32 := Scalar.select v657 c1_i32_284 c32_i32_282
  let v659 : BitVec 32 := Scalar.remsi v3 v658
  let c0_i32_286 : BitVec 32 := 0#32
  let v661 : BitVec 1 := Scalar.cmpi .slt v659 c0_i32_286
  let c0_i32_287 : BitVec 32 := 0#32
  let v662 : BitVec 1 := Scalar.cmpi .slt v658 c0_i32_287
  let v663 : BitVec 1 := Scalar.xori v661 v662
  let c0_i32_285 : BitVec 32 := 0#32
  let v660 : BitVec 1 := Scalar.cmpi .ne v659 c0_i32_285
  let v664 : BitVec 1 := Scalar.andi v663 v660
  let v665 : BitVec 32 := Scalar.addi v659 v658
  let v666 : BitVec 32 := Scalar.select v664 v665 v659
  let c0_i32_288 : BitVec 32 := 0#32
  let c25344_i32_291 : BitVec 32 := 25344#32
  ![v656.toNat, v666.toNat, 0, 25344]
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c76032_i32 : BitVec 32 := 76032#32
  let v675 : BitVec 32 := Scalar.addi v147 c76032_i32
  let c147200_i32_294 : BitVec 32 := 147200#32
  let v676 : BitVec 32 := Scalar.minsi v675 c147200_i32_294
  v676
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c38016_i32_312 : BitVec 32 := 38016#32
  let v715 : BitVec 32 := Scalar.addi v147 c38016_i32_312
  let c147200_i32_313 : BitVec 32 := 147200#32
  let v716 : BitVec 32 := Scalar.minsi v715 c147200_i32_313
  v716
def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c38016_i32_331 : BitVec 32 := 38016#32
  let v755 : BitVec 32 := Scalar.addi v147 c38016_i32_331
  let c147200_i32_332 : BitVec 32 := 147200#32
  let v756 : BitVec 32 := Scalar.minsi v755 c147200_i32_332
  v756
@[reducible] def k0_t4_loop : Scf.Loop 32 :=
  let c0_i32_333 : BitVec 32 := 0#32
  let c792_i32_334 : BitVec 32 := 792#32
  let v763 : BitVec 32 := Scalar.addi c0_i32_333 c792_i32_334
  let c1_i32_335 : BitVec 32 := 1#32
  ⟨c0_i32_333, v763, c1_i32_335⟩

def k0_chk4 (v4227 : IVec S16 32) : Prop :=
  (∀ a x, ((![v4227] : Fin 1 → IVec S16 32) a x).toNat < S12800.size a)
theorem k0_idx4_inb : ∀ (v4227 : IVec S16 32) (k0_hw4 : k0_chk4 v4227), ∀ a x, ((![v4227] : Fin 1 → IVec S16 32) a x).toNat < S12800.size a := fun v4227 k0_hw4 => k0_hw4
def k0_off8 (k0_t4 : Fin k0_t4_loop.trips) : Fin 1 → Nat :=
  let c0_i32_2100 : BitVec 32 := 0#32
  let c0_i32_333 : BitVec 32 := 0#32
  let c1_i32_335 : BitVec 32 := 1#32
  let arg14 : BitVec 32 := Scf.iv c0_i32_333 c1_i32_335 k0_t4
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c38016_i32_337 : BitVec 32 := 38016#32
  let v764 : BitVec 32 := Scalar.addi v147 c38016_i32_337
  let c147200_i32_338 : BitVec 32 := 147200#32
  let v765 : BitVec 32 := Scalar.minsi v764 c147200_i32_338
  v765
def k0_off9 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_340 : BitVec 32 := 0#32
  let v770 : BitVec 1 := Scalar.cmpi .sgt v3 c0_i32_340
  let v771 : BitVec 32 := Scalar.extui v770
  let c0_i32_341 : BitVec 32 := 0#32
  let v772 : BitVec 1 := Scalar.cmpi .slt v3 c0_i32_341
  let v773 : BitVec 32 := Scalar.extui v772
  let v774 : BitVec 32 := Scalar.subi v771 v773
  let c32_i32_339 : BitVec 32 := 32#32
  let c0_i32_342 : BitVec 32 := 0#32
  let v775 : BitVec 1 := Scalar.cmpi .sgt c32_i32_339 c0_i32_342
  let v776 : BitVec 32 := Scalar.extui v775
  let c0_i32_343 : BitVec 32 := 0#32
  let v777 : BitVec 1 := Scalar.cmpi .slt c32_i32_339 c0_i32_343
  let v778 : BitVec 32 := Scalar.extui v777
  let v779 : BitVec 32 := Scalar.subi v776 v778
  let v780 : BitVec 1 := Scalar.cmpi .ne v774 v779
  let v781 : BitVec 32 := Scalar.remsi v3 c32_i32_339
  let c0_i32_344 : BitVec 32 := 0#32
  let v782 : BitVec 1 := Scalar.cmpi .ne v781 c0_i32_344
  let v783 : BitVec 1 := Scalar.andi v780 v782
  let v769 : BitVec 32 := Scalar.divsi v3 c32_i32_339
  let c1_i32_345 : BitVec 32 := 1#32
  let v784 : BitVec 32 := Scalar.subi v769 c1_i32_345
  let v785 : BitVec 32 := Scalar.select v783 v784 v769
  let c32_i32_346 : BitVec 32 := 32#32
  let c0_i32_347 : BitVec 32 := 0#32
  let v786 : BitVec 1 := Scalar.cmpi .eq c32_i32_346 c0_i32_347
  let c1_i32_348 : BitVec 32 := 1#32
  let v787 : BitVec 32 := Scalar.select v786 c1_i32_348 c32_i32_346
  let v788 : BitVec 32 := Scalar.remsi v3 v787
  let c0_i32_350 : BitVec 32 := 0#32
  let v790 : BitVec 1 := Scalar.cmpi .slt v788 c0_i32_350
  let c0_i32_351 : BitVec 32 := 0#32
  let v791 : BitVec 1 := Scalar.cmpi .slt v787 c0_i32_351
  let v792 : BitVec 1 := Scalar.xori v790 v791
  let c0_i32_349 : BitVec 32 := 0#32
  let v789 : BitVec 1 := Scalar.cmpi .ne v788 c0_i32_349
  let v793 : BitVec 1 := Scalar.andi v792 v789
  let v794 : BitVec 32 := Scalar.addi v788 v787
  let v795 : BitVec 32 := Scalar.select v793 v794 v788
  let c0_i32_352 : BitVec 32 := 0#32
  let c38016_i32_355 : BitVec 32 := 38016#32
  ![v785.toNat, v795.toNat, 0, 38016]
def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c88704_i32 : BitVec 32 := 88704#32
  let v804 : BitVec 32 := Scalar.addi v147 c88704_i32
  let c147200_i32_358 : BitVec 32 := 147200#32
  let v805 : BitVec 32 := Scalar.minsi v804 c147200_i32_358
  v805
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c50688_i32_376 : BitVec 32 := 50688#32
  let v844 : BitVec 32 := Scalar.addi v147 c50688_i32_376
  let c147200_i32_377 : BitVec 32 := 147200#32
  let v845 : BitVec 32 := Scalar.minsi v844 c147200_i32_377
  v845
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c0_i32_395 : BitVec 32 := 0#32
  let v884 : BitVec 32 := Scalar.addi v147 c0_i32_395
  let c147200_i32_396 : BitVec 32 := 147200#32
  let v885 : BitVec 32 := Scalar.minsi v884 c147200_i32_396
  v885
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c50688_i32_416 : BitVec 32 := 50688#32
  let v924 : BitVec 32 := Scalar.addi v147 c50688_i32_416
  let c147200_i32_417 : BitVec 32 := 147200#32
  let v925 : BitVec 32 := Scalar.minsi v924 c147200_i32_417
  v925
@[reducible] def k0_t5_loop : Scf.Loop 32 :=
  let c0_i32_418 : BitVec 32 := 0#32
  let c792_i32_419 : BitVec 32 := 792#32
  let v932 : BitVec 32 := Scalar.addi c0_i32_418 c792_i32_419
  let c1_i32_420 : BitVec 32 := 1#32
  ⟨c0_i32_418, v932, c1_i32_420⟩

def k0_chk5 (v4227 : IVec S16 32) : Prop :=
  (∀ a x, ((![v4227] : Fin 1 → IVec S16 32) a x).toNat < S12800.size a)
theorem k0_idx5_inb : ∀ (v4227 : IVec S16 32) (k0_hw5 : k0_chk5 v4227), ∀ a x, ((![v4227] : Fin 1 → IVec S16 32) a x).toNat < S12800.size a := fun v4227 k0_hw5 => k0_hw5
def k0_off10 (k0_t5 : Fin k0_t5_loop.trips) : Fin 1 → Nat :=
  let c0_i32_2100 : BitVec 32 := 0#32
  let c0_i32_418 : BitVec 32 := 0#32
  let c1_i32_420 : BitVec 32 := 1#32
  let arg14 : BitVec 32 := Scf.iv c0_i32_418 c1_i32_420 k0_t5
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c50688_i32_422 : BitVec 32 := 50688#32
  let v933 : BitVec 32 := Scalar.addi v147 c50688_i32_422
  let c147200_i32_423 : BitVec 32 := 147200#32
  let v934 : BitVec 32 := Scalar.minsi v933 c147200_i32_423
  v934
def k0_off11 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_425 : BitVec 32 := 0#32
  let v939 : BitVec 1 := Scalar.cmpi .sgt v3 c0_i32_425
  let v940 : BitVec 32 := Scalar.extui v939
  let c0_i32_426 : BitVec 32 := 0#32
  let v941 : BitVec 1 := Scalar.cmpi .slt v3 c0_i32_426
  let v942 : BitVec 32 := Scalar.extui v941
  let v943 : BitVec 32 := Scalar.subi v940 v942
  let c32_i32_424 : BitVec 32 := 32#32
  let c0_i32_427 : BitVec 32 := 0#32
  let v944 : BitVec 1 := Scalar.cmpi .sgt c32_i32_424 c0_i32_427
  let v945 : BitVec 32 := Scalar.extui v944
  let c0_i32_428 : BitVec 32 := 0#32
  let v946 : BitVec 1 := Scalar.cmpi .slt c32_i32_424 c0_i32_428
  let v947 : BitVec 32 := Scalar.extui v946
  let v948 : BitVec 32 := Scalar.subi v945 v947
  let v949 : BitVec 1 := Scalar.cmpi .ne v943 v948
  let v950 : BitVec 32 := Scalar.remsi v3 c32_i32_424
  let c0_i32_429 : BitVec 32 := 0#32
  let v951 : BitVec 1 := Scalar.cmpi .ne v950 c0_i32_429
  let v952 : BitVec 1 := Scalar.andi v949 v951
  let v938 : BitVec 32 := Scalar.divsi v3 c32_i32_424
  let c1_i32_430 : BitVec 32 := 1#32
  let v953 : BitVec 32 := Scalar.subi v938 c1_i32_430
  let v954 : BitVec 32 := Scalar.select v952 v953 v938
  let c32_i32_431 : BitVec 32 := 32#32
  let c0_i32_432 : BitVec 32 := 0#32
  let v955 : BitVec 1 := Scalar.cmpi .eq c32_i32_431 c0_i32_432
  let c1_i32_433 : BitVec 32 := 1#32
  let v956 : BitVec 32 := Scalar.select v955 c1_i32_433 c32_i32_431
  let v957 : BitVec 32 := Scalar.remsi v3 v956
  let c0_i32_435 : BitVec 32 := 0#32
  let v959 : BitVec 1 := Scalar.cmpi .slt v957 c0_i32_435
  let c0_i32_436 : BitVec 32 := 0#32
  let v960 : BitVec 1 := Scalar.cmpi .slt v956 c0_i32_436
  let v961 : BitVec 1 := Scalar.xori v959 v960
  let c0_i32_434 : BitVec 32 := 0#32
  let v958 : BitVec 1 := Scalar.cmpi .ne v957 c0_i32_434
  let v962 : BitVec 1 := Scalar.andi v961 v958
  let v963 : BitVec 32 := Scalar.addi v957 v956
  let v964 : BitVec 32 := Scalar.select v962 v963 v957
  let c0_i32_437 : BitVec 32 := 0#32
  let c50688_i32_440 : BitVec 32 := 50688#32
  ![v954.toNat, v964.toNat, 0, 50688]
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c101376_i32 : BitVec 32 := 101376#32
  let v973 : BitVec 32 := Scalar.addi v147 c101376_i32
  let c147200_i32_443 : BitVec 32 := 147200#32
  let v974 : BitVec 32 := Scalar.minsi v973 c147200_i32_443
  v974
def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c63360_i32_461 : BitVec 32 := 63360#32
  let v1013 : BitVec 32 := Scalar.addi v147 c63360_i32_461
  let c147200_i32_462 : BitVec 32 := 147200#32
  let v1014 : BitVec 32 := Scalar.minsi v1013 c147200_i32_462
  v1014
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c12672_i32_480 : BitVec 32 := 12672#32
  let v1053 : BitVec 32 := Scalar.addi v147 c12672_i32_480
  let c147200_i32_481 : BitVec 32 := 147200#32
  let v1054 : BitVec 32 := Scalar.minsi v1053 c147200_i32_481
  v1054
def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c63360_i32_501 : BitVec 32 := 63360#32
  let v1093 : BitVec 32 := Scalar.addi v147 c63360_i32_501
  let c147200_i32_502 : BitVec 32 := 147200#32
  let v1094 : BitVec 32 := Scalar.minsi v1093 c147200_i32_502
  v1094
@[reducible] def k0_t6_loop : Scf.Loop 32 :=
  let c0_i32_503 : BitVec 32 := 0#32
  let c792_i32_504 : BitVec 32 := 792#32
  let v1101 : BitVec 32 := Scalar.addi c0_i32_503 c792_i32_504
  let c1_i32_505 : BitVec 32 := 1#32
  ⟨c0_i32_503, v1101, c1_i32_505⟩

def k0_chk6 (v4227 : IVec S16 32) : Prop :=
  (∀ a x, ((![v4227] : Fin 1 → IVec S16 32) a x).toNat < S12800.size a)
theorem k0_idx6_inb : ∀ (v4227 : IVec S16 32) (k0_hw6 : k0_chk6 v4227), ∀ a x, ((![v4227] : Fin 1 → IVec S16 32) a x).toNat < S12800.size a := fun v4227 k0_hw6 => k0_hw6
def k0_off12 (k0_t6 : Fin k0_t6_loop.trips) : Fin 1 → Nat :=
  let c0_i32_2100 : BitVec 32 := 0#32
  let c0_i32_503 : BitVec 32 := 0#32
  let c1_i32_505 : BitVec 32 := 1#32
  let arg14 : BitVec 32 := Scf.iv c0_i32_503 c1_i32_505 k0_t6
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c63360_i32_507 : BitVec 32 := 63360#32
  let v1102 : BitVec 32 := Scalar.addi v147 c63360_i32_507
  let c147200_i32_508 : BitVec 32 := 147200#32
  let v1103 : BitVec 32 := Scalar.minsi v1102 c147200_i32_508
  v1103
def k0_off13 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_510 : BitVec 32 := 0#32
  let v1108 : BitVec 1 := Scalar.cmpi .sgt v3 c0_i32_510
  let v1109 : BitVec 32 := Scalar.extui v1108
  let c0_i32_511 : BitVec 32 := 0#32
  let v1110 : BitVec 1 := Scalar.cmpi .slt v3 c0_i32_511
  let v1111 : BitVec 32 := Scalar.extui v1110
  let v1112 : BitVec 32 := Scalar.subi v1109 v1111
  let c32_i32_509 : BitVec 32 := 32#32
  let c0_i32_512 : BitVec 32 := 0#32
  let v1113 : BitVec 1 := Scalar.cmpi .sgt c32_i32_509 c0_i32_512
  let v1114 : BitVec 32 := Scalar.extui v1113
  let c0_i32_513 : BitVec 32 := 0#32
  let v1115 : BitVec 1 := Scalar.cmpi .slt c32_i32_509 c0_i32_513
  let v1116 : BitVec 32 := Scalar.extui v1115
  let v1117 : BitVec 32 := Scalar.subi v1114 v1116
  let v1118 : BitVec 1 := Scalar.cmpi .ne v1112 v1117
  let v1119 : BitVec 32 := Scalar.remsi v3 c32_i32_509
  let c0_i32_514 : BitVec 32 := 0#32
  let v1120 : BitVec 1 := Scalar.cmpi .ne v1119 c0_i32_514
  let v1121 : BitVec 1 := Scalar.andi v1118 v1120
  let v1107 : BitVec 32 := Scalar.divsi v3 c32_i32_509
  let c1_i32_515 : BitVec 32 := 1#32
  let v1122 : BitVec 32 := Scalar.subi v1107 c1_i32_515
  let v1123 : BitVec 32 := Scalar.select v1121 v1122 v1107
  let c32_i32_516 : BitVec 32 := 32#32
  let c0_i32_517 : BitVec 32 := 0#32
  let v1124 : BitVec 1 := Scalar.cmpi .eq c32_i32_516 c0_i32_517
  let c1_i32_518 : BitVec 32 := 1#32
  let v1125 : BitVec 32 := Scalar.select v1124 c1_i32_518 c32_i32_516
  let v1126 : BitVec 32 := Scalar.remsi v3 v1125
  let c0_i32_520 : BitVec 32 := 0#32
  let v1128 : BitVec 1 := Scalar.cmpi .slt v1126 c0_i32_520
  let c0_i32_521 : BitVec 32 := 0#32
  let v1129 : BitVec 1 := Scalar.cmpi .slt v1125 c0_i32_521
  let v1130 : BitVec 1 := Scalar.xori v1128 v1129
  let c0_i32_519 : BitVec 32 := 0#32
  let v1127 : BitVec 1 := Scalar.cmpi .ne v1126 c0_i32_519
  let v1131 : BitVec 1 := Scalar.andi v1130 v1127
  let v1132 : BitVec 32 := Scalar.addi v1126 v1125
  let v1133 : BitVec 32 := Scalar.select v1131 v1132 v1126
  let c0_i32_522 : BitVec 32 := 0#32
  let c63360_i32_525 : BitVec 32 := 63360#32
  ![v1123.toNat, v1133.toNat, 0, 63360]
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c114048_i32 : BitVec 32 := 114048#32
  let v1142 : BitVec 32 := Scalar.addi v147 c114048_i32
  let c147200_i32_528 : BitVec 32 := 147200#32
  let v1143 : BitVec 32 := Scalar.minsi v1142 c147200_i32_528
  v1143
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c76032_i32_546 : BitVec 32 := 76032#32
  let v1182 : BitVec 32 := Scalar.addi v147 c76032_i32_546
  let c147200_i32_547 : BitVec 32 := 147200#32
  let v1183 : BitVec 32 := Scalar.minsi v1182 c147200_i32_547
  v1183
def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c25344_i32_565 : BitVec 32 := 25344#32
  let v1222 : BitVec 32 := Scalar.addi v147 c25344_i32_565
  let c147200_i32_566 : BitVec 32 := 147200#32
  let v1223 : BitVec 32 := Scalar.minsi v1222 c147200_i32_566
  v1223
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c76032_i32_586 : BitVec 32 := 76032#32
  let v1262 : BitVec 32 := Scalar.addi v147 c76032_i32_586
  let c147200_i32_587 : BitVec 32 := 147200#32
  let v1263 : BitVec 32 := Scalar.minsi v1262 c147200_i32_587
  v1263
@[reducible] def k0_t7_loop : Scf.Loop 32 :=
  let c0_i32_588 : BitVec 32 := 0#32
  let c792_i32_589 : BitVec 32 := 792#32
  let v1270 : BitVec 32 := Scalar.addi c0_i32_588 c792_i32_589
  let c1_i32_590 : BitVec 32 := 1#32
  ⟨c0_i32_588, v1270, c1_i32_590⟩

def k0_chk7 (v4227 : IVec S16 32) : Prop :=
  (∀ a x, ((![v4227] : Fin 1 → IVec S16 32) a x).toNat < S12800.size a)
theorem k0_idx7_inb : ∀ (v4227 : IVec S16 32) (k0_hw7 : k0_chk7 v4227), ∀ a x, ((![v4227] : Fin 1 → IVec S16 32) a x).toNat < S12800.size a := fun v4227 k0_hw7 => k0_hw7
def k0_off14 (k0_t7 : Fin k0_t7_loop.trips) : Fin 1 → Nat :=
  let c0_i32_2100 : BitVec 32 := 0#32
  let c0_i32_588 : BitVec 32 := 0#32
  let c1_i32_590 : BitVec 32 := 1#32
  let arg14 : BitVec 32 := Scf.iv c0_i32_588 c1_i32_590 k0_t7
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c76032_i32_592 : BitVec 32 := 76032#32
  let v1271 : BitVec 32 := Scalar.addi v147 c76032_i32_592
  let c147200_i32_593 : BitVec 32 := 147200#32
  let v1272 : BitVec 32 := Scalar.minsi v1271 c147200_i32_593
  v1272
def k0_off15 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_595 : BitVec 32 := 0#32
  let v1277 : BitVec 1 := Scalar.cmpi .sgt v3 c0_i32_595
  let v1278 : BitVec 32 := Scalar.extui v1277
  let c0_i32_596 : BitVec 32 := 0#32
  let v1279 : BitVec 1 := Scalar.cmpi .slt v3 c0_i32_596
  let v1280 : BitVec 32 := Scalar.extui v1279
  let v1281 : BitVec 32 := Scalar.subi v1278 v1280
  let c32_i32_594 : BitVec 32 := 32#32
  let c0_i32_597 : BitVec 32 := 0#32
  let v1282 : BitVec 1 := Scalar.cmpi .sgt c32_i32_594 c0_i32_597
  let v1283 : BitVec 32 := Scalar.extui v1282
  let c0_i32_598 : BitVec 32 := 0#32
  let v1284 : BitVec 1 := Scalar.cmpi .slt c32_i32_594 c0_i32_598
  let v1285 : BitVec 32 := Scalar.extui v1284
  let v1286 : BitVec 32 := Scalar.subi v1283 v1285
  let v1287 : BitVec 1 := Scalar.cmpi .ne v1281 v1286
  let v1288 : BitVec 32 := Scalar.remsi v3 c32_i32_594
  let c0_i32_599 : BitVec 32 := 0#32
  let v1289 : BitVec 1 := Scalar.cmpi .ne v1288 c0_i32_599
  let v1290 : BitVec 1 := Scalar.andi v1287 v1289
  let v1276 : BitVec 32 := Scalar.divsi v3 c32_i32_594
  let c1_i32_600 : BitVec 32 := 1#32
  let v1291 : BitVec 32 := Scalar.subi v1276 c1_i32_600
  let v1292 : BitVec 32 := Scalar.select v1290 v1291 v1276
  let c32_i32_601 : BitVec 32 := 32#32
  let c0_i32_602 : BitVec 32 := 0#32
  let v1293 : BitVec 1 := Scalar.cmpi .eq c32_i32_601 c0_i32_602
  let c1_i32_603 : BitVec 32 := 1#32
  let v1294 : BitVec 32 := Scalar.select v1293 c1_i32_603 c32_i32_601
  let v1295 : BitVec 32 := Scalar.remsi v3 v1294
  let c0_i32_605 : BitVec 32 := 0#32
  let v1297 : BitVec 1 := Scalar.cmpi .slt v1295 c0_i32_605
  let c0_i32_606 : BitVec 32 := 0#32
  let v1298 : BitVec 1 := Scalar.cmpi .slt v1294 c0_i32_606
  let v1299 : BitVec 1 := Scalar.xori v1297 v1298
  let c0_i32_604 : BitVec 32 := 0#32
  let v1296 : BitVec 1 := Scalar.cmpi .ne v1295 c0_i32_604
  let v1300 : BitVec 1 := Scalar.andi v1299 v1296
  let v1301 : BitVec 32 := Scalar.addi v1295 v1294
  let v1302 : BitVec 32 := Scalar.select v1300 v1301 v1295
  let c0_i32_607 : BitVec 32 := 0#32
  let c76032_i32_610 : BitVec 32 := 76032#32
  ![v1292.toNat, v1302.toNat, 0, 76032]
def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c126720_i32 : BitVec 32 := 126720#32
  let v1311 : BitVec 32 := Scalar.addi v147 c126720_i32
  let c147200_i32_613 : BitVec 32 := 147200#32
  let v1312 : BitVec 32 := Scalar.minsi v1311 c147200_i32_613
  v1312
def k0_mult36 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c88704_i32_631 : BitVec 32 := 88704#32
  let v1351 : BitVec 32 := Scalar.addi v147 c88704_i32_631
  let c147200_i32_632 : BitVec 32 := 147200#32
  let v1352 : BitVec 32 := Scalar.minsi v1351 c147200_i32_632
  v1352
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c38016_i32_650 : BitVec 32 := 38016#32
  let v1391 : BitVec 32 := Scalar.addi v147 c38016_i32_650
  let c147200_i32_651 : BitVec 32 := 147200#32
  let v1392 : BitVec 32 := Scalar.minsi v1391 c147200_i32_651
  v1392
def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c88704_i32_671 : BitVec 32 := 88704#32
  let v1431 : BitVec 32 := Scalar.addi v147 c88704_i32_671
  let c147200_i32_672 : BitVec 32 := 147200#32
  let v1432 : BitVec 32 := Scalar.minsi v1431 c147200_i32_672
  v1432
@[reducible] def k0_t8_loop : Scf.Loop 32 :=
  let c0_i32_673 : BitVec 32 := 0#32
  let c792_i32_674 : BitVec 32 := 792#32
  let v1439 : BitVec 32 := Scalar.addi c0_i32_673 c792_i32_674
  let c1_i32_675 : BitVec 32 := 1#32
  ⟨c0_i32_673, v1439, c1_i32_675⟩

def k0_chk8 (v4227 : IVec S16 32) : Prop :=
  (∀ a x, ((![v4227] : Fin 1 → IVec S16 32) a x).toNat < S12800.size a)
theorem k0_idx8_inb : ∀ (v4227 : IVec S16 32) (k0_hw8 : k0_chk8 v4227), ∀ a x, ((![v4227] : Fin 1 → IVec S16 32) a x).toNat < S12800.size a := fun v4227 k0_hw8 => k0_hw8
def k0_off16 (k0_t8 : Fin k0_t8_loop.trips) : Fin 1 → Nat :=
  let c0_i32_2100 : BitVec 32 := 0#32
  let c0_i32_673 : BitVec 32 := 0#32
  let c1_i32_675 : BitVec 32 := 1#32
  let arg14 : BitVec 32 := Scf.iv c0_i32_673 c1_i32_675 k0_t8
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c88704_i32_677 : BitVec 32 := 88704#32
  let v1440 : BitVec 32 := Scalar.addi v147 c88704_i32_677
  let c147200_i32_678 : BitVec 32 := 147200#32
  let v1441 : BitVec 32 := Scalar.minsi v1440 c147200_i32_678
  v1441
def k0_off17 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_680 : BitVec 32 := 0#32
  let v1446 : BitVec 1 := Scalar.cmpi .sgt v3 c0_i32_680
  let v1447 : BitVec 32 := Scalar.extui v1446
  let c0_i32_681 : BitVec 32 := 0#32
  let v1448 : BitVec 1 := Scalar.cmpi .slt v3 c0_i32_681
  let v1449 : BitVec 32 := Scalar.extui v1448
  let v1450 : BitVec 32 := Scalar.subi v1447 v1449
  let c32_i32_679 : BitVec 32 := 32#32
  let c0_i32_682 : BitVec 32 := 0#32
  let v1451 : BitVec 1 := Scalar.cmpi .sgt c32_i32_679 c0_i32_682
  let v1452 : BitVec 32 := Scalar.extui v1451
  let c0_i32_683 : BitVec 32 := 0#32
  let v1453 : BitVec 1 := Scalar.cmpi .slt c32_i32_679 c0_i32_683
  let v1454 : BitVec 32 := Scalar.extui v1453
  let v1455 : BitVec 32 := Scalar.subi v1452 v1454
  let v1456 : BitVec 1 := Scalar.cmpi .ne v1450 v1455
  let v1457 : BitVec 32 := Scalar.remsi v3 c32_i32_679
  let c0_i32_684 : BitVec 32 := 0#32
  let v1458 : BitVec 1 := Scalar.cmpi .ne v1457 c0_i32_684
  let v1459 : BitVec 1 := Scalar.andi v1456 v1458
  let v1445 : BitVec 32 := Scalar.divsi v3 c32_i32_679
  let c1_i32_685 : BitVec 32 := 1#32
  let v1460 : BitVec 32 := Scalar.subi v1445 c1_i32_685
  let v1461 : BitVec 32 := Scalar.select v1459 v1460 v1445
  let c32_i32_686 : BitVec 32 := 32#32
  let c0_i32_687 : BitVec 32 := 0#32
  let v1462 : BitVec 1 := Scalar.cmpi .eq c32_i32_686 c0_i32_687
  let c1_i32_688 : BitVec 32 := 1#32
  let v1463 : BitVec 32 := Scalar.select v1462 c1_i32_688 c32_i32_686
  let v1464 : BitVec 32 := Scalar.remsi v3 v1463
  let c0_i32_690 : BitVec 32 := 0#32
  let v1466 : BitVec 1 := Scalar.cmpi .slt v1464 c0_i32_690
  let c0_i32_691 : BitVec 32 := 0#32
  let v1467 : BitVec 1 := Scalar.cmpi .slt v1463 c0_i32_691
  let v1468 : BitVec 1 := Scalar.xori v1466 v1467
  let c0_i32_689 : BitVec 32 := 0#32
  let v1465 : BitVec 1 := Scalar.cmpi .ne v1464 c0_i32_689
  let v1469 : BitVec 1 := Scalar.andi v1468 v1465
  let v1470 : BitVec 32 := Scalar.addi v1464 v1463
  let v1471 : BitVec 32 := Scalar.select v1469 v1470 v1464
  let c0_i32_692 : BitVec 32 := 0#32
  let c88704_i32_695 : BitVec 32 := 88704#32
  ![v1461.toNat, v1471.toNat, 0, 88704]
def k0_mult40 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c139392_i32 : BitVec 32 := 139392#32
  let v1480 : BitVec 32 := Scalar.addi v147 c139392_i32
  let c147200_i32_698 : BitVec 32 := 147200#32
  let v1481 : BitVec 32 := Scalar.minsi v1480 c147200_i32_698
  v1481
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c101376_i32_716 : BitVec 32 := 101376#32
  let v1520 : BitVec 32 := Scalar.addi v147 c101376_i32_716
  let c147200_i32_717 : BitVec 32 := 147200#32
  let v1521 : BitVec 32 := Scalar.minsi v1520 c147200_i32_717
  v1521
def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c50688_i32_735 : BitVec 32 := 50688#32
  let v1560 : BitVec 32 := Scalar.addi v147 c50688_i32_735
  let c147200_i32_736 : BitVec 32 := 147200#32
  let v1561 : BitVec 32 := Scalar.minsi v1560 c147200_i32_736
  v1561
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c101376_i32_756 : BitVec 32 := 101376#32
  let v1600 : BitVec 32 := Scalar.addi v147 c101376_i32_756
  let c147200_i32_757 : BitVec 32 := 147200#32
  let v1601 : BitVec 32 := Scalar.minsi v1600 c147200_i32_757
  v1601
@[reducible] def k0_t9_loop : Scf.Loop 32 :=
  let c0_i32_758 : BitVec 32 := 0#32
  let c792_i32_759 : BitVec 32 := 792#32
  let v1608 : BitVec 32 := Scalar.addi c0_i32_758 c792_i32_759
  let c1_i32_760 : BitVec 32 := 1#32
  ⟨c0_i32_758, v1608, c1_i32_760⟩

def k0_chk9 (v4227 : IVec S16 32) : Prop :=
  (∀ a x, ((![v4227] : Fin 1 → IVec S16 32) a x).toNat < S12800.size a)
theorem k0_idx9_inb : ∀ (v4227 : IVec S16 32) (k0_hw9 : k0_chk9 v4227), ∀ a x, ((![v4227] : Fin 1 → IVec S16 32) a x).toNat < S12800.size a := fun v4227 k0_hw9 => k0_hw9
def k0_off18 (k0_t9 : Fin k0_t9_loop.trips) : Fin 1 → Nat :=
  let c0_i32_2100 : BitVec 32 := 0#32
  let c0_i32_758 : BitVec 32 := 0#32
  let c1_i32_760 : BitVec 32 := 1#32
  let arg14 : BitVec 32 := Scf.iv c0_i32_758 c1_i32_760 k0_t9
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult44 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c101376_i32_762 : BitVec 32 := 101376#32
  let v1609 : BitVec 32 := Scalar.addi v147 c101376_i32_762
  let c147200_i32_763 : BitVec 32 := 147200#32
  let v1610 : BitVec 32 := Scalar.minsi v1609 c147200_i32_763
  v1610
def k0_off19 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_765 : BitVec 32 := 0#32
  let v1615 : BitVec 1 := Scalar.cmpi .sgt v3 c0_i32_765
  let v1616 : BitVec 32 := Scalar.extui v1615
  let c0_i32_766 : BitVec 32 := 0#32
  let v1617 : BitVec 1 := Scalar.cmpi .slt v3 c0_i32_766
  let v1618 : BitVec 32 := Scalar.extui v1617
  let v1619 : BitVec 32 := Scalar.subi v1616 v1618
  let c32_i32_764 : BitVec 32 := 32#32
  let c0_i32_767 : BitVec 32 := 0#32
  let v1620 : BitVec 1 := Scalar.cmpi .sgt c32_i32_764 c0_i32_767
  let v1621 : BitVec 32 := Scalar.extui v1620
  let c0_i32_768 : BitVec 32 := 0#32
  let v1622 : BitVec 1 := Scalar.cmpi .slt c32_i32_764 c0_i32_768
  let v1623 : BitVec 32 := Scalar.extui v1622
  let v1624 : BitVec 32 := Scalar.subi v1621 v1623
  let v1625 : BitVec 1 := Scalar.cmpi .ne v1619 v1624
  let v1626 : BitVec 32 := Scalar.remsi v3 c32_i32_764
  let c0_i32_769 : BitVec 32 := 0#32
  let v1627 : BitVec 1 := Scalar.cmpi .ne v1626 c0_i32_769
  let v1628 : BitVec 1 := Scalar.andi v1625 v1627
  let v1614 : BitVec 32 := Scalar.divsi v3 c32_i32_764
  let c1_i32_770 : BitVec 32 := 1#32
  let v1629 : BitVec 32 := Scalar.subi v1614 c1_i32_770
  let v1630 : BitVec 32 := Scalar.select v1628 v1629 v1614
  let c32_i32_771 : BitVec 32 := 32#32
  let c0_i32_772 : BitVec 32 := 0#32
  let v1631 : BitVec 1 := Scalar.cmpi .eq c32_i32_771 c0_i32_772
  let c1_i32_773 : BitVec 32 := 1#32
  let v1632 : BitVec 32 := Scalar.select v1631 c1_i32_773 c32_i32_771
  let v1633 : BitVec 32 := Scalar.remsi v3 v1632
  let c0_i32_775 : BitVec 32 := 0#32
  let v1635 : BitVec 1 := Scalar.cmpi .slt v1633 c0_i32_775
  let c0_i32_776 : BitVec 32 := 0#32
  let v1636 : BitVec 1 := Scalar.cmpi .slt v1632 c0_i32_776
  let v1637 : BitVec 1 := Scalar.xori v1635 v1636
  let c0_i32_774 : BitVec 32 := 0#32
  let v1634 : BitVec 1 := Scalar.cmpi .ne v1633 c0_i32_774
  let v1638 : BitVec 1 := Scalar.andi v1637 v1634
  let v1639 : BitVec 32 := Scalar.addi v1633 v1632
  let v1640 : BitVec 32 := Scalar.select v1638 v1639 v1633
  let c0_i32_777 : BitVec 32 := 0#32
  let c101376_i32_780 : BitVec 32 := 101376#32
  ![v1630.toNat, v1640.toNat, 0, 101376]
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c0_i32_783 : BitVec 32 := 0#32
  let v1649 : BitVec 32 := Scalar.addi v165 c0_i32_783
  let c147200_i32_784 : BitVec 32 := 147200#32
  let v1650 : BitVec 32 := Scalar.minsi v1649 c147200_i32_784
  v1650
def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c114048_i32_802 : BitVec 32 := 114048#32
  let v1689 : BitVec 32 := Scalar.addi v147 c114048_i32_802
  let c147200_i32_803 : BitVec 32 := 147200#32
  let v1690 : BitVec 32 := Scalar.minsi v1689 c147200_i32_803
  v1690
def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c63360_i32_821 : BitVec 32 := 63360#32
  let v1729 : BitVec 32 := Scalar.addi v147 c63360_i32_821
  let c147200_i32_822 : BitVec 32 := 147200#32
  let v1730 : BitVec 32 := Scalar.minsi v1729 c147200_i32_822
  v1730
def k0_mult48 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c114048_i32_842 : BitVec 32 := 114048#32
  let v1769 : BitVec 32 := Scalar.addi v147 c114048_i32_842
  let c147200_i32_843 : BitVec 32 := 147200#32
  let v1770 : BitVec 32 := Scalar.minsi v1769 c147200_i32_843
  v1770
@[reducible] def k0_t10_loop : Scf.Loop 32 :=
  let c0_i32_844 : BitVec 32 := 0#32
  let c792_i32_845 : BitVec 32 := 792#32
  let v1777 : BitVec 32 := Scalar.addi c0_i32_844 c792_i32_845
  let c1_i32_846 : BitVec 32 := 1#32
  ⟨c0_i32_844, v1777, c1_i32_846⟩

def k0_chk10 (v4227 : IVec S16 32) : Prop :=
  (∀ a x, ((![v4227] : Fin 1 → IVec S16 32) a x).toNat < S12800.size a)
theorem k0_idx10_inb : ∀ (v4227 : IVec S16 32) (k0_hw10 : k0_chk10 v4227), ∀ a x, ((![v4227] : Fin 1 → IVec S16 32) a x).toNat < S12800.size a := fun v4227 k0_hw10 => k0_hw10
def k0_off20 (k0_t10 : Fin k0_t10_loop.trips) : Fin 1 → Nat :=
  let c0_i32_2100 : BitVec 32 := 0#32
  let c0_i32_844 : BitVec 32 := 0#32
  let c1_i32_846 : BitVec 32 := 1#32
  let arg14 : BitVec 32 := Scf.iv c0_i32_844 c1_i32_846 k0_t10
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c114048_i32_848 : BitVec 32 := 114048#32
  let v1778 : BitVec 32 := Scalar.addi v147 c114048_i32_848
  let c147200_i32_849 : BitVec 32 := 147200#32
  let v1779 : BitVec 32 := Scalar.minsi v1778 c147200_i32_849
  v1779
def k0_off21 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_851 : BitVec 32 := 0#32
  let v1784 : BitVec 1 := Scalar.cmpi .sgt v3 c0_i32_851
  let v1785 : BitVec 32 := Scalar.extui v1784
  let c0_i32_852 : BitVec 32 := 0#32
  let v1786 : BitVec 1 := Scalar.cmpi .slt v3 c0_i32_852
  let v1787 : BitVec 32 := Scalar.extui v1786
  let v1788 : BitVec 32 := Scalar.subi v1785 v1787
  let c32_i32_850 : BitVec 32 := 32#32
  let c0_i32_853 : BitVec 32 := 0#32
  let v1789 : BitVec 1 := Scalar.cmpi .sgt c32_i32_850 c0_i32_853
  let v1790 : BitVec 32 := Scalar.extui v1789
  let c0_i32_854 : BitVec 32 := 0#32
  let v1791 : BitVec 1 := Scalar.cmpi .slt c32_i32_850 c0_i32_854
  let v1792 : BitVec 32 := Scalar.extui v1791
  let v1793 : BitVec 32 := Scalar.subi v1790 v1792
  let v1794 : BitVec 1 := Scalar.cmpi .ne v1788 v1793
  let v1795 : BitVec 32 := Scalar.remsi v3 c32_i32_850
  let c0_i32_855 : BitVec 32 := 0#32
  let v1796 : BitVec 1 := Scalar.cmpi .ne v1795 c0_i32_855
  let v1797 : BitVec 1 := Scalar.andi v1794 v1796
  let v1783 : BitVec 32 := Scalar.divsi v3 c32_i32_850
  let c1_i32_856 : BitVec 32 := 1#32
  let v1798 : BitVec 32 := Scalar.subi v1783 c1_i32_856
  let v1799 : BitVec 32 := Scalar.select v1797 v1798 v1783
  let c32_i32_857 : BitVec 32 := 32#32
  let c0_i32_858 : BitVec 32 := 0#32
  let v1800 : BitVec 1 := Scalar.cmpi .eq c32_i32_857 c0_i32_858
  let c1_i32_859 : BitVec 32 := 1#32
  let v1801 : BitVec 32 := Scalar.select v1800 c1_i32_859 c32_i32_857
  let v1802 : BitVec 32 := Scalar.remsi v3 v1801
  let c0_i32_861 : BitVec 32 := 0#32
  let v1804 : BitVec 1 := Scalar.cmpi .slt v1802 c0_i32_861
  let c0_i32_862 : BitVec 32 := 0#32
  let v1805 : BitVec 1 := Scalar.cmpi .slt v1801 c0_i32_862
  let v1806 : BitVec 1 := Scalar.xori v1804 v1805
  let c0_i32_860 : BitVec 32 := 0#32
  let v1803 : BitVec 1 := Scalar.cmpi .ne v1802 c0_i32_860
  let v1807 : BitVec 1 := Scalar.andi v1806 v1803
  let v1808 : BitVec 32 := Scalar.addi v1802 v1801
  let v1809 : BitVec 32 := Scalar.select v1807 v1808 v1802
  let c0_i32_863 : BitVec 32 := 0#32
  let c114048_i32_866 : BitVec 32 := 114048#32
  ![v1799.toNat, v1809.toNat, 0, 114048]
def k0_mult50 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c12672_i32_869 : BitVec 32 := 12672#32
  let v1818 : BitVec 32 := Scalar.addi v165 c12672_i32_869
  let c147200_i32_870 : BitVec 32 := 147200#32
  let v1819 : BitVec 32 := Scalar.minsi v1818 c147200_i32_870
  v1819
def k0_mult51 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c126720_i32_888 : BitVec 32 := 126720#32
  let v1858 : BitVec 32 := Scalar.addi v147 c126720_i32_888
  let c147200_i32_889 : BitVec 32 := 147200#32
  let v1859 : BitVec 32 := Scalar.minsi v1858 c147200_i32_889
  v1859
def k0_mult52 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c76032_i32_907 : BitVec 32 := 76032#32
  let v1898 : BitVec 32 := Scalar.addi v147 c76032_i32_907
  let c147200_i32_908 : BitVec 32 := 147200#32
  let v1899 : BitVec 32 := Scalar.minsi v1898 c147200_i32_908
  v1899
def k0_mult53 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c126720_i32_928 : BitVec 32 := 126720#32
  let v1938 : BitVec 32 := Scalar.addi v147 c126720_i32_928
  let c147200_i32_929 : BitVec 32 := 147200#32
  let v1939 : BitVec 32 := Scalar.minsi v1938 c147200_i32_929
  v1939
@[reducible] def k0_t11_loop : Scf.Loop 32 :=
  let c0_i32_930 : BitVec 32 := 0#32
  let c792_i32_931 : BitVec 32 := 792#32
  let v1946 : BitVec 32 := Scalar.addi c0_i32_930 c792_i32_931
  let c1_i32_932 : BitVec 32 := 1#32
  ⟨c0_i32_930, v1946, c1_i32_932⟩

def k0_chk11 (v4227 : IVec S16 32) : Prop :=
  (∀ a x, ((![v4227] : Fin 1 → IVec S16 32) a x).toNat < S12800.size a)
theorem k0_idx11_inb : ∀ (v4227 : IVec S16 32) (k0_hw11 : k0_chk11 v4227), ∀ a x, ((![v4227] : Fin 1 → IVec S16 32) a x).toNat < S12800.size a := fun v4227 k0_hw11 => k0_hw11
def k0_off22 (k0_t11 : Fin k0_t11_loop.trips) : Fin 1 → Nat :=
  let c0_i32_2100 : BitVec 32 := 0#32
  let c0_i32_930 : BitVec 32 := 0#32
  let c1_i32_932 : BitVec 32 := 1#32
  let arg14 : BitVec 32 := Scf.iv c0_i32_930 c1_i32_932 k0_t11
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult54 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c126720_i32_934 : BitVec 32 := 126720#32
  let v1947 : BitVec 32 := Scalar.addi v147 c126720_i32_934
  let c147200_i32_935 : BitVec 32 := 147200#32
  let v1948 : BitVec 32 := Scalar.minsi v1947 c147200_i32_935
  v1948
def k0_off23 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_937 : BitVec 32 := 0#32
  let v1953 : BitVec 1 := Scalar.cmpi .sgt v3 c0_i32_937
  let v1954 : BitVec 32 := Scalar.extui v1953
  let c0_i32_938 : BitVec 32 := 0#32
  let v1955 : BitVec 1 := Scalar.cmpi .slt v3 c0_i32_938
  let v1956 : BitVec 32 := Scalar.extui v1955
  let v1957 : BitVec 32 := Scalar.subi v1954 v1956
  let c32_i32_936 : BitVec 32 := 32#32
  let c0_i32_939 : BitVec 32 := 0#32
  let v1958 : BitVec 1 := Scalar.cmpi .sgt c32_i32_936 c0_i32_939
  let v1959 : BitVec 32 := Scalar.extui v1958
  let c0_i32_940 : BitVec 32 := 0#32
  let v1960 : BitVec 1 := Scalar.cmpi .slt c32_i32_936 c0_i32_940
  let v1961 : BitVec 32 := Scalar.extui v1960
  let v1962 : BitVec 32 := Scalar.subi v1959 v1961
  let v1963 : BitVec 1 := Scalar.cmpi .ne v1957 v1962
  let v1964 : BitVec 32 := Scalar.remsi v3 c32_i32_936
  let c0_i32_941 : BitVec 32 := 0#32
  let v1965 : BitVec 1 := Scalar.cmpi .ne v1964 c0_i32_941
  let v1966 : BitVec 1 := Scalar.andi v1963 v1965
  let v1952 : BitVec 32 := Scalar.divsi v3 c32_i32_936
  let c1_i32_942 : BitVec 32 := 1#32
  let v1967 : BitVec 32 := Scalar.subi v1952 c1_i32_942
  let v1968 : BitVec 32 := Scalar.select v1966 v1967 v1952
  let c32_i32_943 : BitVec 32 := 32#32
  let c0_i32_944 : BitVec 32 := 0#32
  let v1969 : BitVec 1 := Scalar.cmpi .eq c32_i32_943 c0_i32_944
  let c1_i32_945 : BitVec 32 := 1#32
  let v1970 : BitVec 32 := Scalar.select v1969 c1_i32_945 c32_i32_943
  let v1971 : BitVec 32 := Scalar.remsi v3 v1970
  let c0_i32_947 : BitVec 32 := 0#32
  let v1973 : BitVec 1 := Scalar.cmpi .slt v1971 c0_i32_947
  let c0_i32_948 : BitVec 32 := 0#32
  let v1974 : BitVec 1 := Scalar.cmpi .slt v1970 c0_i32_948
  let v1975 : BitVec 1 := Scalar.xori v1973 v1974
  let c0_i32_946 : BitVec 32 := 0#32
  let v1972 : BitVec 1 := Scalar.cmpi .ne v1971 c0_i32_946
  let v1976 : BitVec 1 := Scalar.andi v1975 v1972
  let v1977 : BitVec 32 := Scalar.addi v1971 v1970
  let v1978 : BitVec 32 := Scalar.select v1976 v1977 v1971
  let c0_i32_949 : BitVec 32 := 0#32
  let c126720_i32_952 : BitVec 32 := 126720#32
  ![v1968.toNat, v1978.toNat, 0, 126720]
def k0_mult55 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c25344_i32_955 : BitVec 32 := 25344#32
  let v1987 : BitVec 32 := Scalar.addi v165 c25344_i32_955
  let c147200_i32_956 : BitVec 32 := 147200#32
  let v1988 : BitVec 32 := Scalar.minsi v1987 c147200_i32_956
  v1988
def k0_mult56 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c139392_i32_974 : BitVec 32 := 139392#32
  let v2027 : BitVec 32 := Scalar.addi v147 c139392_i32_974
  let c147200_i32_975 : BitVec 32 := 147200#32
  let v2028 : BitVec 32 := Scalar.minsi v2027 c147200_i32_975
  v2028
def k0_mult57 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c88704_i32_993 : BitVec 32 := 88704#32
  let v2067 : BitVec 32 := Scalar.addi v147 c88704_i32_993
  let c147200_i32_994 : BitVec 32 := 147200#32
  let v2068 : BitVec 32 := Scalar.minsi v2067 c147200_i32_994
  v2068
def k0_mult58 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c139392_i32_1014 : BitVec 32 := 139392#32
  let v2107 : BitVec 32 := Scalar.addi v147 c139392_i32_1014
  let c147200_i32_1015 : BitVec 32 := 147200#32
  let v2108 : BitVec 32 := Scalar.minsi v2107 c147200_i32_1015
  v2108
@[reducible] def k0_t12_loop : Scf.Loop 32 :=
  let c0_i32_1016 : BitVec 32 := 0#32
  let c788_i32 : BitVec 32 := 788#32
  let v2115 : BitVec 32 := Scalar.addi c0_i32_1016 c788_i32
  let c1_i32_1017 : BitVec 32 := 1#32
  ⟨c0_i32_1016, v2115, c1_i32_1017⟩

def k0_chk12 (v4227 : IVec S16 32) : Prop :=
  (∀ a x, ((![v4227] : Fin 1 → IVec S16 32) a x).toNat < S12800.size a)
theorem k0_idx12_inb : ∀ (v4227 : IVec S16 32) (k0_hw12 : k0_chk12 v4227), ∀ a x, ((![v4227] : Fin 1 → IVec S16 32) a x).toNat < S12800.size a := fun v4227 k0_hw12 => k0_hw12
def k0_off24 (k0_t12 : Fin k0_t12_loop.trips) : Fin 1 → Nat :=
  let c0_i32_2100 : BitVec 32 := 0#32
  let c0_i32_1016 : BitVec 32 := 0#32
  let c1_i32_1017 : BitVec 32 := 1#32
  let arg14 : BitVec 32 := Scf.iv c0_i32_1016 c1_i32_1017 k0_t12
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult59 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c139392_i32_1019 : BitVec 32 := 139392#32
  let v2116 : BitVec 32 := Scalar.addi v147 c139392_i32_1019
  let c147200_i32_1020 : BitVec 32 := 147200#32
  let v2117 : BitVec 32 := Scalar.minsi v2116 c147200_i32_1020
  v2117
def k0_off25 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_1022 : BitVec 32 := 0#32
  let v2122 : BitVec 1 := Scalar.cmpi .sgt v3 c0_i32_1022
  let v2123 : BitVec 32 := Scalar.extui v2122
  let c0_i32_1023 : BitVec 32 := 0#32
  let v2124 : BitVec 1 := Scalar.cmpi .slt v3 c0_i32_1023
  let v2125 : BitVec 32 := Scalar.extui v2124
  let v2126 : BitVec 32 := Scalar.subi v2123 v2125
  let c32_i32_1021 : BitVec 32 := 32#32
  let c0_i32_1024 : BitVec 32 := 0#32
  let v2127 : BitVec 1 := Scalar.cmpi .sgt c32_i32_1021 c0_i32_1024
  let v2128 : BitVec 32 := Scalar.extui v2127
  let c0_i32_1025 : BitVec 32 := 0#32
  let v2129 : BitVec 1 := Scalar.cmpi .slt c32_i32_1021 c0_i32_1025
  let v2130 : BitVec 32 := Scalar.extui v2129
  let v2131 : BitVec 32 := Scalar.subi v2128 v2130
  let v2132 : BitVec 1 := Scalar.cmpi .ne v2126 v2131
  let v2133 : BitVec 32 := Scalar.remsi v3 c32_i32_1021
  let c0_i32_1026 : BitVec 32 := 0#32
  let v2134 : BitVec 1 := Scalar.cmpi .ne v2133 c0_i32_1026
  let v2135 : BitVec 1 := Scalar.andi v2132 v2134
  let v2121 : BitVec 32 := Scalar.divsi v3 c32_i32_1021
  let c1_i32_1027 : BitVec 32 := 1#32
  let v2136 : BitVec 32 := Scalar.subi v2121 c1_i32_1027
  let v2137 : BitVec 32 := Scalar.select v2135 v2136 v2121
  let c32_i32_1028 : BitVec 32 := 32#32
  let c0_i32_1029 : BitVec 32 := 0#32
  let v2138 : BitVec 1 := Scalar.cmpi .eq c32_i32_1028 c0_i32_1029
  let c1_i32_1030 : BitVec 32 := 1#32
  let v2139 : BitVec 32 := Scalar.select v2138 c1_i32_1030 c32_i32_1028
  let v2140 : BitVec 32 := Scalar.remsi v3 v2139
  let c0_i32_1032 : BitVec 32 := 0#32
  let v2142 : BitVec 1 := Scalar.cmpi .slt v2140 c0_i32_1032
  let c0_i32_1033 : BitVec 32 := 0#32
  let v2143 : BitVec 1 := Scalar.cmpi .slt v2139 c0_i32_1033
  let v2144 : BitVec 1 := Scalar.xori v2142 v2143
  let c0_i32_1031 : BitVec 32 := 0#32
  let v2141 : BitVec 1 := Scalar.cmpi .ne v2140 c0_i32_1031
  let v2145 : BitVec 1 := Scalar.andi v2144 v2141
  let v2146 : BitVec 32 := Scalar.addi v2140 v2139
  let v2147 : BitVec 32 := Scalar.select v2145 v2146 v2140
  let c0_i32_1034 : BitVec 32 := 0#32
  let c139392_i32_1037 : BitVec 32 := 139392#32
  ![v2137.toNat, v2147.toNat, 0, 139392]
def k0_mult60 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c38016_i32_1040 : BitVec 32 := 38016#32
  let v2156 : BitVec 32 := Scalar.addi v165 c38016_i32_1040
  let c147200_i32_1041 : BitVec 32 := 147200#32
  let v2157 : BitVec 32 := Scalar.minsi v2156 c147200_i32_1041
  v2157
def k0_mult61 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c0_i32_1059 : BitVec 32 := 0#32
  let v2196 : BitVec 32 := Scalar.addi v165 c0_i32_1059
  let c147200_i32_1060 : BitVec 32 := 147200#32
  let v2197 : BitVec 32 := Scalar.minsi v2196 c147200_i32_1060
  v2197
def k0_mult62 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c101376_i32_1078 : BitVec 32 := 101376#32
  let v2236 : BitVec 32 := Scalar.addi v147 c101376_i32_1078
  let c147200_i32_1079 : BitVec 32 := 147200#32
  let v2237 : BitVec 32 := Scalar.minsi v2236 c147200_i32_1079
  v2237
def k0_mult63 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c0_i32_1099 : BitVec 32 := 0#32
  let v2276 : BitVec 32 := Scalar.addi v165 c0_i32_1099
  let c147200_i32_1100 : BitVec 32 := 147200#32
  let v2277 : BitVec 32 := Scalar.minsi v2276 c147200_i32_1100
  v2277
@[reducible] def k0_t13_loop : Scf.Loop 32 :=
  let c0_i32_1101 : BitVec 32 := 0#32
  let c792_i32_1102 : BitVec 32 := 792#32
  let v2284 : BitVec 32 := Scalar.addi c0_i32_1101 c792_i32_1102
  let c1_i32_1103 : BitVec 32 := 1#32
  ⟨c0_i32_1101, v2284, c1_i32_1103⟩

def k0_chk13 (v4227 : IVec S16 32) : Prop :=
  (∀ a x, ((![v4227] : Fin 1 → IVec S16 32) a x).toNat < S12800.size a)
theorem k0_idx13_inb : ∀ (v4227 : IVec S16 32) (k0_hw13 : k0_chk13 v4227), ∀ a x, ((![v4227] : Fin 1 → IVec S16 32) a x).toNat < S12800.size a := fun v4227 k0_hw13 => k0_hw13
def k0_off26 (k0_t13 : Fin k0_t13_loop.trips) : Fin 1 → Nat :=
  let c0_i32_2100 : BitVec 32 := 0#32
  let c0_i32_1101 : BitVec 32 := 0#32
  let c1_i32_1103 : BitVec 32 := 1#32
  let arg14 : BitVec 32 := Scf.iv c0_i32_1101 c1_i32_1103 k0_t13
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult64 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c0_i32_1105 : BitVec 32 := 0#32
  let v2285 : BitVec 32 := Scalar.addi v165 c0_i32_1105
  let c147200_i32_1106 : BitVec 32 := 147200#32
  let v2286 : BitVec 32 := Scalar.minsi v2285 c147200_i32_1106
  v2286
def k0_mult65 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c50688_i32_1126 : BitVec 32 := 50688#32
  let v2325 : BitVec 32 := Scalar.addi v165 c50688_i32_1126
  let c147200_i32_1127 : BitVec 32 := 147200#32
  let v2326 : BitVec 32 := Scalar.minsi v2325 c147200_i32_1127
  v2326
def k0_mult66 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c12672_i32_1145 : BitVec 32 := 12672#32
  let v2365 : BitVec 32 := Scalar.addi v165 c12672_i32_1145
  let c147200_i32_1146 : BitVec 32 := 147200#32
  let v2366 : BitVec 32 := Scalar.minsi v2365 c147200_i32_1146
  v2366
def k0_mult67 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c114048_i32_1164 : BitVec 32 := 114048#32
  let v2405 : BitVec 32 := Scalar.addi v147 c114048_i32_1164
  let c147200_i32_1165 : BitVec 32 := 147200#32
  let v2406 : BitVec 32 := Scalar.minsi v2405 c147200_i32_1165
  v2406
def k0_mult68 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c12672_i32_1185 : BitVec 32 := 12672#32
  let v2445 : BitVec 32 := Scalar.addi v165 c12672_i32_1185
  let c147200_i32_1186 : BitVec 32 := 147200#32
  let v2446 : BitVec 32 := Scalar.minsi v2445 c147200_i32_1186
  v2446
@[reducible] def k0_t14_loop : Scf.Loop 32 :=
  let c0_i32_1187 : BitVec 32 := 0#32
  let c792_i32_1188 : BitVec 32 := 792#32
  let v2453 : BitVec 32 := Scalar.addi c0_i32_1187 c792_i32_1188
  let c1_i32_1189 : BitVec 32 := 1#32
  ⟨c0_i32_1187, v2453, c1_i32_1189⟩

def k0_chk14 (v4227 : IVec S16 32) : Prop :=
  (∀ a x, ((![v4227] : Fin 1 → IVec S16 32) a x).toNat < S12800.size a)
theorem k0_idx14_inb : ∀ (v4227 : IVec S16 32) (k0_hw14 : k0_chk14 v4227), ∀ a x, ((![v4227] : Fin 1 → IVec S16 32) a x).toNat < S12800.size a := fun v4227 k0_hw14 => k0_hw14
def k0_off27 (k0_t14 : Fin k0_t14_loop.trips) : Fin 1 → Nat :=
  let c0_i32_2100 : BitVec 32 := 0#32
  let c0_i32_1187 : BitVec 32 := 0#32
  let c1_i32_1189 : BitVec 32 := 1#32
  let arg14 : BitVec 32 := Scf.iv c0_i32_1187 c1_i32_1189 k0_t14
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult69 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c12672_i32_1191 : BitVec 32 := 12672#32
  let v2454 : BitVec 32 := Scalar.addi v165 c12672_i32_1191
  let c147200_i32_1192 : BitVec 32 := 147200#32
  let v2455 : BitVec 32 := Scalar.minsi v2454 c147200_i32_1192
  v2455
def k0_mult70 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c63360_i32_1212 : BitVec 32 := 63360#32
  let v2494 : BitVec 32 := Scalar.addi v165 c63360_i32_1212
  let c147200_i32_1213 : BitVec 32 := 147200#32
  let v2495 : BitVec 32 := Scalar.minsi v2494 c147200_i32_1213
  v2495
def k0_mult71 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c25344_i32_1231 : BitVec 32 := 25344#32
  let v2534 : BitVec 32 := Scalar.addi v165 c25344_i32_1231
  let c147200_i32_1232 : BitVec 32 := 147200#32
  let v2535 : BitVec 32 := Scalar.minsi v2534 c147200_i32_1232
  v2535
def k0_mult72 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c126720_i32_1250 : BitVec 32 := 126720#32
  let v2574 : BitVec 32 := Scalar.addi v147 c126720_i32_1250
  let c147200_i32_1251 : BitVec 32 := 147200#32
  let v2575 : BitVec 32 := Scalar.minsi v2574 c147200_i32_1251
  v2575
def k0_mult73 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c25344_i32_1271 : BitVec 32 := 25344#32
  let v2614 : BitVec 32 := Scalar.addi v165 c25344_i32_1271
  let c147200_i32_1272 : BitVec 32 := 147200#32
  let v2615 : BitVec 32 := Scalar.minsi v2614 c147200_i32_1272
  v2615
@[reducible] def k0_t15_loop : Scf.Loop 32 :=
  let c0_i32_1273 : BitVec 32 := 0#32
  let c792_i32_1274 : BitVec 32 := 792#32
  let v2622 : BitVec 32 := Scalar.addi c0_i32_1273 c792_i32_1274
  let c1_i32_1275 : BitVec 32 := 1#32
  ⟨c0_i32_1273, v2622, c1_i32_1275⟩

def k0_chk15 (v4227 : IVec S16 32) : Prop :=
  (∀ a x, ((![v4227] : Fin 1 → IVec S16 32) a x).toNat < S12800.size a)
theorem k0_idx15_inb : ∀ (v4227 : IVec S16 32) (k0_hw15 : k0_chk15 v4227), ∀ a x, ((![v4227] : Fin 1 → IVec S16 32) a x).toNat < S12800.size a := fun v4227 k0_hw15 => k0_hw15
def k0_off28 (k0_t15 : Fin k0_t15_loop.trips) : Fin 1 → Nat :=
  let c0_i32_2100 : BitVec 32 := 0#32
  let c0_i32_1273 : BitVec 32 := 0#32
  let c1_i32_1275 : BitVec 32 := 1#32
  let arg14 : BitVec 32 := Scf.iv c0_i32_1273 c1_i32_1275 k0_t15
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult74 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c25344_i32_1277 : BitVec 32 := 25344#32
  let v2623 : BitVec 32 := Scalar.addi v165 c25344_i32_1277
  let c147200_i32_1278 : BitVec 32 := 147200#32
  let v2624 : BitVec 32 := Scalar.minsi v2623 c147200_i32_1278
  v2624
def k0_mult75 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c76032_i32_1298 : BitVec 32 := 76032#32
  let v2663 : BitVec 32 := Scalar.addi v165 c76032_i32_1298
  let c147200_i32_1299 : BitVec 32 := 147200#32
  let v2664 : BitVec 32 := Scalar.minsi v2663 c147200_i32_1299
  v2664
def k0_mult76 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c38016_i32_1317 : BitVec 32 := 38016#32
  let v2703 : BitVec 32 := Scalar.addi v165 c38016_i32_1317
  let c147200_i32_1318 : BitVec 32 := 147200#32
  let v2704 : BitVec 32 := Scalar.minsi v2703 c147200_i32_1318
  v2704
def k0_mult77 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v66 : BitVec 1 := Scalar.cmpi .eq v1 c31_i32
  let c7904_i32 : BitVec 32 := 7904#32
  let c30_i32 : BitVec 32 := 30#32
  let v64 : BitVec 1 := Scalar.cmpi .eq v1 c30_i32
  let c985_i32 : BitVec 32 := 985#32
  let c29_i32 : BitVec 32 := 29#32
  let v62 : BitVec 1 := Scalar.cmpi .eq v1 c29_i32
  let c1627_i32 : BitVec 32 := 1627#32
  let c28_i32 : BitVec 32 := 28#32
  let v60 : BitVec 1 := Scalar.cmpi .eq v1 c28_i32
  let c7691_i32 : BitVec 32 := 7691#32
  let c27_i32 : BitVec 32 := 27#32
  let v58 : BitVec 1 := Scalar.cmpi .eq v1 c27_i32
  let c1784_i32 : BitVec 32 := 1784#32
  let c26_i32 : BitVec 32 := 26#32
  let v56 : BitVec 1 := Scalar.cmpi .eq v1 c26_i32
  let c2962_i32 : BitVec 32 := 2962#32
  let c25_i32 : BitVec 32 := 25#32
  let v54 : BitVec 1 := Scalar.cmpi .eq v1 c25_i32
  let c3348_i32 : BitVec 32 := 3348#32
  let c24_i32 : BitVec 32 := 24#32
  let v52 : BitVec 1 := Scalar.cmpi .eq v1 c24_i32
  let c5987_i32 : BitVec 32 := 5987#32
  let c23_i32 : BitVec 32 := 23#32
  let v50 : BitVec 1 := Scalar.cmpi .eq v1 c23_i32
  let c956_i32 : BitVec 32 := 956#32
  let c22_i32 : BitVec 32 := 22#32
  let v48 : BitVec 1 := Scalar.cmpi .eq v1 c22_i32
  let c6905_i32 : BitVec 32 := 6905#32
  let c21_i32 : BitVec 32 := 21#32
  let v46 : BitVec 1 := Scalar.cmpi .eq v1 c21_i32
  let c3735_i32 : BitVec 32 := 3735#32
  let c20_i32 : BitVec 32 := 20#32
  let v44 : BitVec 1 := Scalar.cmpi .eq v1 c20_i32
  let c7239_i32 : BitVec 32 := 7239#32
  let c19_i32 : BitVec 32 := 19#32
  let v42 : BitVec 1 := Scalar.cmpi .eq v1 c19_i32
  let c5393_i32 : BitVec 32 := 5393#32
  let c18_i32 : BitVec 32 := 18#32
  let v40 : BitVec 1 := Scalar.cmpi .eq v1 c18_i32
  let c6702_i32 : BitVec 32 := 6702#32
  let c17_i32 : BitVec 32 := 17#32
  let v38 : BitVec 1 := Scalar.cmpi .eq v1 c17_i32
  let c7731_i32 : BitVec 32 := 7731#32
  let c16_i32 : BitVec 32 := 16#32
  let v36 : BitVec 1 := Scalar.cmpi .eq v1 c16_i32
  let c1237_i32 : BitVec 32 := 1237#32
  let c15_i32 : BitVec 32 := 15#32
  let v34 : BitVec 1 := Scalar.cmpi .eq v1 c15_i32
  let c1989_i32 : BitVec 32 := 1989#32
  let c14_i32 : BitVec 32 := 14#32
  let v32 : BitVec 1 := Scalar.cmpi .eq v1 c14_i32
  let c3292_i32 : BitVec 32 := 3292#32
  let c13_i32 : BitVec 32 := 13#32
  let v30 : BitVec 1 := Scalar.cmpi .eq v1 c13_i32
  let c6192_i32 : BitVec 32 := 6192#32
  let c12_i32 : BitVec 32 := 12#32
  let v28 : BitVec 1 := Scalar.cmpi .eq v1 c12_i32
  let c7084_i32 : BitVec 32 := 7084#32
  let c11_i32 : BitVec 32 := 11#32
  let v26 : BitVec 1 := Scalar.cmpi .eq v1 c11_i32
  let c3148_i32 : BitVec 32 := 3148#32
  let c10_i32 : BitVec 32 := 10#32
  let v24 : BitVec 1 := Scalar.cmpi .eq v1 c10_i32
  let c6582_i32 : BitVec 32 := 6582#32
  let c9_i32 : BitVec 32 := 9#32
  let v22 : BitVec 1 := Scalar.cmpi .eq v1 c9_i32
  let c5635_i32 : BitVec 32 := 5635#32
  let c8_i32 : BitVec 32 := 8#32
  let v20 : BitVec 1 := Scalar.cmpi .eq v1 c8_i32
  let c5003_i32 : BitVec 32 := 5003#32
  let c7_i32 : BitVec 32 := 7#32
  let v18 : BitVec 1 := Scalar.cmpi .eq v1 c7_i32
  let c4812_i32 : BitVec 32 := 4812#32
  let c6_i32 : BitVec 32 := 6#32
  let v16 : BitVec 1 := Scalar.cmpi .eq v1 c6_i32
  let c1945_i32 : BitVec 32 := 1945#32
  let c5_i32 : BitVec 32 := 5#32
  let v14 : BitVec 1 := Scalar.cmpi .eq v1 c5_i32
  let c2152_i32 : BitVec 32 := 2152#32
  let c4_i32 : BitVec 32 := 4#32
  let v12 : BitVec 1 := Scalar.cmpi .eq v1 c4_i32
  let c1094_i32 : BitVec 32 := 1094#32
  let c3_i32 : BitVec 32 := 3#32
  let v10 : BitVec 1 := Scalar.cmpi .eq v1 c3_i32
  let c6977_i32 : BitVec 32 := 6977#32
  let c2_i32_3 : BitVec 32 := 2#32
  let v8 : BitVec 1 := Scalar.cmpi .eq v1 c2_i32_3
  let c5709_i32 : BitVec 32 := 5709#32
  let c1_i32_2 : BitVec 32 := 1#32
  let v6 : BitVec 1 := Scalar.cmpi .eq v1 c1_i32_2
  let c6071_i32 : BitVec 32 := 6071#32
  let c644_i32 : BitVec 32 := 644#32
  let v7 : BitVec 32 := Scalar.select v6 c6071_i32 c644_i32
  let v9 : BitVec 32 := Scalar.select v8 c5709_i32 v7
  let v11 : BitVec 32 := Scalar.select v10 c6977_i32 v9
  let v13 : BitVec 32 := Scalar.select v12 c1094_i32 v11
  let v15 : BitVec 32 := Scalar.select v14 c2152_i32 v13
  let v17 : BitVec 32 := Scalar.select v16 c1945_i32 v15
  let v19 : BitVec 32 := Scalar.select v18 c4812_i32 v17
  let v21 : BitVec 32 := Scalar.select v20 c5003_i32 v19
  let v23 : BitVec 32 := Scalar.select v22 c5635_i32 v21
  let v25 : BitVec 32 := Scalar.select v24 c6582_i32 v23
  let v27 : BitVec 32 := Scalar.select v26 c3148_i32 v25
  let v29 : BitVec 32 := Scalar.select v28 c7084_i32 v27
  let v31 : BitVec 32 := Scalar.select v30 c6192_i32 v29
  let v33 : BitVec 32 := Scalar.select v32 c3292_i32 v31
  let v35 : BitVec 32 := Scalar.select v34 c1989_i32 v33
  let v37 : BitVec 32 := Scalar.select v36 c1237_i32 v35
  let v39 : BitVec 32 := Scalar.select v38 c7731_i32 v37
  let v41 : BitVec 32 := Scalar.select v40 c6702_i32 v39
  let v43 : BitVec 32 := Scalar.select v42 c5393_i32 v41
  let v45 : BitVec 32 := Scalar.select v44 c7239_i32 v43
  let v47 : BitVec 32 := Scalar.select v46 c3735_i32 v45
  let v49 : BitVec 32 := Scalar.select v48 c6905_i32 v47
  let v51 : BitVec 32 := Scalar.select v50 c956_i32 v49
  let v53 : BitVec 32 := Scalar.select v52 c5987_i32 v51
  let v55 : BitVec 32 := Scalar.select v54 c3348_i32 v53
  let v57 : BitVec 32 := Scalar.select v56 c2962_i32 v55
  let v59 : BitVec 32 := Scalar.select v58 c1784_i32 v57
  let v61 : BitVec 32 := Scalar.select v60 c7691_i32 v59
  let v63 : BitVec 32 := Scalar.select v62 c1627_i32 v61
  let v65 : BitVec 32 := Scalar.select v64 c985_i32 v63
  let v67 : BitVec 32 := Scalar.select v66 c7904_i32 v65
  let c0_i32_35 : BitVec 32 := 0#32
  let v131 : BitVec 1 := Scalar.cmpi .sgt v67 c0_i32_35
  let v132 : BitVec 32 := Scalar.extui v131
  let c0_i32_36 : BitVec 32 := 0#32
  let v133 : BitVec 1 := Scalar.cmpi .slt v67 c0_i32_36
  let v134 : BitVec 32 := Scalar.extui v133
  let v135 : BitVec 32 := Scalar.subi v132 v134
  let c128_i32 : BitVec 32 := 128#32
  let c0_i32_37 : BitVec 32 := 0#32
  let v136 : BitVec 1 := Scalar.cmpi .sgt c128_i32 c0_i32_37
  let v137 : BitVec 32 := Scalar.extui v136
  let c0_i32_38 : BitVec 32 := 0#32
  let v138 : BitVec 1 := Scalar.cmpi .slt c128_i32 c0_i32_38
  let v139 : BitVec 32 := Scalar.extui v138
  let v140 : BitVec 32 := Scalar.subi v137 v139
  let v141 : BitVec 1 := Scalar.cmpi .ne v135 v140
  let v142 : BitVec 32 := Scalar.remsi v67 c128_i32
  let c0_i32_39 : BitVec 32 := 0#32
  let v143 : BitVec 1 := Scalar.cmpi .ne v142 c0_i32_39
  let v144 : BitVec 1 := Scalar.andi v141 v143
  let v130 : BitVec 32 := Scalar.divsi v67 c128_i32
  let c1_i32_40 : BitVec 32 := 1#32
  let v145 : BitVec 32 := Scalar.subi v130 c1_i32_40
  let v146 : BitVec 32 := Scalar.select v144 v145 v130
  let c128_i32_41 : BitVec 32 := 128#32
  let v147 : BitVec 32 := Scalar.muli v146 c128_i32_41
  let c139392_i32_1336 : BitVec 32 := 139392#32
  let v2743 : BitVec 32 := Scalar.addi v147 c139392_i32_1336
  let c147200_i32_1337 : BitVec 32 := 147200#32
  let v2744 : BitVec 32 := Scalar.minsi v2743 c147200_i32_1337
  v2744
def k0_mult78 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c38016_i32_1357 : BitVec 32 := 38016#32
  let v2783 : BitVec 32 := Scalar.addi v165 c38016_i32_1357
  let c147200_i32_1358 : BitVec 32 := 147200#32
  let v2784 : BitVec 32 := Scalar.minsi v2783 c147200_i32_1358
  v2784
@[reducible] def k0_t16_loop : Scf.Loop 32 :=
  let c0_i32_1359 : BitVec 32 := 0#32
  let c792_i32_1360 : BitVec 32 := 792#32
  let v2791 : BitVec 32 := Scalar.addi c0_i32_1359 c792_i32_1360
  let c1_i32_1361 : BitVec 32 := 1#32
  ⟨c0_i32_1359, v2791, c1_i32_1361⟩

def k0_chk16 (v4227 : IVec S16 32) : Prop :=
  (∀ a x, ((![v4227] : Fin 1 → IVec S16 32) a x).toNat < S12800.size a)
theorem k0_idx16_inb : ∀ (v4227 : IVec S16 32) (k0_hw16 : k0_chk16 v4227), ∀ a x, ((![v4227] : Fin 1 → IVec S16 32) a x).toNat < S12800.size a := fun v4227 k0_hw16 => k0_hw16
def k0_off29 (k0_t16 : Fin k0_t16_loop.trips) : Fin 1 → Nat :=
  let c0_i32_2100 : BitVec 32 := 0#32
  let c0_i32_1359 : BitVec 32 := 0#32
  let c1_i32_1361 : BitVec 32 := 1#32
  let arg14 : BitVec 32 := Scf.iv c0_i32_1359 c1_i32_1361 k0_t16
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult79 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c38016_i32_1363 : BitVec 32 := 38016#32
  let v2792 : BitVec 32 := Scalar.addi v165 c38016_i32_1363
  let c147200_i32_1364 : BitVec 32 := 147200#32
  let v2793 : BitVec 32 := Scalar.minsi v2792 c147200_i32_1364
  v2793
def k0_mult80 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c88704_i32_1384 : BitVec 32 := 88704#32
  let v2832 : BitVec 32 := Scalar.addi v165 c88704_i32_1384
  let c147200_i32_1385 : BitVec 32 := 147200#32
  let v2833 : BitVec 32 := Scalar.minsi v2832 c147200_i32_1385
  v2833
def k0_mult81 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c50688_i32_1403 : BitVec 32 := 50688#32
  let v2872 : BitVec 32 := Scalar.addi v165 c50688_i32_1403
  let c147200_i32_1404 : BitVec 32 := 147200#32
  let v2873 : BitVec 32 := Scalar.minsi v2872 c147200_i32_1404
  v2873
def k0_mult82 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c0_i32_1422 : BitVec 32 := 0#32
  let v2912 : BitVec 32 := Scalar.addi v165 c0_i32_1422
  let c147200_i32_1423 : BitVec 32 := 147200#32
  let v2913 : BitVec 32 := Scalar.minsi v2912 c147200_i32_1423
  v2913
def k0_mult83 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c50688_i32_1443 : BitVec 32 := 50688#32
  let v2952 : BitVec 32 := Scalar.addi v165 c50688_i32_1443
  let c147200_i32_1444 : BitVec 32 := 147200#32
  let v2953 : BitVec 32 := Scalar.minsi v2952 c147200_i32_1444
  v2953
@[reducible] def k0_t17_loop : Scf.Loop 32 :=
  let c0_i32_1445 : BitVec 32 := 0#32
  let c792_i32_1446 : BitVec 32 := 792#32
  let v2960 : BitVec 32 := Scalar.addi c0_i32_1445 c792_i32_1446
  let c1_i32_1447 : BitVec 32 := 1#32
  ⟨c0_i32_1445, v2960, c1_i32_1447⟩

def k0_chk17 (v4227 : IVec S16 32) : Prop :=
  (∀ a x, ((![v4227] : Fin 1 → IVec S16 32) a x).toNat < S12800.size a)
theorem k0_idx17_inb : ∀ (v4227 : IVec S16 32) (k0_hw17 : k0_chk17 v4227), ∀ a x, ((![v4227] : Fin 1 → IVec S16 32) a x).toNat < S12800.size a := fun v4227 k0_hw17 => k0_hw17
def k0_off30 (k0_t17 : Fin k0_t17_loop.trips) : Fin 1 → Nat :=
  let c0_i32_2100 : BitVec 32 := 0#32
  let c0_i32_1445 : BitVec 32 := 0#32
  let c1_i32_1447 : BitVec 32 := 1#32
  let arg14 : BitVec 32 := Scf.iv c0_i32_1445 c1_i32_1447 k0_t17
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult84 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c50688_i32_1449 : BitVec 32 := 50688#32
  let v2961 : BitVec 32 := Scalar.addi v165 c50688_i32_1449
  let c147200_i32_1450 : BitVec 32 := 147200#32
  let v2962 : BitVec 32 := Scalar.minsi v2961 c147200_i32_1450
  v2962
def k0_mult85 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c101376_i32_1470 : BitVec 32 := 101376#32
  let v3001 : BitVec 32 := Scalar.addi v165 c101376_i32_1470
  let c147200_i32_1471 : BitVec 32 := 147200#32
  let v3002 : BitVec 32 := Scalar.minsi v3001 c147200_i32_1471
  v3002
def k0_mult86 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c63360_i32_1489 : BitVec 32 := 63360#32
  let v3041 : BitVec 32 := Scalar.addi v165 c63360_i32_1489
  let c147200_i32_1490 : BitVec 32 := 147200#32
  let v3042 : BitVec 32 := Scalar.minsi v3041 c147200_i32_1490
  v3042
def k0_mult87 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c12672_i32_1508 : BitVec 32 := 12672#32
  let v3081 : BitVec 32 := Scalar.addi v165 c12672_i32_1508
  let c147200_i32_1509 : BitVec 32 := 147200#32
  let v3082 : BitVec 32 := Scalar.minsi v3081 c147200_i32_1509
  v3082
def k0_mult88 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c63360_i32_1529 : BitVec 32 := 63360#32
  let v3121 : BitVec 32 := Scalar.addi v165 c63360_i32_1529
  let c147200_i32_1530 : BitVec 32 := 147200#32
  let v3122 : BitVec 32 := Scalar.minsi v3121 c147200_i32_1530
  v3122
@[reducible] def k0_t18_loop : Scf.Loop 32 :=
  let c0_i32_1531 : BitVec 32 := 0#32
  let c792_i32_1532 : BitVec 32 := 792#32
  let v3129 : BitVec 32 := Scalar.addi c0_i32_1531 c792_i32_1532
  let c1_i32_1533 : BitVec 32 := 1#32
  ⟨c0_i32_1531, v3129, c1_i32_1533⟩

def k0_chk18 (v4227 : IVec S16 32) : Prop :=
  (∀ a x, ((![v4227] : Fin 1 → IVec S16 32) a x).toNat < S12800.size a)
theorem k0_idx18_inb : ∀ (v4227 : IVec S16 32) (k0_hw18 : k0_chk18 v4227), ∀ a x, ((![v4227] : Fin 1 → IVec S16 32) a x).toNat < S12800.size a := fun v4227 k0_hw18 => k0_hw18
def k0_off31 (k0_t18 : Fin k0_t18_loop.trips) : Fin 1 → Nat :=
  let c0_i32_2100 : BitVec 32 := 0#32
  let c0_i32_1531 : BitVec 32 := 0#32
  let c1_i32_1533 : BitVec 32 := 1#32
  let arg14 : BitVec 32 := Scf.iv c0_i32_1531 c1_i32_1533 k0_t18
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult89 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c63360_i32_1535 : BitVec 32 := 63360#32
  let v3130 : BitVec 32 := Scalar.addi v165 c63360_i32_1535
  let c147200_i32_1536 : BitVec 32 := 147200#32
  let v3131 : BitVec 32 := Scalar.minsi v3130 c147200_i32_1536
  v3131
def k0_mult90 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c114048_i32_1556 : BitVec 32 := 114048#32
  let v3170 : BitVec 32 := Scalar.addi v165 c114048_i32_1556
  let c147200_i32_1557 : BitVec 32 := 147200#32
  let v3171 : BitVec 32 := Scalar.minsi v3170 c147200_i32_1557
  v3171
def k0_mult91 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c76032_i32_1575 : BitVec 32 := 76032#32
  let v3210 : BitVec 32 := Scalar.addi v165 c76032_i32_1575
  let c147200_i32_1576 : BitVec 32 := 147200#32
  let v3211 : BitVec 32 := Scalar.minsi v3210 c147200_i32_1576
  v3211
def k0_mult92 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c25344_i32_1594 : BitVec 32 := 25344#32
  let v3250 : BitVec 32 := Scalar.addi v165 c25344_i32_1594
  let c147200_i32_1595 : BitVec 32 := 147200#32
  let v3251 : BitVec 32 := Scalar.minsi v3250 c147200_i32_1595
  v3251
def k0_mult93 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c76032_i32_1615 : BitVec 32 := 76032#32
  let v3290 : BitVec 32 := Scalar.addi v165 c76032_i32_1615
  let c147200_i32_1616 : BitVec 32 := 147200#32
  let v3291 : BitVec 32 := Scalar.minsi v3290 c147200_i32_1616
  v3291
@[reducible] def k0_t19_loop : Scf.Loop 32 :=
  let c0_i32_1617 : BitVec 32 := 0#32
  let c792_i32_1618 : BitVec 32 := 792#32
  let v3298 : BitVec 32 := Scalar.addi c0_i32_1617 c792_i32_1618
  let c1_i32_1619 : BitVec 32 := 1#32
  ⟨c0_i32_1617, v3298, c1_i32_1619⟩

def k0_chk19 (v4227 : IVec S16 32) : Prop :=
  (∀ a x, ((![v4227] : Fin 1 → IVec S16 32) a x).toNat < S12800.size a)
theorem k0_idx19_inb : ∀ (v4227 : IVec S16 32) (k0_hw19 : k0_chk19 v4227), ∀ a x, ((![v4227] : Fin 1 → IVec S16 32) a x).toNat < S12800.size a := fun v4227 k0_hw19 => k0_hw19
def k0_off32 (k0_t19 : Fin k0_t19_loop.trips) : Fin 1 → Nat :=
  let c0_i32_2100 : BitVec 32 := 0#32
  let c0_i32_1617 : BitVec 32 := 0#32
  let c1_i32_1619 : BitVec 32 := 1#32
  let arg14 : BitVec 32 := Scf.iv c0_i32_1617 c1_i32_1619 k0_t19
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult94 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c76032_i32_1621 : BitVec 32 := 76032#32
  let v3299 : BitVec 32 := Scalar.addi v165 c76032_i32_1621
  let c147200_i32_1622 : BitVec 32 := 147200#32
  let v3300 : BitVec 32 := Scalar.minsi v3299 c147200_i32_1622
  v3300
def k0_mult95 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c126720_i32_1642 : BitVec 32 := 126720#32
  let v3339 : BitVec 32 := Scalar.addi v165 c126720_i32_1642
  let c147200_i32_1643 : BitVec 32 := 147200#32
  let v3340 : BitVec 32 := Scalar.minsi v3339 c147200_i32_1643
  v3340
def k0_mult96 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c88704_i32_1661 : BitVec 32 := 88704#32
  let v3379 : BitVec 32 := Scalar.addi v165 c88704_i32_1661
  let c147200_i32_1662 : BitVec 32 := 147200#32
  let v3380 : BitVec 32 := Scalar.minsi v3379 c147200_i32_1662
  v3380
def k0_mult97 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c38016_i32_1680 : BitVec 32 := 38016#32
  let v3419 : BitVec 32 := Scalar.addi v165 c38016_i32_1680
  let c147200_i32_1681 : BitVec 32 := 147200#32
  let v3420 : BitVec 32 := Scalar.minsi v3419 c147200_i32_1681
  v3420
def k0_mult98 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c88704_i32_1701 : BitVec 32 := 88704#32
  let v3459 : BitVec 32 := Scalar.addi v165 c88704_i32_1701
  let c147200_i32_1702 : BitVec 32 := 147200#32
  let v3460 : BitVec 32 := Scalar.minsi v3459 c147200_i32_1702
  v3460
@[reducible] def k0_t20_loop : Scf.Loop 32 :=
  let c0_i32_1703 : BitVec 32 := 0#32
  let c792_i32_1704 : BitVec 32 := 792#32
  let v3467 : BitVec 32 := Scalar.addi c0_i32_1703 c792_i32_1704
  let c1_i32_1705 : BitVec 32 := 1#32
  ⟨c0_i32_1703, v3467, c1_i32_1705⟩

def k0_chk20 (v4227 : IVec S16 32) : Prop :=
  (∀ a x, ((![v4227] : Fin 1 → IVec S16 32) a x).toNat < S12800.size a)
theorem k0_idx20_inb : ∀ (v4227 : IVec S16 32) (k0_hw20 : k0_chk20 v4227), ∀ a x, ((![v4227] : Fin 1 → IVec S16 32) a x).toNat < S12800.size a := fun v4227 k0_hw20 => k0_hw20
def k0_off33 (k0_t20 : Fin k0_t20_loop.trips) : Fin 1 → Nat :=
  let c0_i32_2100 : BitVec 32 := 0#32
  let c0_i32_1703 : BitVec 32 := 0#32
  let c1_i32_1705 : BitVec 32 := 1#32
  let arg14 : BitVec 32 := Scf.iv c0_i32_1703 c1_i32_1705 k0_t20
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult99 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c88704_i32_1707 : BitVec 32 := 88704#32
  let v3468 : BitVec 32 := Scalar.addi v165 c88704_i32_1707
  let c147200_i32_1708 : BitVec 32 := 147200#32
  let v3469 : BitVec 32 := Scalar.minsi v3468 c147200_i32_1708
  v3469
def k0_mult100 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c139392_i32_1728 : BitVec 32 := 139392#32
  let v3508 : BitVec 32 := Scalar.addi v165 c139392_i32_1728
  let c147200_i32_1729 : BitVec 32 := 147200#32
  let v3509 : BitVec 32 := Scalar.minsi v3508 c147200_i32_1729
  v3509
def k0_mult101 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c101376_i32_1747 : BitVec 32 := 101376#32
  let v3548 : BitVec 32 := Scalar.addi v165 c101376_i32_1747
  let c147200_i32_1748 : BitVec 32 := 147200#32
  let v3549 : BitVec 32 := Scalar.minsi v3548 c147200_i32_1748
  v3549
def k0_mult102 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c50688_i32_1766 : BitVec 32 := 50688#32
  let v3588 : BitVec 32 := Scalar.addi v165 c50688_i32_1766
  let c147200_i32_1767 : BitVec 32 := 147200#32
  let v3589 : BitVec 32 := Scalar.minsi v3588 c147200_i32_1767
  v3589
def k0_mult103 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c101376_i32_1787 : BitVec 32 := 101376#32
  let v3628 : BitVec 32 := Scalar.addi v165 c101376_i32_1787
  let c147200_i32_1788 : BitVec 32 := 147200#32
  let v3629 : BitVec 32 := Scalar.minsi v3628 c147200_i32_1788
  v3629
@[reducible] def k0_t21_loop : Scf.Loop 32 :=
  let c0_i32_1789 : BitVec 32 := 0#32
  let c792_i32_1790 : BitVec 32 := 792#32
  let v3636 : BitVec 32 := Scalar.addi c0_i32_1789 c792_i32_1790
  let c1_i32_1791 : BitVec 32 := 1#32
  ⟨c0_i32_1789, v3636, c1_i32_1791⟩

def k0_chk21 (v4227 : IVec S16 32) : Prop :=
  (∀ a x, ((![v4227] : Fin 1 → IVec S16 32) a x).toNat < S12800.size a)
theorem k0_idx21_inb : ∀ (v4227 : IVec S16 32) (k0_hw21 : k0_chk21 v4227), ∀ a x, ((![v4227] : Fin 1 → IVec S16 32) a x).toNat < S12800.size a := fun v4227 k0_hw21 => k0_hw21
def k0_off34 (k0_t21 : Fin k0_t21_loop.trips) : Fin 1 → Nat :=
  let c0_i32_2100 : BitVec 32 := 0#32
  let c0_i32_1789 : BitVec 32 := 0#32
  let c1_i32_1791 : BitVec 32 := 1#32
  let arg14 : BitVec 32 := Scf.iv c0_i32_1789 c1_i32_1791 k0_t21
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult104 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c101376_i32_1793 : BitVec 32 := 101376#32
  let v3637 : BitVec 32 := Scalar.addi v165 c101376_i32_1793
  let c147200_i32_1794 : BitVec 32 := 147200#32
  let v3638 : BitVec 32 := Scalar.minsi v3637 c147200_i32_1794
  v3638
def k0_mult105 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c114048_i32_1814 : BitVec 32 := 114048#32
  let v3677 : BitVec 32 := Scalar.addi v165 c114048_i32_1814
  let c147200_i32_1815 : BitVec 32 := 147200#32
  let v3678 : BitVec 32 := Scalar.minsi v3677 c147200_i32_1815
  v3678
def k0_mult106 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c63360_i32_1833 : BitVec 32 := 63360#32
  let v3717 : BitVec 32 := Scalar.addi v165 c63360_i32_1833
  let c147200_i32_1834 : BitVec 32 := 147200#32
  let v3718 : BitVec 32 := Scalar.minsi v3717 c147200_i32_1834
  v3718
def k0_mult107 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c114048_i32_1854 : BitVec 32 := 114048#32
  let v3757 : BitVec 32 := Scalar.addi v165 c114048_i32_1854
  let c147200_i32_1855 : BitVec 32 := 147200#32
  let v3758 : BitVec 32 := Scalar.minsi v3757 c147200_i32_1855
  v3758
@[reducible] def k0_t22_loop : Scf.Loop 32 :=
  let c0_i32_1856 : BitVec 32 := 0#32
  let c792_i32_1857 : BitVec 32 := 792#32
  let v3765 : BitVec 32 := Scalar.addi c0_i32_1856 c792_i32_1857
  let c1_i32_1858 : BitVec 32 := 1#32
  ⟨c0_i32_1856, v3765, c1_i32_1858⟩

def k0_chk22 (v4227 : IVec S16 32) : Prop :=
  (∀ a x, ((![v4227] : Fin 1 → IVec S16 32) a x).toNat < S12800.size a)
theorem k0_idx22_inb : ∀ (v4227 : IVec S16 32) (k0_hw22 : k0_chk22 v4227), ∀ a x, ((![v4227] : Fin 1 → IVec S16 32) a x).toNat < S12800.size a := fun v4227 k0_hw22 => k0_hw22
def k0_off35 (k0_t22 : Fin k0_t22_loop.trips) : Fin 1 → Nat :=
  let c0_i32_2100 : BitVec 32 := 0#32
  let c0_i32_1856 : BitVec 32 := 0#32
  let c1_i32_1858 : BitVec 32 := 1#32
  let arg14 : BitVec 32 := Scf.iv c0_i32_1856 c1_i32_1858 k0_t22
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult108 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c114048_i32_1860 : BitVec 32 := 114048#32
  let v3766 : BitVec 32 := Scalar.addi v165 c114048_i32_1860
  let c147200_i32_1861 : BitVec 32 := 147200#32
  let v3767 : BitVec 32 := Scalar.minsi v3766 c147200_i32_1861
  v3767
def k0_mult109 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c126720_i32_1881 : BitVec 32 := 126720#32
  let v3806 : BitVec 32 := Scalar.addi v165 c126720_i32_1881
  let c147200_i32_1882 : BitVec 32 := 147200#32
  let v3807 : BitVec 32 := Scalar.minsi v3806 c147200_i32_1882
  v3807
def k0_mult110 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c76032_i32_1900 : BitVec 32 := 76032#32
  let v3846 : BitVec 32 := Scalar.addi v165 c76032_i32_1900
  let c147200_i32_1901 : BitVec 32 := 147200#32
  let v3847 : BitVec 32 := Scalar.minsi v3846 c147200_i32_1901
  v3847
def k0_mult111 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c126720_i32_1921 : BitVec 32 := 126720#32
  let v3886 : BitVec 32 := Scalar.addi v165 c126720_i32_1921
  let c147200_i32_1922 : BitVec 32 := 147200#32
  let v3887 : BitVec 32 := Scalar.minsi v3886 c147200_i32_1922
  v3887
@[reducible] def k0_t23_loop : Scf.Loop 32 :=
  let c0_i32_1923 : BitVec 32 := 0#32
  let c792_i32_1924 : BitVec 32 := 792#32
  let v3894 : BitVec 32 := Scalar.addi c0_i32_1923 c792_i32_1924
  let c1_i32_1925 : BitVec 32 := 1#32
  ⟨c0_i32_1923, v3894, c1_i32_1925⟩

def k0_chk23 (v4227 : IVec S16 32) : Prop :=
  (∀ a x, ((![v4227] : Fin 1 → IVec S16 32) a x).toNat < S12800.size a)
theorem k0_idx23_inb : ∀ (v4227 : IVec S16 32) (k0_hw23 : k0_chk23 v4227), ∀ a x, ((![v4227] : Fin 1 → IVec S16 32) a x).toNat < S12800.size a := fun v4227 k0_hw23 => k0_hw23
def k0_off36 (k0_t23 : Fin k0_t23_loop.trips) : Fin 1 → Nat :=
  let c0_i32_2100 : BitVec 32 := 0#32
  let c0_i32_1923 : BitVec 32 := 0#32
  let c1_i32_1925 : BitVec 32 := 1#32
  let arg14 : BitVec 32 := Scf.iv c0_i32_1923 c1_i32_1925 k0_t23
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult112 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c126720_i32_1927 : BitVec 32 := 126720#32
  let v3895 : BitVec 32 := Scalar.addi v165 c126720_i32_1927
  let c147200_i32_1928 : BitVec 32 := 147200#32
  let v3896 : BitVec 32 := Scalar.minsi v3895 c147200_i32_1928
  v3896
def k0_mult113 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c139392_i32_1948 : BitVec 32 := 139392#32
  let v3935 : BitVec 32 := Scalar.addi v165 c139392_i32_1948
  let c147200_i32_1949 : BitVec 32 := 147200#32
  let v3936 : BitVec 32 := Scalar.minsi v3935 c147200_i32_1949
  v3936
def k0_mult114 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c88704_i32_1967 : BitVec 32 := 88704#32
  let v3975 : BitVec 32 := Scalar.addi v165 c88704_i32_1967
  let c147200_i32_1968 : BitVec 32 := 147200#32
  let v3976 : BitVec 32 := Scalar.minsi v3975 c147200_i32_1968
  v3976
def k0_mult115 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c139392_i32_1988 : BitVec 32 := 139392#32
  let v4015 : BitVec 32 := Scalar.addi v165 c139392_i32_1988
  let c147200_i32_1989 : BitVec 32 := 147200#32
  let v4016 : BitVec 32 := Scalar.minsi v4015 c147200_i32_1989
  v4016
@[reducible] def k0_t24_loop : Scf.Loop 32 :=
  let c0_i32_1990 : BitVec 32 := 0#32
  let c788_i32_1991 : BitVec 32 := 788#32
  let v4023 : BitVec 32 := Scalar.addi c0_i32_1990 c788_i32_1991
  let c1_i32_1992 : BitVec 32 := 1#32
  ⟨c0_i32_1990, v4023, c1_i32_1992⟩

def k0_chk24 (v4227 : IVec S16 32) : Prop :=
  (∀ a x, ((![v4227] : Fin 1 → IVec S16 32) a x).toNat < S12800.size a)
theorem k0_idx24_inb : ∀ (v4227 : IVec S16 32) (k0_hw24 : k0_chk24 v4227), ∀ a x, ((![v4227] : Fin 1 → IVec S16 32) a x).toNat < S12800.size a := fun v4227 k0_hw24 => k0_hw24
def k0_off37 (k0_t24 : Fin k0_t24_loop.trips) : Fin 1 → Nat :=
  let c0_i32_2100 : BitVec 32 := 0#32
  let c0_i32_1990 : BitVec 32 := 0#32
  let c1_i32_1992 : BitVec 32 := 1#32
  let arg14 : BitVec 32 := Scf.iv c0_i32_1990 c1_i32_1992 k0_t24
  let c16_i32_2099 : BitVec 32 := 16#32
  let v4224 : BitVec 32 := Scalar.muli arg14 c16_i32_2099
  let v4225 : BitVec 32 := Scalar.addi c0_i32_2100 v4224
  let v4229 : Index := Scalar.indexCast v4225
  ![v4229.toNat]
def k0_mult116 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c139392_i32_1994 : BitVec 32 := 139392#32
  let v4024 : BitVec 32 := Scalar.addi v165 c139392_i32_1994
  let c147200_i32_1995 : BitVec 32 := 147200#32
  let v4025 : BitVec 32 := Scalar.minsi v4024 c147200_i32_1995
  v4025
def k0_mult117 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c101376_i32_2015 : BitVec 32 := 101376#32
  let v4064 : BitVec 32 := Scalar.addi v165 c101376_i32_2015
  let c147200_i32_2016 : BitVec 32 := 147200#32
  let v4065 : BitVec 32 := Scalar.minsi v4064 c147200_i32_2016
  v4065
def k0_mult118 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c114048_i32_2036 : BitVec 32 := 114048#32
  let v4104 : BitVec 32 := Scalar.addi v165 c114048_i32_2036
  let c147200_i32_2037 : BitVec 32 := 147200#32
  let v4105 : BitVec 32 := Scalar.minsi v4104 c147200_i32_2037
  v4105
def k0_mult119 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c126720_i32_2057 : BitVec 32 := 126720#32
  let v4144 : BitVec 32 := Scalar.addi v165 c126720_i32_2057
  let c147200_i32_2058 : BitVec 32 := 147200#32
  let v4145 : BitVec 32 := Scalar.minsi v4144 c147200_i32_2058
  v4145
def k0_mult120 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_34 : BitVec 32 := 31#32
  let v128 : BitVec 1 := Scalar.cmpi .eq v1 c31_i32_34
  let c5000_i32 : BitVec 32 := 5000#32
  let c30_i32_33 : BitVec 32 := 30#32
  let v126 : BitVec 1 := Scalar.cmpi .eq v1 c30_i32_33
  let c6150_i32 : BitVec 32 := 6150#32
  let c29_i32_32 : BitVec 32 := 29#32
  let v124 : BitVec 1 := Scalar.cmpi .eq v1 c29_i32_32
  let c2361_i32 : BitVec 32 := 2361#32
  let c28_i32_31 : BitVec 32 := 28#32
  let v122 : BitVec 1 := Scalar.cmpi .eq v1 c28_i32_31
  let c3410_i32 : BitVec 32 := 3410#32
  let c27_i32_30 : BitVec 32 := 27#32
  let v120 : BitVec 1 := Scalar.cmpi .eq v1 c27_i32_30
  let c4599_i32 : BitVec 32 := 4599#32
  let c26_i32_29 : BitVec 32 := 26#32
  let v118 : BitVec 1 := Scalar.cmpi .eq v1 c26_i32_29
  let c6323_i32 : BitVec 32 := 6323#32
  let c25_i32_28 : BitVec 32 := 25#32
  let v116 : BitVec 1 := Scalar.cmpi .eq v1 c25_i32_28
  let c4955_i32 : BitVec 32 := 4955#32
  let c24_i32_27 : BitVec 32 := 24#32
  let v114 : BitVec 1 := Scalar.cmpi .eq v1 c24_i32_27
  let c3853_i32 : BitVec 32 := 3853#32
  let c23_i32_26 : BitVec 32 := 23#32
  let v112 : BitVec 1 := Scalar.cmpi .eq v1 c23_i32_26
  let c4324_i32 : BitVec 32 := 4324#32
  let c22_i32_25 : BitVec 32 := 22#32
  let v110 : BitVec 1 := Scalar.cmpi .eq v1 c22_i32_25
  let c6592_i32 : BitVec 32 := 6592#32
  let c21_i32_24 : BitVec 32 := 21#32
  let v108 : BitVec 1 := Scalar.cmpi .eq v1 c21_i32_24
  let c6909_i32 : BitVec 32 := 6909#32
  let c20_i32_23 : BitVec 32 := 20#32
  let v106 : BitVec 1 := Scalar.cmpi .eq v1 c20_i32_23
  let c1796_i32 : BitVec 32 := 1796#32
  let c19_i32_22 : BitVec 32 := 19#32
  let v104 : BitVec 1 := Scalar.cmpi .eq v1 c19_i32_22
  let c6253_i32 : BitVec 32 := 6253#32
  let c18_i32_21 : BitVec 32 := 18#32
  let v102 : BitVec 1 := Scalar.cmpi .eq v1 c18_i32_21
  let c4274_i32 : BitVec 32 := 4274#32
  let c17_i32_20 : BitVec 32 := 17#32
  let v100 : BitVec 1 := Scalar.cmpi .eq v1 c17_i32_20
  let c724_i32 : BitVec 32 := 724#32
  let c16_i32_19 : BitVec 32 := 16#32
  let v98 : BitVec 1 := Scalar.cmpi .eq v1 c16_i32_19
  let c1198_i32 : BitVec 32 := 1198#32
  let c15_i32_18 : BitVec 32 := 15#32
  let v96 : BitVec 1 := Scalar.cmpi .eq v1 c15_i32_18
  let c3812_i32 : BitVec 32 := 3812#32
  let c14_i32_17 : BitVec 32 := 14#32
  let v94 : BitVec 1 := Scalar.cmpi .eq v1 c14_i32_17
  let c5239_i32 : BitVec 32 := 5239#32
  let c13_i32_16 : BitVec 32 := 13#32
  let v92 : BitVec 1 := Scalar.cmpi .eq v1 c13_i32_16
  let c7131_i32 : BitVec 32 := 7131#32
  let c12_i32_15 : BitVec 32 := 12#32
  let v90 : BitVec 1 := Scalar.cmpi .eq v1 c12_i32_15
  let c7761_i32 : BitVec 32 := 7761#32
  let c11_i32_14 : BitVec 32 := 11#32
  let v88 : BitVec 1 := Scalar.cmpi .eq v1 c11_i32_14
  let c7427_i32 : BitVec 32 := 7427#32
  let c10_i32_13 : BitVec 32 := 10#32
  let v86 : BitVec 1 := Scalar.cmpi .eq v1 c10_i32_13
  let c6603_i32 : BitVec 32 := 6603#32
  let c9_i32_12 : BitVec 32 := 9#32
  let v84 : BitVec 1 := Scalar.cmpi .eq v1 c9_i32_12
  let c5639_i32 : BitVec 32 := 5639#32
  let c8_i32_11 : BitVec 32 := 8#32
  let v82 : BitVec 1 := Scalar.cmpi .eq v1 c8_i32_11
  let c2754_i32 : BitVec 32 := 2754#32
  let c7_i32_10 : BitVec 32 := 7#32
  let v80 : BitVec 1 := Scalar.cmpi .eq v1 c7_i32_10
  let c1490_i32 : BitVec 32 := 1490#32
  let c6_i32_9 : BitVec 32 := 6#32
  let v78 : BitVec 1 := Scalar.cmpi .eq v1 c6_i32_9
  let c1051_i32 : BitVec 32 := 1051#32
  let c5_i32_8 : BitVec 32 := 5#32
  let v76 : BitVec 1 := Scalar.cmpi .eq v1 c5_i32_8
  let c3954_i32 : BitVec 32 := 3954#32
  let c4_i32_7 : BitVec 32 := 4#32
  let v74 : BitVec 1 := Scalar.cmpi .eq v1 c4_i32_7
  let c1026_i32 : BitVec 32 := 1026#32
  let c3_i32_6 : BitVec 32 := 3#32
  let v72 : BitVec 1 := Scalar.cmpi .eq v1 c3_i32_6
  let c807_i32 : BitVec 32 := 807#32
  let c2_i32_5 : BitVec 32 := 2#32
  let v70 : BitVec 1 := Scalar.cmpi .eq v1 c2_i32_5
  let c5419_i32 : BitVec 32 := 5419#32
  let c1_i32_4 : BitVec 32 := 1#32
  let v68 : BitVec 1 := Scalar.cmpi .eq v1 c1_i32_4
  let c2369_i32 : BitVec 32 := 2369#32
  let c914_i32 : BitVec 32 := 914#32
  let v69 : BitVec 32 := Scalar.select v68 c2369_i32 c914_i32
  let v71 : BitVec 32 := Scalar.select v70 c5419_i32 v69
  let v73 : BitVec 32 := Scalar.select v72 c807_i32 v71
  let v75 : BitVec 32 := Scalar.select v74 c1026_i32 v73
  let v77 : BitVec 32 := Scalar.select v76 c3954_i32 v75
  let v79 : BitVec 32 := Scalar.select v78 c1051_i32 v77
  let v81 : BitVec 32 := Scalar.select v80 c1490_i32 v79
  let v83 : BitVec 32 := Scalar.select v82 c2754_i32 v81
  let v85 : BitVec 32 := Scalar.select v84 c5639_i32 v83
  let v87 : BitVec 32 := Scalar.select v86 c6603_i32 v85
  let v89 : BitVec 32 := Scalar.select v88 c7427_i32 v87
  let v91 : BitVec 32 := Scalar.select v90 c7761_i32 v89
  let v93 : BitVec 32 := Scalar.select v92 c7131_i32 v91
  let v95 : BitVec 32 := Scalar.select v94 c5239_i32 v93
  let v97 : BitVec 32 := Scalar.select v96 c3812_i32 v95
  let v99 : BitVec 32 := Scalar.select v98 c1198_i32 v97
  let v101 : BitVec 32 := Scalar.select v100 c724_i32 v99
  let v103 : BitVec 32 := Scalar.select v102 c4274_i32 v101
  let v105 : BitVec 32 := Scalar.select v104 c6253_i32 v103
  let v107 : BitVec 32 := Scalar.select v106 c1796_i32 v105
  let v109 : BitVec 32 := Scalar.select v108 c6909_i32 v107
  let v111 : BitVec 32 := Scalar.select v110 c6592_i32 v109
  let v113 : BitVec 32 := Scalar.select v112 c4324_i32 v111
  let v115 : BitVec 32 := Scalar.select v114 c3853_i32 v113
  let v117 : BitVec 32 := Scalar.select v116 c4955_i32 v115
  let v119 : BitVec 32 := Scalar.select v118 c6323_i32 v117
  let v121 : BitVec 32 := Scalar.select v120 c4599_i32 v119
  let v123 : BitVec 32 := Scalar.select v122 c3410_i32 v121
  let v125 : BitVec 32 := Scalar.select v124 c2361_i32 v123
  let v127 : BitVec 32 := Scalar.select v126 c6150_i32 v125
  let v129 : BitVec 32 := Scalar.select v128 c5000_i32 v127
  let c0_i32_43 : BitVec 32 := 0#32
  let v149 : BitVec 1 := Scalar.cmpi .sgt v129 c0_i32_43
  let v150 : BitVec 32 := Scalar.extui v149
  let c0_i32_44 : BitVec 32 := 0#32
  let v151 : BitVec 1 := Scalar.cmpi .slt v129 c0_i32_44
  let v152 : BitVec 32 := Scalar.extui v151
  let v153 : BitVec 32 := Scalar.subi v150 v152
  let c128_i32_42 : BitVec 32 := 128#32
  let c0_i32_45 : BitVec 32 := 0#32
  let v154 : BitVec 1 := Scalar.cmpi .sgt c128_i32_42 c0_i32_45
  let v155 : BitVec 32 := Scalar.extui v154
  let c0_i32_46 : BitVec 32 := 0#32
  let v156 : BitVec 1 := Scalar.cmpi .slt c128_i32_42 c0_i32_46
  let v157 : BitVec 32 := Scalar.extui v156
  let v158 : BitVec 32 := Scalar.subi v155 v157
  let v159 : BitVec 1 := Scalar.cmpi .ne v153 v158
  let v160 : BitVec 32 := Scalar.remsi v129 c128_i32_42
  let c0_i32_47 : BitVec 32 := 0#32
  let v161 : BitVec 1 := Scalar.cmpi .ne v160 c0_i32_47
  let v162 : BitVec 1 := Scalar.andi v159 v161
  let v148 : BitVec 32 := Scalar.divsi v129 c128_i32_42
  let c1_i32_48 : BitVec 32 := 1#32
  let v163 : BitVec 32 := Scalar.subi v148 c1_i32_48
  let v164 : BitVec 32 := Scalar.select v162 v163 v148
  let c128_i32_49 : BitVec 32 := 128#32
  let v165 : BitVec 32 := Scalar.muli v164 c128_i32_49
  let c139392_i32_2078 : BitVec 32 := 139392#32
  let v4184 : BitVec 32 := Scalar.addi v165 c139392_i32_2078
  let c147200_i32_2079 : BitVec 32 := 147200#32
  let v4185 : BitVec 32 := Scalar.minsi v4184 c147200_i32_2079
  v4185
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x32x1x160000 : Shape := ⟨4, ![2, 32, 1, 160000]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S2x1 : Shape := ⟨2, ![2, 1]⟩
abbrev S2x2 : Shape := ⟨2, ![2, 2]⟩
abbrev S1x2 : Shape := ⟨2, ![1, 2]⟩
abbrev S2x32x1x1 : Shape := ⟨4, ![2, 32, 1, 1]⟩
abbrev S152000 : Shape := ⟨1, ![152000]⟩
abbrev S1x1x1x152000 : Shape := ⟨4, ![1, 1, 1, 152000]⟩
abbrev S2x32x1x152000 : Shape := ⟨4, ![2, 32, 1, 152000]⟩
abbrev S2x32x152000x1 : Shape := ⟨4, ![2, 32, 152000, 1]⟩
abbrev S2x32x152000 : Shape := ⟨3, ![2, 32, 152000]⟩

abbrev nBuf : Space → Nat
  | .hbm => 833
  | .vmem => 0
  | .smem => 0
  | _ => 0

abbrev hbmTy0_0 (i : Nat) : BufTy := match i % 128 with
  | 0 => ⟨S2x32x1x160000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x1x1x1, .i32⟩
  | 30 => ⟨S1x1x1x1, .i32⟩
  | 31 => ⟨S1, .i32⟩
  | 32 => ⟨S_, .i32⟩
  | 33 => ⟨S1, .i32⟩
  | 34 => ⟨S_, .i32⟩
  | 35 => ⟨S2, .i64⟩
  | 36 => ⟨S_, .i64⟩
  | 37 => ⟨S2, .i64⟩
  | 38 => ⟨S2, .i64⟩
  | 39 => ⟨S_, .i64⟩
  | 40 => ⟨S2, .i64⟩
  | 41 => ⟨S2, .i64⟩
  | 42 => ⟨S2, .i32⟩
  | 43 => ⟨S2, .i32⟩
  | 44 => ⟨S_, .i32⟩
  | 45 => ⟨S_, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S2x32x1x160000, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S2x32x1x160000, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2x1, .i32⟩
  | 11 => ⟨S2x1, .i32⟩
  | 12 => ⟨S2x2, .i32⟩
  | 13 => ⟨S1x2, .i32⟩
  | 14 => ⟨S2, .i32⟩
  | 15 => ⟨S1x2, .i32⟩
  | 16 => ⟨S2, .i32⟩
  | 17 => ⟨S1, .i32⟩
  | 18 => ⟨S_, .i32⟩
  | 19 => ⟨S1, .i32⟩
  | 20 => ⟨S_, .i32⟩
  | 21 => ⟨S2x32x1x1, .i64⟩
  | 22 => ⟨S2x32x1x1, .i64⟩
  | 23 => ⟨S2x32x1x1, .i64⟩
  | 24 => ⟨S2x32x1x1, .i64⟩
  | 25 => ⟨S_, .i64⟩
  | 26 => ⟨S2x32x1x1, .i64⟩
  | 27 => ⟨S2x32x1x1, .i64⟩
  | 28 => ⟨S_, .i64⟩
  | 29 => ⟨S2x32x1x1, .i64⟩
  | 30 => ⟨S2x32x1x1, .i64⟩
  | 31 => ⟨S_, .i64⟩
  | 32 => ⟨S2x32x1x1, .i64⟩
  | 33 => ⟨S2x32x1x1, .i64⟩
  | 34 => ⟨S_, .i64⟩
  | 35 => ⟨S2x32x1x1, .i64⟩
  | 36 => ⟨S2x32x1x1, .i64⟩
  | 37 => ⟨S2x32x1x1, .i64⟩
  | 38 => ⟨S2x32x1x1, .i64⟩
  | 39 => ⟨S2x32x1x1, .i64⟩
  | 40 => ⟨S_, .i64⟩
  | 41 => ⟨S2x32x1x1, .i64⟩
  | 42 => ⟨S2x32x1x1, .i64⟩
  | 43 => ⟨S2x32x1x1, .i32⟩
  | 44 => ⟨S2x32x1x1, .i32⟩
  | 45 => ⟨S_, .i32⟩
  | 46 => ⟨S_, .i32⟩
  | 47 => ⟨S_, .i32⟩
  | 48 => ⟨S2x32x1x1, .i32⟩
  | 49 => ⟨S2x32x1x1, .i32⟩
  | 50 => ⟨S2x32x1x1, .i32⟩
  | 51 => ⟨S2x32x1x1, .i32⟩
  | 52 => ⟨S2x32x1x1, .i32⟩
  | 53 => ⟨S_, .i32⟩
  | 54 => ⟨S2x32x1x1, .i32⟩
  | 55 => ⟨S2x32x1x1, .i32⟩
  | 56 => ⟨S_, .i32⟩
  | 57 => ⟨S2x32x1x1, .i32⟩
  | 58 => ⟨S2x32x1x1, .i32⟩
  | 59 => ⟨S2x32x1x1, .i32⟩
  | 60 => ⟨S2x32x1x1, .i32⟩
  | 61 => ⟨S2x32x1x1, .i32⟩
  | 62 => ⟨S_, .i32⟩
  | 63 => ⟨S2x32x1x1, .i32⟩
  | 64 => ⟨S2x32x1x1, .i32⟩
  | 65 => ⟨S_, .i32⟩
  | 66 => ⟨S2x32x1x1, .i32⟩
  | 67 => ⟨S2x32x1x1, .i32⟩
  | 68 => ⟨S2x32x1x1, .i32⟩
  | 69 => ⟨S2x32x1x1, .i32⟩
  | 70 => ⟨S2x32x1x1, .i32⟩
  | 71 => ⟨S_, .i32⟩
  | 72 => ⟨S2x32x1x1, .i32⟩
  | 73 => ⟨S2x32x1x1, .i32⟩
  | 74 => ⟨S_, .i32⟩
  | 75 => ⟨S2x32x1x1, .i32⟩
  | 76 => ⟨S2x32x1x1, .i32⟩
  | 77 => ⟨S2x32x1x1, .i32⟩
  | 78 => ⟨S2x32x1x1, .i32⟩
  | 79 => ⟨S2x32x1x1, .i32⟩
  | 80 => ⟨S_, .i32⟩
  | 81 => ⟨S2x32x1x1, .i32⟩
  | 82 => ⟨S2x32x1x1, .i32⟩
  | 83 => ⟨S_, .i32⟩
  | 84 => ⟨S2x32x1x1, .i32⟩
  | 85 => ⟨S2x32x1x1, .i32⟩
  | 86 => ⟨S2x32x1x1, .i32⟩
  | 87 => ⟨S2x32x1x1, .i32⟩
  | 88 => ⟨S2x32x1x1, .i32⟩
  | 89 => ⟨S2x32x1x1, .i32⟩
  | 90 => ⟨S2x32x1x1, .i32⟩
  | 91 => ⟨S2x32x1x1, .i32⟩
  | 92 => ⟨S_, .i32⟩
  | 93 => ⟨S2x32x1x1, .i32⟩
  | 94 => ⟨S2x32x1x1, .i32⟩
  | 95 => ⟨S2x32x1x1, .i32⟩
  | 96 => ⟨S_, .i32⟩
  | 97 => ⟨S2x32x1x1, .i32⟩
  | 98 => ⟨S2x32x1x1, .i32⟩
  | 99 => ⟨S_, .i32⟩
  | 100 => ⟨S2x32x1x1, .i32⟩
  | 101 => ⟨S2x32x1x1, .i32⟩
  | 102 => ⟨S2x32x1x1, .i32⟩
  | 103 => ⟨S2x32x1x1, .i32⟩
  | 104 => ⟨S2x32x1x1, .i32⟩
  | 105 => ⟨S_, .i32⟩
  | 106 => ⟨S2x32x1x1, .i32⟩
  | 107 => ⟨S2x32x1x1, .i32⟩
  | 108 => ⟨S_, .i32⟩
  | 109 => ⟨S2x32x1x1, .i32⟩
  | 110 => ⟨S2x32x1x1, .i32⟩
  | 111 => ⟨S2x32x1x1, .i32⟩
  | 112 => ⟨S2x32x1x1, .i32⟩
  | 113 => ⟨S2x32x1x1, .i32⟩
  | 114 => ⟨S_, .i32⟩
  | 115 => ⟨S2x32x1x1, .i32⟩
  | 116 => ⟨S2x32x1x1, .i32⟩
  | 117 => ⟨S_, .i32⟩
  | 118 => ⟨S2x32x1x1, .i32⟩
  | 119 => ⟨S2x32x1x1, .i32⟩
  | 120 => ⟨S2x32x1x1, .i32⟩
  | 121 => ⟨S2x32x1x1, .i32⟩
  | 122 => ⟨S2x32x1x1, .i32⟩
  | 123 => ⟨S_, .i32⟩
  | 124 => ⟨S2x32x1x1, .i32⟩
  | 125 => ⟨S2x32x1x1, .i32⟩
  | 126 => ⟨S_, .i32⟩
  | 127 => ⟨S2x32x1x1, .i32⟩
  | _ => ⟨S2x32x1x160000, .f32⟩

abbrev hbmTy0_3 (i : Nat) : BufTy := match i % 128 with
  | 0 => ⟨S2x32x1x1, .i32⟩
  | 1 => ⟨S2x32x1x1, .i32⟩
  | 2 => ⟨S2x32x1x1, .i32⟩
  | 3 => ⟨S2x32x1x1, .i32⟩
  | 4 => ⟨S2x32x1x1, .i32⟩
  | 5 => ⟨S2x32x1x1, .i32⟩
  | 6 => ⟨S2x32x1x1, .i32⟩
  | 7 => ⟨S_, .i32⟩
  | 8 => ⟨S2x32x1x1, .i32⟩
  | 9 => ⟨S2x32x1x1, .i32⟩
  | 10 => ⟨S2x32x1x1, .i32⟩
  | 11 => ⟨S_, .i32⟩
  | 12 => ⟨S2x32x1x1, .i32⟩
  | 13 => ⟨S2x32x1x1, .i32⟩
  | 14 => ⟨S_, .i32⟩
  | 15 => ⟨S2x32x1x1, .i32⟩
  | 16 => ⟨S2x32x1x1, .i32⟩
  | 17 => ⟨S2x32x1x1, .i32⟩
  | 18 => ⟨S2x32x1x1, .i32⟩
  | 19 => ⟨S2x32x1x1, .i32⟩
  | 20 => ⟨S_, .i32⟩
  | 21 => ⟨S2x32x1x1, .i32⟩
  | 22 => ⟨S2x32x1x1, .i32⟩
  | 23 => ⟨S_, .i32⟩
  | 24 => ⟨S2x32x1x1, .i32⟩
  | 25 => ⟨S2x32x1x1, .i32⟩
  | 26 => ⟨S2x32x1x1, .i32⟩
  | 27 => ⟨S2x32x1x1, .i32⟩
  | 28 => ⟨S2x32x1x1, .i32⟩
  | 29 => ⟨S_, .i32⟩
  | 30 => ⟨S2x32x1x1, .i32⟩
  | 31 => ⟨S2x32x1x1, .i32⟩
  | 32 => ⟨S_, .i32⟩
  | 33 => ⟨S2x32x1x1, .i32⟩
  | 34 => ⟨S2x32x1x1, .i32⟩
  | 35 => ⟨S2x32x1x1, .i32⟩
  | 36 => ⟨S2x32x1x1, .i32⟩
  | 37 => ⟨S2x32x1x1, .i32⟩
  | 38 => ⟨S_, .i32⟩
  | 39 => ⟨S2x32x1x1, .i32⟩
  | 40 => ⟨S2x32x1x1, .i32⟩
  | 41 => ⟨S_, .i32⟩
  | 42 => ⟨S2x32x1x1, .i32⟩
  | 43 => ⟨S2x32x1x1, .i32⟩
  | 44 => ⟨S2x32x1x1, .i32⟩
  | 45 => ⟨S2x32x1x1, .i32⟩
  | 46 => ⟨S2x32x1x1, .i32⟩
  | 47 => ⟨S2x32x1x1, .i32⟩
  | 48 => ⟨S2x32x1x1, .i32⟩
  | 49 => ⟨S2x32x1x1, .i32⟩
  | 50 => ⟨S_, .i32⟩
  | 51 => ⟨S2x32x1x1, .i32⟩
  | 52 => ⟨S2x32x1x1, .i32⟩
  | 53 => ⟨S2x32x1x1, .i32⟩
  | 54 => ⟨S_, .i32⟩
  | 55 => ⟨S2x32x1x1, .i32⟩
  | 56 => ⟨S2x32x1x1, .i32⟩
  | 57 => ⟨S_, .i32⟩
  | 58 => ⟨S2x32x1x1, .i32⟩
  | 59 => ⟨S2x32x1x1, .i32⟩
  | 60 => ⟨S2x32x1x1, .i32⟩
  | 61 => ⟨S2x32x1x1, .i32⟩
  | 62 => ⟨S2x32x1x1, .i32⟩
  | 63 => ⟨S_, .i32⟩
  | 64 => ⟨S2x32x1x1, .i32⟩
  | 65 => ⟨S2x32x1x1, .i32⟩
  | 66 => ⟨S_, .i32⟩
  | 67 => ⟨S2x32x1x1, .i32⟩
  | 68 => ⟨S2x32x1x1, .i32⟩
  | 69 => ⟨S2x32x1x1, .i32⟩
  | 70 => ⟨S2x32x1x1, .i32⟩
  | 71 => ⟨S2x32x1x1, .i32⟩
  | 72 => ⟨S_, .i32⟩
  | 73 => ⟨S2x32x1x1, .i32⟩
  | 74 => ⟨S2x32x1x1, .i32⟩
  | 75 => ⟨S_, .i32⟩
  | 76 => ⟨S2x32x1x1, .i32⟩
  | 77 => ⟨S2x32x1x1, .i32⟩
  | 78 => ⟨S2x32x1x1, .i32⟩
  | 79 => ⟨S2x32x1x1, .i32⟩
  | 80 => ⟨S2x32x1x1, .i32⟩
  | 81 => ⟨S_, .i32⟩
  | 82 => ⟨S2x32x1x1, .i32⟩
  | 83 => ⟨S2x32x1x1, .i32⟩
  | 84 => ⟨S_, .i32⟩
  | 85 => ⟨S2x32x1x1, .i32⟩
  | 86 => ⟨S2x32x1x1, .i32⟩
  | 87 => ⟨S2x32x1x1, .i32⟩
  | 88 => ⟨S2x32x1x1, .i32⟩
  | 89 => ⟨S2x32x1x1, .i32⟩
  | 90 => ⟨S2x32x1x1, .i32⟩
  | 91 => ⟨S2x32x1x1, .i32⟩
  | 92 => ⟨S2x32x1x1, .i32⟩
  | 93 => ⟨S_, .i32⟩
  | 94 => ⟨S2x32x1x1, .i32⟩
  | 95 => ⟨S2x32x1x1, .i32⟩
  | 96 => ⟨S2x32x1x1, .i32⟩
  | 97 => ⟨S_, .i32⟩
  | 98 => ⟨S2x32x1x1, .i32⟩
  | 99 => ⟨S2x32x1x1, .i32⟩
  | 100 => ⟨S_, .i32⟩
  | 101 => ⟨S2x32x1x1, .i32⟩
  | 102 => ⟨S2x32x1x1, .i32⟩
  | 103 => ⟨S2x32x1x1, .i32⟩
  | 104 => ⟨S2x32x1x1, .i32⟩
  | 105 => ⟨S2x32x1x1, .i32⟩
  | 106 => ⟨S_, .i32⟩
  | 107 => ⟨S2x32x1x1, .i32⟩
  | 108 => ⟨S2x32x1x1, .i32⟩
  | 109 => ⟨S_, .i32⟩
  | 110 => ⟨S2x32x1x1, .i32⟩
  | 111 => ⟨S2x32x1x1, .i32⟩
  | 112 => ⟨S2x32x1x1, .i32⟩
  | 113 => ⟨S2x32x1x1, .i32⟩
  | 114 => ⟨S2x32x1x1, .i32⟩
  | 115 => ⟨S_, .i32⟩
  | 116 => ⟨S2x32x1x1, .i32⟩
  | 117 => ⟨S2x32x1x1, .i32⟩
  | 118 => ⟨S_, .i32⟩
  | 119 => ⟨S2x32x1x1, .i32⟩
  | 120 => ⟨S2x32x1x1, .i32⟩
  | 121 => ⟨S2x32x1x1, .i32⟩
  | 122 => ⟨S2x32x1x1, .i32⟩
  | 123 => ⟨S2x32x1x1, .i32⟩
  | 124 => ⟨S_, .i32⟩
  | 125 => ⟨S2x32x1x1, .i32⟩
  | 126 => ⟨S2x32x1x1, .i32⟩
  | 127 => ⟨S_, .i32⟩
  | _ => ⟨S2x32x1x160000, .f32⟩

abbrev hbmTy0_4 (i : Nat) : BufTy := match i % 128 with
  | 0 => ⟨S2x32x1x1, .i32⟩
  | 1 => ⟨S2x32x1x1, .i32⟩
  | 2 => ⟨S2x32x1x1, .i32⟩
  | 3 => ⟨S2x32x1x1, .i32⟩
  | 4 => ⟨S2x32x1x1, .i32⟩
  | 5 => ⟨S2x32x1x1, .i32⟩
  | 6 => ⟨S2x32x1x1, .i32⟩
  | 7 => ⟨S2x32x1x1, .i32⟩
  | 8 => ⟨S_, .i32⟩
  | 9 => ⟨S2x32x1x1, .i32⟩
  | 10 => ⟨S2x32x1x1, .i32⟩
  | 11 => ⟨S2x32x1x1, .i32⟩
  | 12 => ⟨S1, .i32⟩
  | 13 => ⟨S_, .i32⟩
  | 14 => ⟨S1, .i32⟩
  | 15 => ⟨S_, .i32⟩
  | 16 => ⟨S2x32x1x1, .i64⟩
  | 17 => ⟨S2x32x1x1, .i64⟩
  | 18 => ⟨S2x32x1x1, .i64⟩
  | 19 => ⟨S2x32x1x1, .i64⟩
  | 20 => ⟨S_, .i64⟩
  | 21 => ⟨S2x32x1x1, .i64⟩
  | 22 => ⟨S2x32x1x1, .i64⟩
  | 23 => ⟨S_, .i64⟩
  | 24 => ⟨S2x32x1x1, .i64⟩
  | 25 => ⟨S2x32x1x1, .i64⟩
  | 26 => ⟨S_, .i64⟩
  | 27 => ⟨S2x32x1x1, .i64⟩
  | 28 => ⟨S2x32x1x1, .i64⟩
  | 29 => ⟨S_, .i64⟩
  | 30 => ⟨S2x32x1x1, .i64⟩
  | 31 => ⟨S2x32x1x1, .i64⟩
  | 32 => ⟨S2x32x1x1, .i64⟩
  | 33 => ⟨S2x32x1x1, .i64⟩
  | 34 => ⟨S2x32x1x1, .i64⟩
  | 35 => ⟨S_, .i64⟩
  | 36 => ⟨S2x32x1x1, .i64⟩
  | 37 => ⟨S2x32x1x1, .i64⟩
  | 38 => ⟨S2x32x1x1, .i32⟩
  | 39 => ⟨S2x32x1x1, .i32⟩
  | 40 => ⟨S_, .i32⟩
  | 41 => ⟨S_, .i32⟩
  | 42 => ⟨S_, .i32⟩
  | 43 => ⟨S2x32x1x1, .i32⟩
  | 44 => ⟨S2x32x1x1, .i32⟩
  | 45 => ⟨S2x32x1x1, .i32⟩
  | 46 => ⟨S2x32x1x1, .i32⟩
  | 47 => ⟨S2x32x1x1, .i32⟩
  | 48 => ⟨S_, .i32⟩
  | 49 => ⟨S2x32x1x1, .i32⟩
  | 50 => ⟨S2x32x1x1, .i32⟩
  | 51 => ⟨S_, .i32⟩
  | 52 => ⟨S2x32x1x1, .i32⟩
  | 53 => ⟨S2x32x1x1, .i32⟩
  | 54 => ⟨S2x32x1x1, .i32⟩
  | 55 => ⟨S2x32x1x1, .i32⟩
  | 56 => ⟨S2x32x1x1, .i32⟩
  | 57 => ⟨S_, .i32⟩
  | 58 => ⟨S2x32x1x1, .i32⟩
  | 59 => ⟨S2x32x1x1, .i32⟩
  | 60 => ⟨S_, .i32⟩
  | 61 => ⟨S2x32x1x1, .i32⟩
  | 62 => ⟨S2x32x1x1, .i32⟩
  | 63 => ⟨S2x32x1x1, .i32⟩
  | 64 => ⟨S2x32x1x1, .i32⟩
  | 65 => ⟨S2x32x1x1, .i32⟩
  | 66 => ⟨S_, .i32⟩
  | 67 => ⟨S2x32x1x1, .i32⟩
  | 68 => ⟨S2x32x1x1, .i32⟩
  | 69 => ⟨S_, .i32⟩
  | 70 => ⟨S2x32x1x1, .i32⟩
  | 71 => ⟨S2x32x1x1, .i32⟩
  | 72 => ⟨S2x32x1x1, .i32⟩
  | 73 => ⟨S2x32x1x1, .i32⟩
  | 74 => ⟨S2x32x1x1, .i32⟩
  | 75 => ⟨S_, .i32⟩
  | 76 => ⟨S2x32x1x1, .i32⟩
  | 77 => ⟨S2x32x1x1, .i32⟩
  | 78 => ⟨S_, .i32⟩
  | 79 => ⟨S2x32x1x1, .i32⟩
  | 80 => ⟨S2x32x1x1, .i32⟩
  | 81 => ⟨S2x32x1x1, .i32⟩
  | 82 => ⟨S2x32x1x1, .i32⟩
  | 83 => ⟨S2x32x1x1, .i32⟩
  | 84 => ⟨S2x32x1x1, .i32⟩
  | 85 => ⟨S2x32x1x1, .i32⟩
  | 86 => ⟨S2x32x1x1, .i32⟩
  | 87 => ⟨S_, .i32⟩
  | 88 => ⟨S2x32x1x1, .i32⟩
  | 89 => ⟨S2x32x1x1, .i32⟩
  | 90 => ⟨S2x32x1x1, .i32⟩
  | 91 => ⟨S_, .i32⟩
  | 92 => ⟨S2x32x1x1, .i32⟩
  | 93 => ⟨S2x32x1x1, .i32⟩
  | 94 => ⟨S_, .i32⟩
  | 95 => ⟨S2x32x1x1, .i32⟩
  | 96 => ⟨S2x32x1x1, .i32⟩
  | 97 => ⟨S2x32x1x1, .i32⟩
  | 98 => ⟨S2x32x1x1, .i32⟩
  | 99 => ⟨S2x32x1x1, .i32⟩
  | 100 => ⟨S_, .i32⟩
  | 101 => ⟨S2x32x1x1, .i32⟩
  | 102 => ⟨S2x32x1x1, .i32⟩
  | 103 => ⟨S_, .i32⟩
  | 104 => ⟨S2x32x1x1, .i32⟩
  | 105 => ⟨S2x32x1x1, .i32⟩
  | 106 => ⟨S2x32x1x1, .i32⟩
  | 107 => ⟨S2x32x1x1, .i32⟩
  | 108 => ⟨S2x32x1x1, .i32⟩
  | 109 => ⟨S_, .i32⟩
  | 110 => ⟨S2x32x1x1, .i32⟩
  | 111 => ⟨S2x32x1x1, .i32⟩
  | 112 => ⟨S_, .i32⟩
  | 113 => ⟨S2x32x1x1, .i32⟩
  | 114 => ⟨S2x32x1x1, .i32⟩
  | 115 => ⟨S2x32x1x1, .i32⟩
  | 116 => ⟨S2x32x1x1, .i32⟩
  | 117 => ⟨S2x32x1x1, .i32⟩
  | 118 => ⟨S_, .i32⟩
  | 119 => ⟨S2x32x1x1, .i32⟩
  | 120 => ⟨S2x32x1x1, .i32⟩
  | 121 => ⟨S_, .i32⟩
  | 122 => ⟨S2x32x1x1, .i32⟩
  | 123 => ⟨S2x32x1x1, .i32⟩
  | 124 => ⟨S2x32x1x1, .i32⟩
  | 125 => ⟨S2x32x1x1, .i32⟩
  | 126 => ⟨S2x32x1x1, .i32⟩
  | 127 => ⟨S2x32x1x1, .i32⟩
  | _ => ⟨S2x32x1x160000, .f32⟩

abbrev hbmTy0_5 (i : Nat) : BufTy := match i % 128 with
  | 0 => ⟨S2x32x1x1, .i32⟩
  | 1 => ⟨S2x32x1x1, .i32⟩
  | 2 => ⟨S_, .i32⟩
  | 3 => ⟨S2x32x1x1, .i32⟩
  | 4 => ⟨S2x32x1x1, .i32⟩
  | 5 => ⟨S2x32x1x1, .i32⟩
  | 6 => ⟨S_, .i32⟩
  | 7 => ⟨S2x32x1x1, .i32⟩
  | 8 => ⟨S2x32x1x1, .i32⟩
  | 9 => ⟨S_, .i32⟩
  | 10 => ⟨S2x32x1x1, .i32⟩
  | 11 => ⟨S2x32x1x1, .i32⟩
  | 12 => ⟨S2x32x1x1, .i32⟩
  | 13 => ⟨S2x32x1x1, .i32⟩
  | 14 => ⟨S2x32x1x1, .i32⟩
  | 15 => ⟨S_, .i32⟩
  | 16 => ⟨S2x32x1x1, .i32⟩
  | 17 => ⟨S2x32x1x1, .i32⟩
  | 18 => ⟨S_, .i32⟩
  | 19 => ⟨S2x32x1x1, .i32⟩
  | 20 => ⟨S2x32x1x1, .i32⟩
  | 21 => ⟨S2x32x1x1, .i32⟩
  | 22 => ⟨S2x32x1x1, .i32⟩
  | 23 => ⟨S2x32x1x1, .i32⟩
  | 24 => ⟨S_, .i32⟩
  | 25 => ⟨S2x32x1x1, .i32⟩
  | 26 => ⟨S2x32x1x1, .i32⟩
  | 27 => ⟨S_, .i32⟩
  | 28 => ⟨S2x32x1x1, .i32⟩
  | 29 => ⟨S2x32x1x1, .i32⟩
  | 30 => ⟨S2x32x1x1, .i32⟩
  | 31 => ⟨S2x32x1x1, .i32⟩
  | 32 => ⟨S2x32x1x1, .i32⟩
  | 33 => ⟨S_, .i32⟩
  | 34 => ⟨S2x32x1x1, .i32⟩
  | 35 => ⟨S2x32x1x1, .i32⟩
  | 36 => ⟨S_, .i32⟩
  | 37 => ⟨S2x32x1x1, .i32⟩
  | 38 => ⟨S2x32x1x1, .i32⟩
  | 39 => ⟨S2x32x1x1, .i32⟩
  | 40 => ⟨S2x32x1x1, .i32⟩
  | 41 => ⟨S2x32x1x1, .i32⟩
  | 42 => ⟨S2x32x1x1, .i32⟩
  | 43 => ⟨S2x32x1x1, .i32⟩
  | 44 => ⟨S2x32x1x1, .i32⟩
  | 45 => ⟨S_, .i32⟩
  | 46 => ⟨S2x32x1x1, .i32⟩
  | 47 => ⟨S2x32x1x1, .i32⟩
  | 48 => ⟨S2x32x1x1, .i32⟩
  | 49 => ⟨S_, .i32⟩
  | 50 => ⟨S2x32x1x1, .i32⟩
  | 51 => ⟨S2x32x1x1, .i32⟩
  | 52 => ⟨S_, .i32⟩
  | 53 => ⟨S2x32x1x1, .i32⟩
  | 54 => ⟨S2x32x1x1, .i32⟩
  | 55 => ⟨S2x32x1x1, .i32⟩
  | 56 => ⟨S2x32x1x1, .i32⟩
  | 57 => ⟨S2x32x1x1, .i32⟩
  | 58 => ⟨S_, .i32⟩
  | 59 => ⟨S2x32x1x1, .i32⟩
  | 60 => ⟨S2x32x1x1, .i32⟩
  | 61 => ⟨S_, .i32⟩
  | 62 => ⟨S2x32x1x1, .i32⟩
  | 63 => ⟨S2x32x1x1, .i32⟩
  | 64 => ⟨S2x32x1x1, .i32⟩
  | 65 => ⟨S2x32x1x1, .i32⟩
  | 66 => ⟨S2x32x1x1, .i32⟩
  | 67 => ⟨S_, .i32⟩
  | 68 => ⟨S2x32x1x1, .i32⟩
  | 69 => ⟨S2x32x1x1, .i32⟩
  | 70 => ⟨S_, .i32⟩
  | 71 => ⟨S2x32x1x1, .i32⟩
  | 72 => ⟨S2x32x1x1, .i32⟩
  | 73 => ⟨S2x32x1x1, .i32⟩
  | 74 => ⟨S2x32x1x1, .i32⟩
  | 75 => ⟨S2x32x1x1, .i32⟩
  | 76 => ⟨S_, .i32⟩
  | 77 => ⟨S2x32x1x1, .i32⟩
  | 78 => ⟨S2x32x1x1, .i32⟩
  | 79 => ⟨S_, .i32⟩
  | 80 => ⟨S2x32x1x1, .i32⟩
  | 81 => ⟨S2x32x1x1, .i32⟩
  | 82 => ⟨S2x32x1x1, .i32⟩
  | 83 => ⟨S2x32x1x1, .i32⟩
  | 84 => ⟨S2x32x1x1, .i32⟩
  | 85 => ⟨S2x32x1x1, .i32⟩
  | 86 => ⟨S2x32x1x1, .i32⟩
  | 87 => ⟨S2x32x1x1, .i32⟩
  | 88 => ⟨S_, .i32⟩
  | 89 => ⟨S2x32x1x1, .i32⟩
  | 90 => ⟨S2x32x1x1, .i32⟩
  | 91 => ⟨S2x32x1x1, .i32⟩
  | 92 => ⟨S_, .i32⟩
  | 93 => ⟨S2x32x1x1, .i32⟩
  | 94 => ⟨S2x32x1x1, .i32⟩
  | 95 => ⟨S_, .i32⟩
  | 96 => ⟨S2x32x1x1, .i32⟩
  | 97 => ⟨S2x32x1x1, .i32⟩
  | 98 => ⟨S2x32x1x1, .i32⟩
  | 99 => ⟨S2x32x1x1, .i32⟩
  | 100 => ⟨S2x32x1x1, .i32⟩
  | 101 => ⟨S_, .i32⟩
  | 102 => ⟨S2x32x1x1, .i32⟩
  | 103 => ⟨S2x32x1x1, .i32⟩
  | 104 => ⟨S_, .i32⟩
  | 105 => ⟨S2x32x1x1, .i32⟩
  | 106 => ⟨S2x32x1x1, .i32⟩
  | 107 => ⟨S2x32x1x1, .i32⟩
  | 108 => ⟨S2x32x1x1, .i32⟩
  | 109 => ⟨S2x32x1x1, .i32⟩
  | 110 => ⟨S_, .i32⟩
  | 111 => ⟨S2x32x1x1, .i32⟩
  | 112 => ⟨S2x32x1x1, .i32⟩
  | 113 => ⟨S_, .i32⟩
  | 114 => ⟨S2x32x1x1, .i32⟩
  | 115 => ⟨S2x32x1x1, .i32⟩
  | 116 => ⟨S2x32x1x1, .i32⟩
  | 117 => ⟨S2x32x1x1, .i32⟩
  | 118 => ⟨S2x32x1x1, .i32⟩
  | 119 => ⟨S_, .i32⟩
  | 120 => ⟨S2x32x1x1, .i32⟩
  | 121 => ⟨S2x32x1x1, .i32⟩
  | 122 => ⟨S_, .i32⟩
  | 123 => ⟨S2x32x1x1, .i32⟩
  | 124 => ⟨S2x32x1x1, .i32⟩
  | 125 => ⟨S2x32x1x1, .i32⟩
  | 126 => ⟨S2x32x1x1, .i32⟩
  | 127 => ⟨S2x32x1x1, .i32⟩
  | _ => ⟨S2x32x1x160000, .f32⟩

abbrev hbmTy0_6 (i : Nat) : BufTy := match i % 128 with
  | 0 => ⟨S2x32x1x1, .i32⟩
  | 1 => ⟨S2x32x1x1, .i32⟩
  | 2 => ⟨S2x32x1x1, .i32⟩
  | 3 => ⟨S_, .i32⟩
  | 4 => ⟨S2x32x1x1, .i32⟩
  | 5 => ⟨S2x32x1x1, .i32⟩
  | 6 => ⟨S2x32x1x1, .i32⟩
  | 7 => ⟨S1x1x1x1, .i32⟩
  | 8 => ⟨S1x1x1x1, .i32⟩
  | 9 => ⟨S1x1x1x1, .i1⟩
  | 10 => ⟨S_, .i32⟩
  | 11 => ⟨S1x1x1x1, .i32⟩
  | 12 => ⟨S1x1x1x1, .i32⟩
  | 13 => ⟨S1x1x1x1, .i1⟩
  | 14 => ⟨S1x1x1x1, .i1⟩
  | 15 => ⟨S1x1x1x1, .i1⟩
  | 16 => ⟨S_, .i32⟩
  | 17 => ⟨S1x1x1x1, .i32⟩
  | 18 => ⟨S1x1x1x1, .i32⟩
  | 19 => ⟨S1x1x1x1, .i32⟩
  | 20 => ⟨S_, .i32⟩
  | 21 => ⟨S1x1x1x1, .i32⟩
  | 22 => ⟨S1x1x1x1, .i32⟩
  | 23 => ⟨S1x1x1x1, .i32⟩
  | 24 => ⟨S1x1x1x1, .i32⟩
  | 25 => ⟨S2x32x1x1, .i32⟩
  | 26 => ⟨S2x32x1x1, .i32⟩
  | 27 => ⟨S2x32x1x1, .i32⟩
  | 28 => ⟨S2x32x1x1, .i32⟩
  | 29 => ⟨S2x32x1x1, .i32⟩
  | 30 => ⟨S2x32x1x1, .i32⟩
  | 31 => ⟨S2x32x1x1, .i32⟩
  | 32 => ⟨S2x32x1x1, .i32⟩
  | 33 => ⟨S2x32x1x1, .i32⟩
  | 34 => ⟨S2x32x1x1, .i32⟩
  | 35 => ⟨S2x32x1x1, .i32⟩
  | 36 => ⟨S2x32x1x1, .i32⟩
  | 37 => ⟨S152000, .i32⟩
  | 38 => ⟨S1x1x1x152000, .i32⟩
  | 39 => ⟨S2x32x1x152000, .i32⟩
  | 40 => ⟨S2x32x1x152000, .i32⟩
  | 41 => ⟨S2x32x1x152000, .i32⟩
  | 42 => ⟨S_, .i32⟩
  | 43 => ⟨S2x32x1x152000, .i32⟩
  | 44 => ⟨S2x32x1x152000, .i1⟩
  | 45 => ⟨S_, .i32⟩
  | 46 => ⟨S2x32x1x152000, .i32⟩
  | 47 => ⟨S2x32x1x152000, .i32⟩
  | 48 => ⟨S2x32x1x152000, .i32⟩
  | 49 => ⟨S2x32x152000x1, .i32⟩
  | 50 => ⟨S1, .i32⟩
  | 51 => ⟨S_, .i32⟩
  | 52 => ⟨S2x32x152000x1, .i32⟩
  | 53 => ⟨S2x32x152000x1, .i1⟩
  | 54 => ⟨S1x1x1x1, .i32⟩
  | 55 => ⟨S2x32x152000x1, .i32⟩
  | 56 => ⟨S2x32x152000x1, .i1⟩
  | 57 => ⟨S2x32x152000x1, .i1⟩
  | 58 => ⟨S_, .i1⟩
  | 59 => ⟨S2x32x152000, .i1⟩
  | 60 => ⟨S2x32x1x152000, .f32⟩
  | 61 => ⟨S2x32x1x152000, .i1⟩
  | 62 => ⟨S_, .f32⟩
  | 63 => ⟨S2x32x1x152000, .f32⟩
  | 64 => ⟨S2x32x1x152000, .f32⟩
  | _ => ⟨S2x32x1x160000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x32x1x160000, .f32⟩

abbrev bufTy : (tb : Table) → Fin (tcTables nBuf tb) → BufTy
  | .hbm, ⟨i, _⟩ => hbmTy i
  | _, _ => ⟨S2x32x1x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_call0_c : Ref sig .tc := ⟨.hbm, 13, rfl⟩
abbrev main_call0_c_0 : Ref sig .tc := ⟨.hbm, 14, rfl⟩
abbrev main_call0_c_1 : Ref sig .tc := ⟨.hbm, 15, rfl⟩
abbrev main_call0_call0_v0 : Ref sig .tc := ⟨.hbm, 16, rfl⟩
abbrev main_call0_v0 : Ref sig .tc := ⟨.hbm, 17, rfl⟩
abbrev main_call0_v1 : Ref sig .tc := ⟨.hbm, 18, rfl⟩
abbrev main_call0_c_2 : Ref sig .tc := ⟨.hbm, 19, rfl⟩
abbrev main_call0_c_3 : Ref sig .tc := ⟨.hbm, 20, rfl⟩
abbrev main_call0_call1_v0 : Ref sig .tc := ⟨.hbm, 21, rfl⟩
abbrev main_call0_v2 : Ref sig .tc := ⟨.hbm, 22, rfl⟩
abbrev main_call0_v3 : Ref sig .tc := ⟨.hbm, 23, rfl⟩
abbrev main_call0_c_4 : Ref sig .tc := ⟨.hbm, 24, rfl⟩
abbrev main_call0_c_5 : Ref sig .tc := ⟨.hbm, 25, rfl⟩
abbrev main_call0_call2_v0 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_call3_v0 : Ref sig .tc := ⟨.hbm, 31, rfl⟩
abbrev main_call0_call3_v1 : Ref sig .tc := ⟨.hbm, 32, rfl⟩
abbrev main_call0_call3_v2 : Ref sig .tc := ⟨.hbm, 33, rfl⟩
abbrev main_call0_call3_v3 : Ref sig .tc := ⟨.hbm, 34, rfl⟩
abbrev main_call0_call3_v4 : Ref sig .tc := ⟨.hbm, 35, rfl⟩
abbrev main_call0_call3_c : Ref sig .tc := ⟨.hbm, 36, rfl⟩
abbrev main_call0_call3_v5 : Ref sig .tc := ⟨.hbm, 37, rfl⟩
abbrev main_call0_call3_v6 : Ref sig .tc := ⟨.hbm, 38, rfl⟩
abbrev main_call0_call3_c_0 : Ref sig .tc := ⟨.hbm, 39, rfl⟩
abbrev main_call0_call3_v7 : Ref sig .tc := ⟨.hbm, 40, rfl⟩
abbrev main_call0_call3_v8 : Ref sig .tc := ⟨.hbm, 41, rfl⟩
abbrev main_call0_call3_v9 : Ref sig .tc := ⟨.hbm, 42, rfl⟩
abbrev main_call0_call3_v10 : Ref sig .tc := ⟨.hbm, 43, rfl⟩
abbrev main_call0_call3_call0_v0 : Ref sig .tc := ⟨.hbm, 44, rfl⟩
abbrev main_call0_call3_call0_c : Ref sig .tc := ⟨.hbm, 45, rfl⟩
abbrev main_call0_call3_call0_v1 : Ref sig .tc := ⟨.hbm, 46, rfl⟩
abbrev main_call0_call3_call0_v2 : Ref sig .tc := ⟨.hbm, 47, rfl⟩
abbrev main_call0_call3_call0_v3 : Ref sig .tc := ⟨.hbm, 48, rfl⟩
abbrev main_call0_call3_call0_v4 : Ref sig .tc := ⟨.hbm, 49, rfl⟩
abbrev main_call0_call3_call0_v5 : Ref sig .tc := ⟨.hbm, 50, rfl⟩
abbrev main_call0_call3_call0_v6 : Ref sig .tc := ⟨.hbm, 51, rfl⟩
abbrev main_call0_call3_call0_c_0 : Ref sig .tc := ⟨.hbm, 52, rfl⟩
abbrev main_call0_call3_call0_v7 : Ref sig .tc := ⟨.hbm, 53, rfl⟩
abbrev main_call0_call3_call0_v8 : Ref sig .tc := ⟨.hbm, 54, rfl⟩
abbrev main_call0_call3_call0_c_1 : Ref sig .tc := ⟨.hbm, 55, rfl⟩
abbrev main_call0_call3_call0_v9 : Ref sig .tc := ⟨.hbm, 56, rfl⟩
abbrev main_call0_call3_call0_v10 : Ref sig .tc := ⟨.hbm, 57, rfl⟩
abbrev main_call0_call3_call0_v11 : Ref sig .tc := ⟨.hbm, 58, rfl⟩
abbrev main_call0_call3_call0_v12 : Ref sig .tc := ⟨.hbm, 59, rfl⟩
abbrev main_call0_call3_call0_v13 : Ref sig .tc := ⟨.hbm, 60, rfl⟩
abbrev main_call0_call3_call0_c_2 : Ref sig .tc := ⟨.hbm, 61, rfl⟩
abbrev main_call0_call3_call0_v14 : Ref sig .tc := ⟨.hbm, 62, rfl⟩
abbrev main_call0_call3_call0_v15 : Ref sig .tc := ⟨.hbm, 63, rfl⟩
abbrev main_call0_call3_call0_c_3 : Ref sig .tc := ⟨.hbm, 64, rfl⟩
abbrev main_call0_call3_call0_v16 : Ref sig .tc := ⟨.hbm, 65, rfl⟩
abbrev main_call0_call3_call0_v17 : Ref sig .tc := ⟨.hbm, 66, rfl⟩
abbrev main_call0_call3_call0_v18 : Ref sig .tc := ⟨.hbm, 67, rfl⟩
abbrev main_call0_call3_call0_v19 : Ref sig .tc := ⟨.hbm, 68, rfl⟩
abbrev main_call0_call3_call0_v20 : Ref sig .tc := ⟨.hbm, 69, rfl⟩
abbrev main_call0_call3_call0_c_4 : Ref sig .tc := ⟨.hbm, 70, rfl⟩
abbrev main_call0_call3_call0_v21 : Ref sig .tc := ⟨.hbm, 71, rfl⟩
abbrev main_call0_call3_call0_v22 : Ref sig .tc := ⟨.hbm, 72, rfl⟩
abbrev main_call0_call3_call0_c_5 : Ref sig .tc := ⟨.hbm, 73, rfl⟩
abbrev main_call0_call3_call0_v23 : Ref sig .tc := ⟨.hbm, 74, rfl⟩
abbrev main_call0_call3_call0_v24 : Ref sig .tc := ⟨.hbm, 75, rfl⟩
abbrev main_call0_call3_call0_v25 : Ref sig .tc := ⟨.hbm, 76, rfl⟩
abbrev main_call0_call3_call0_v26 : Ref sig .tc := ⟨.hbm, 77, rfl⟩
abbrev main_call0_call3_call0_v27 : Ref sig .tc := ⟨.hbm, 78, rfl⟩
abbrev main_call0_call3_call0_c_6 : Ref sig .tc := ⟨.hbm, 79, rfl⟩
abbrev main_call0_call3_call0_v28 : Ref sig .tc := ⟨.hbm, 80, rfl⟩
abbrev main_call0_call3_call0_v29 : Ref sig .tc := ⟨.hbm, 81, rfl⟩
abbrev main_call0_call3_call0_c_7 : Ref sig .tc := ⟨.hbm, 82, rfl⟩
abbrev main_call0_call3_call0_v30 : Ref sig .tc := ⟨.hbm, 83, rfl⟩
abbrev main_call0_call3_call0_v31 : Ref sig .tc := ⟨.hbm, 84, rfl⟩
abbrev main_call0_call3_call0_v32 : Ref sig .tc := ⟨.hbm, 85, rfl⟩
abbrev main_call0_call3_call0_v33 : Ref sig .tc := ⟨.hbm, 86, rfl⟩
abbrev main_call0_call3_call0_v34 : Ref sig .tc := ⟨.hbm, 87, rfl⟩
abbrev main_call0_call3_call0_v35 : Ref sig .tc := ⟨.hbm, 88, rfl⟩
abbrev main_call0_call3_call0_v36 : Ref sig .tc := ⟨.hbm, 89, rfl⟩
abbrev main_call0_call3_call0_v37 : Ref sig .tc := ⟨.hbm, 90, rfl⟩
abbrev main_call0_call3_call0_c_8 : Ref sig .tc := ⟨.hbm, 91, rfl⟩
abbrev main_call0_call3_call0_v38 : Ref sig .tc := ⟨.hbm, 92, rfl⟩
abbrev main_call0_call3_call0_v39 : Ref sig .tc := ⟨.hbm, 93, rfl⟩
abbrev main_call0_call3_call0_v40 : Ref sig .tc := ⟨.hbm, 94, rfl⟩
abbrev main_call0_call3_call0_c_9 : Ref sig .tc := ⟨.hbm, 95, rfl⟩
abbrev main_call0_call3_call0_v41 : Ref sig .tc := ⟨.hbm, 96, rfl⟩
abbrev main_call0_call3_call0_v42 : Ref sig .tc := ⟨.hbm, 97, rfl⟩
abbrev main_call0_call3_call0_c_10 : Ref sig .tc := ⟨.hbm, 98, rfl⟩
abbrev main_call0_call3_call0_v43 : Ref sig .tc := ⟨.hbm, 99, rfl⟩
abbrev main_call0_call3_call0_v44 : Ref sig .tc := ⟨.hbm, 100, rfl⟩
abbrev main_call0_call3_call0_v45 : Ref sig .tc := ⟨.hbm, 101, rfl⟩
abbrev main_call0_call3_call0_v46 : Ref sig .tc := ⟨.hbm, 102, rfl⟩
abbrev main_call0_call3_call0_v47 : Ref sig .tc := ⟨.hbm, 103, rfl⟩
abbrev main_call0_call3_call0_c_11 : Ref sig .tc := ⟨.hbm, 104, rfl⟩
abbrev main_call0_call3_call0_v48 : Ref sig .tc := ⟨.hbm, 105, rfl⟩
abbrev main_call0_call3_call0_v49 : Ref sig .tc := ⟨.hbm, 106, rfl⟩
abbrev main_call0_call3_call0_c_12 : Ref sig .tc := ⟨.hbm, 107, rfl⟩
abbrev main_call0_call3_call0_v50 : Ref sig .tc := ⟨.hbm, 108, rfl⟩
abbrev main_call0_call3_call0_v51 : Ref sig .tc := ⟨.hbm, 109, rfl⟩
abbrev main_call0_call3_call0_v52 : Ref sig .tc := ⟨.hbm, 110, rfl⟩
abbrev main_call0_call3_call0_v53 : Ref sig .tc := ⟨.hbm, 111, rfl⟩
abbrev main_call0_call3_call0_v54 : Ref sig .tc := ⟨.hbm, 112, rfl⟩
abbrev main_call0_call3_call0_c_13 : Ref sig .tc := ⟨.hbm, 113, rfl⟩
abbrev main_call0_call3_call0_v55 : Ref sig .tc := ⟨.hbm, 114, rfl⟩
abbrev main_call0_call3_call0_v56 : Ref sig .tc := ⟨.hbm, 115, rfl⟩
abbrev main_call0_call3_call0_c_14 : Ref sig .tc := ⟨.hbm, 116, rfl⟩
abbrev main_call0_call3_call0_v57 : Ref sig .tc := ⟨.hbm, 117, rfl⟩
abbrev main_call0_call3_call0_v58 : Ref sig .tc := ⟨.hbm, 118, rfl⟩
abbrev main_call0_call3_call0_v59 : Ref sig .tc := ⟨.hbm, 119, rfl⟩
abbrev main_call0_call3_call0_v60 : Ref sig .tc := ⟨.hbm, 120, rfl⟩
abbrev main_call0_call3_call0_v61 : Ref sig .tc := ⟨.hbm, 121, rfl⟩
abbrev main_call0_call3_call0_c_15 : Ref sig .tc := ⟨.hbm, 122, rfl⟩
abbrev main_call0_call3_call0_v62 : Ref sig .tc := ⟨.hbm, 123, rfl⟩
abbrev main_call0_call3_call0_v63 : Ref sig .tc := ⟨.hbm, 124, rfl⟩
abbrev main_call0_call3_call0_c_16 : Ref sig .tc := ⟨.hbm, 125, rfl⟩
abbrev main_call0_call3_call0_v64 : Ref sig .tc := ⟨.hbm, 126, rfl⟩
abbrev main_call0_call3_call0_v65 : Ref sig .tc := ⟨.hbm, 127, rfl⟩
abbrev main_call0_call3_call0_v66 : Ref sig .tc := ⟨.hbm, 128, rfl⟩
abbrev main_call0_call3_call0_v67 : Ref sig .tc := ⟨.hbm, 129, rfl⟩
abbrev main_call0_call3_call0_v68 : Ref sig .tc := ⟨.hbm, 130, rfl⟩
abbrev main_call0_call3_call0_v69 : Ref sig .tc := ⟨.hbm, 131, rfl⟩
abbrev main_call0_call3_call0_v70 : Ref sig .tc := ⟨.hbm, 132, rfl⟩
abbrev main_call0_call3_call0_v71 : Ref sig .tc := ⟨.hbm, 133, rfl⟩
abbrev main_call0_call3_call0_c_17 : Ref sig .tc := ⟨.hbm, 134, rfl⟩
abbrev main_call0_call3_call0_v72 : Ref sig .tc := ⟨.hbm, 135, rfl⟩
abbrev main_call0_call3_call0_v73 : Ref sig .tc := ⟨.hbm, 136, rfl⟩
abbrev main_call0_call3_call0_v74 : Ref sig .tc := ⟨.hbm, 137, rfl⟩
abbrev main_call0_call3_call0_c_18 : Ref sig .tc := ⟨.hbm, 138, rfl⟩
abbrev main_call0_call3_call0_v75 : Ref sig .tc := ⟨.hbm, 139, rfl⟩
abbrev main_call0_call3_call0_v76 : Ref sig .tc := ⟨.hbm, 140, rfl⟩
abbrev main_call0_call3_call0_c_19 : Ref sig .tc := ⟨.hbm, 141, rfl⟩
abbrev main_call0_call3_call0_v77 : Ref sig .tc := ⟨.hbm, 142, rfl⟩
abbrev main_call0_call3_call0_v78 : Ref sig .tc := ⟨.hbm, 143, rfl⟩
abbrev main_call0_call3_call0_v79 : Ref sig .tc := ⟨.hbm, 144, rfl⟩
abbrev main_call0_call3_call0_v80 : Ref sig .tc := ⟨.hbm, 145, rfl⟩
abbrev main_call0_call3_call0_v81 : Ref sig .tc := ⟨.hbm, 146, rfl⟩
abbrev main_call0_call3_call0_c_20 : Ref sig .tc := ⟨.hbm, 147, rfl⟩
abbrev main_call0_call3_call0_v82 : Ref sig .tc := ⟨.hbm, 148, rfl⟩
abbrev main_call0_call3_call0_v83 : Ref sig .tc := ⟨.hbm, 149, rfl⟩
abbrev main_call0_call3_call0_c_21 : Ref sig .tc := ⟨.hbm, 150, rfl⟩
abbrev main_call0_call3_call0_v84 : Ref sig .tc := ⟨.hbm, 151, rfl⟩
abbrev main_call0_call3_call0_v85 : Ref sig .tc := ⟨.hbm, 152, rfl⟩
abbrev main_call0_call3_call0_v86 : Ref sig .tc := ⟨.hbm, 153, rfl⟩
abbrev main_call0_call3_call0_v87 : Ref sig .tc := ⟨.hbm, 154, rfl⟩
abbrev main_call0_call3_call0_v88 : Ref sig .tc := ⟨.hbm, 155, rfl⟩
abbrev main_call0_call3_call0_c_22 : Ref sig .tc := ⟨.hbm, 156, rfl⟩
abbrev main_call0_call3_call0_v89 : Ref sig .tc := ⟨.hbm, 157, rfl⟩
abbrev main_call0_call3_call0_v90 : Ref sig .tc := ⟨.hbm, 158, rfl⟩
abbrev main_call0_call3_call0_c_23 : Ref sig .tc := ⟨.hbm, 159, rfl⟩
abbrev main_call0_call3_call0_v91 : Ref sig .tc := ⟨.hbm, 160, rfl⟩
abbrev main_call0_call3_call0_v92 : Ref sig .tc := ⟨.hbm, 161, rfl⟩
abbrev main_call0_call3_call0_v93 : Ref sig .tc := ⟨.hbm, 162, rfl⟩
abbrev main_call0_call3_call0_v94 : Ref sig .tc := ⟨.hbm, 163, rfl⟩
abbrev main_call0_call3_call0_v95 : Ref sig .tc := ⟨.hbm, 164, rfl⟩
abbrev main_call0_call3_call0_c_24 : Ref sig .tc := ⟨.hbm, 165, rfl⟩
abbrev main_call0_call3_call0_v96 : Ref sig .tc := ⟨.hbm, 166, rfl⟩
abbrev main_call0_call3_call0_v97 : Ref sig .tc := ⟨.hbm, 167, rfl⟩
abbrev main_call0_call3_call0_c_25 : Ref sig .tc := ⟨.hbm, 168, rfl⟩
abbrev main_call0_call3_call0_v98 : Ref sig .tc := ⟨.hbm, 169, rfl⟩
abbrev main_call0_call3_call0_v99 : Ref sig .tc := ⟨.hbm, 170, rfl⟩
abbrev main_call0_call3_call0_v100 : Ref sig .tc := ⟨.hbm, 171, rfl⟩
abbrev main_call0_call3_call0_v101 : Ref sig .tc := ⟨.hbm, 172, rfl⟩
abbrev main_call0_call3_call0_v102 : Ref sig .tc := ⟨.hbm, 173, rfl⟩
abbrev main_call0_call3_call0_v103 : Ref sig .tc := ⟨.hbm, 174, rfl⟩
abbrev main_call0_call3_call0_v104 : Ref sig .tc := ⟨.hbm, 175, rfl⟩
abbrev main_call0_call3_call0_v105 : Ref sig .tc := ⟨.hbm, 176, rfl⟩
abbrev main_call0_call3_call0_c_26 : Ref sig .tc := ⟨.hbm, 177, rfl⟩
abbrev main_call0_call3_call0_v106 : Ref sig .tc := ⟨.hbm, 178, rfl⟩
abbrev main_call0_call3_call0_v107 : Ref sig .tc := ⟨.hbm, 179, rfl⟩
abbrev main_call0_call3_call0_v108 : Ref sig .tc := ⟨.hbm, 180, rfl⟩
abbrev main_call0_call3_call0_c_27 : Ref sig .tc := ⟨.hbm, 181, rfl⟩
abbrev main_call0_call3_call0_v109 : Ref sig .tc := ⟨.hbm, 182, rfl⟩
abbrev main_call0_call3_call0_v110 : Ref sig .tc := ⟨.hbm, 183, rfl⟩
abbrev main_call0_call3_call0_c_28 : Ref sig .tc := ⟨.hbm, 184, rfl⟩
abbrev main_call0_call3_call0_v111 : Ref sig .tc := ⟨.hbm, 185, rfl⟩
abbrev main_call0_call3_call0_v112 : Ref sig .tc := ⟨.hbm, 186, rfl⟩
abbrev main_call0_call3_call0_v113 : Ref sig .tc := ⟨.hbm, 187, rfl⟩
abbrev main_call0_call3_call0_v114 : Ref sig .tc := ⟨.hbm, 188, rfl⟩
abbrev main_call0_call3_call0_v115 : Ref sig .tc := ⟨.hbm, 189, rfl⟩
abbrev main_call0_call3_call0_c_29 : Ref sig .tc := ⟨.hbm, 190, rfl⟩
abbrev main_call0_call3_call0_v116 : Ref sig .tc := ⟨.hbm, 191, rfl⟩
abbrev main_call0_call3_call0_v117 : Ref sig .tc := ⟨.hbm, 192, rfl⟩
abbrev main_call0_call3_call0_c_30 : Ref sig .tc := ⟨.hbm, 193, rfl⟩
abbrev main_call0_call3_call0_v118 : Ref sig .tc := ⟨.hbm, 194, rfl⟩
abbrev main_call0_call3_call0_v119 : Ref sig .tc := ⟨.hbm, 195, rfl⟩
abbrev main_call0_call3_call0_v120 : Ref sig .tc := ⟨.hbm, 196, rfl⟩
abbrev main_call0_call3_call0_v121 : Ref sig .tc := ⟨.hbm, 197, rfl⟩
abbrev main_call0_call3_call0_v122 : Ref sig .tc := ⟨.hbm, 198, rfl⟩
abbrev main_call0_call3_call0_c_31 : Ref sig .tc := ⟨.hbm, 199, rfl⟩
abbrev main_call0_call3_call0_v123 : Ref sig .tc := ⟨.hbm, 200, rfl⟩
abbrev main_call0_call3_call0_v124 : Ref sig .tc := ⟨.hbm, 201, rfl⟩
abbrev main_call0_call3_call0_c_32 : Ref sig .tc := ⟨.hbm, 202, rfl⟩
abbrev main_call0_call3_call0_v125 : Ref sig .tc := ⟨.hbm, 203, rfl⟩
abbrev main_call0_call3_call0_v126 : Ref sig .tc := ⟨.hbm, 204, rfl⟩
abbrev main_call0_call3_call0_v127 : Ref sig .tc := ⟨.hbm, 205, rfl⟩
abbrev main_call0_call3_call0_v128 : Ref sig .tc := ⟨.hbm, 206, rfl⟩
abbrev main_call0_call3_call0_v129 : Ref sig .tc := ⟨.hbm, 207, rfl⟩
abbrev main_call0_call3_call0_c_33 : Ref sig .tc := ⟨.hbm, 208, rfl⟩
abbrev main_call0_call3_call0_v130 : Ref sig .tc := ⟨.hbm, 209, rfl⟩
abbrev main_call0_call3_call0_v131 : Ref sig .tc := ⟨.hbm, 210, rfl⟩
abbrev main_call0_call3_call0_c_34 : Ref sig .tc := ⟨.hbm, 211, rfl⟩
abbrev main_call0_call3_call0_v132 : Ref sig .tc := ⟨.hbm, 212, rfl⟩
abbrev main_call0_call3_call0_v133 : Ref sig .tc := ⟨.hbm, 213, rfl⟩
abbrev main_call0_call3_call0_v134 : Ref sig .tc := ⟨.hbm, 214, rfl⟩
abbrev main_call0_call3_call0_v135 : Ref sig .tc := ⟨.hbm, 215, rfl⟩
abbrev main_call0_call3_call0_v136 : Ref sig .tc := ⟨.hbm, 216, rfl⟩
abbrev main_call0_call3_call0_v137 : Ref sig .tc := ⟨.hbm, 217, rfl⟩
abbrev main_call0_call3_call0_v138 : Ref sig .tc := ⟨.hbm, 218, rfl⟩
abbrev main_call0_call3_call0_v139 : Ref sig .tc := ⟨.hbm, 219, rfl⟩
abbrev main_call0_call3_call0_c_35 : Ref sig .tc := ⟨.hbm, 220, rfl⟩
abbrev main_call0_call3_call0_v140 : Ref sig .tc := ⟨.hbm, 221, rfl⟩
abbrev main_call0_call3_call0_v141 : Ref sig .tc := ⟨.hbm, 222, rfl⟩
abbrev main_call0_call3_call0_v142 : Ref sig .tc := ⟨.hbm, 223, rfl⟩
abbrev main_call0_call3_call0_c_36 : Ref sig .tc := ⟨.hbm, 224, rfl⟩
abbrev main_call0_call3_call0_v143 : Ref sig .tc := ⟨.hbm, 225, rfl⟩
abbrev main_call0_call3_call0_v144 : Ref sig .tc := ⟨.hbm, 226, rfl⟩
abbrev main_call0_call3_call0_c_37 : Ref sig .tc := ⟨.hbm, 227, rfl⟩
abbrev main_call0_call3_call0_v145 : Ref sig .tc := ⟨.hbm, 228, rfl⟩
abbrev main_call0_call3_call0_v146 : Ref sig .tc := ⟨.hbm, 229, rfl⟩
abbrev main_call0_call3_call0_v147 : Ref sig .tc := ⟨.hbm, 230, rfl⟩
abbrev main_call0_call3_call0_v148 : Ref sig .tc := ⟨.hbm, 231, rfl⟩
abbrev main_call0_call3_call0_v149 : Ref sig .tc := ⟨.hbm, 232, rfl⟩
abbrev main_call0_call3_call0_c_38 : Ref sig .tc := ⟨.hbm, 233, rfl⟩
abbrev main_call0_call3_call0_v150 : Ref sig .tc := ⟨.hbm, 234, rfl⟩
abbrev main_call0_call3_call0_v151 : Ref sig .tc := ⟨.hbm, 235, rfl⟩
abbrev main_call0_call3_call0_c_39 : Ref sig .tc := ⟨.hbm, 236, rfl⟩
abbrev main_call0_call3_call0_v152 : Ref sig .tc := ⟨.hbm, 237, rfl⟩
abbrev main_call0_call3_call0_v153 : Ref sig .tc := ⟨.hbm, 238, rfl⟩
abbrev main_call0_call3_call0_v154 : Ref sig .tc := ⟨.hbm, 239, rfl⟩
abbrev main_call0_call3_call0_v155 : Ref sig .tc := ⟨.hbm, 240, rfl⟩
abbrev main_call0_call3_call0_v156 : Ref sig .tc := ⟨.hbm, 241, rfl⟩
abbrev main_call0_call3_call0_c_40 : Ref sig .tc := ⟨.hbm, 242, rfl⟩
abbrev main_call0_call3_call0_v157 : Ref sig .tc := ⟨.hbm, 243, rfl⟩
abbrev main_call0_call3_call0_v158 : Ref sig .tc := ⟨.hbm, 244, rfl⟩
abbrev main_call0_call3_call0_c_41 : Ref sig .tc := ⟨.hbm, 245, rfl⟩
abbrev main_call0_call3_call0_v159 : Ref sig .tc := ⟨.hbm, 246, rfl⟩
abbrev main_call0_call3_call0_v160 : Ref sig .tc := ⟨.hbm, 247, rfl⟩
abbrev main_call0_call3_call0_v161 : Ref sig .tc := ⟨.hbm, 248, rfl⟩
abbrev main_call0_call3_call0_v162 : Ref sig .tc := ⟨.hbm, 249, rfl⟩
abbrev main_call0_call3_call0_v163 : Ref sig .tc := ⟨.hbm, 250, rfl⟩
abbrev main_call0_call3_call0_c_42 : Ref sig .tc := ⟨.hbm, 251, rfl⟩
abbrev main_call0_call3_call0_v164 : Ref sig .tc := ⟨.hbm, 252, rfl⟩
abbrev main_call0_call3_call0_v165 : Ref sig .tc := ⟨.hbm, 253, rfl⟩
abbrev main_call0_call3_call0_c_43 : Ref sig .tc := ⟨.hbm, 254, rfl⟩
abbrev main_call0_call3_call0_v166 : Ref sig .tc := ⟨.hbm, 255, rfl⟩
abbrev main_call0_call3_call0_v167 : Ref sig .tc := ⟨.hbm, 256, rfl⟩
abbrev main_call0_call3_call0_v168 : Ref sig .tc := ⟨.hbm, 257, rfl⟩
abbrev main_call0_call3_call0_v169 : Ref sig .tc := ⟨.hbm, 258, rfl⟩
abbrev main_call0_call3_call0_v170 : Ref sig .tc := ⟨.hbm, 259, rfl⟩
abbrev main_call0_call3_v11_0 : Ref sig .tc := ⟨.hbm, 260, rfl⟩
abbrev main_call0_call3_call0_v172 : Ref sig .tc := ⟨.hbm, 261, rfl⟩
abbrev main_call0_call3_call0_v173 : Ref sig .tc := ⟨.hbm, 262, rfl⟩
abbrev main_call0_call3_call0_c_44 : Ref sig .tc := ⟨.hbm, 263, rfl⟩
abbrev main_call0_call3_call0_v174 : Ref sig .tc := ⟨.hbm, 264, rfl⟩
abbrev main_call0_call3_v11_1 : Ref sig .tc := ⟨.hbm, 265, rfl⟩
abbrev main_call0_call3_v12 : Ref sig .tc := ⟨.hbm, 266, rfl⟩
abbrev main_call0_call3_v13 : Ref sig .tc := ⟨.hbm, 267, rfl⟩
abbrev main_call0_v8 : Ref sig .tc := ⟨.hbm, 268, rfl⟩
abbrev main_call0_v9 : Ref sig .tc := ⟨.hbm, 269, rfl⟩
abbrev main_call0_v10 : Ref sig .tc := ⟨.hbm, 270, rfl⟩
abbrev main_call0_v11 : Ref sig .tc := ⟨.hbm, 271, rfl⟩
abbrev main_call0_v12 : Ref sig .tc := ⟨.hbm, 272, rfl⟩
abbrev main_call0_v13 : Ref sig .tc := ⟨.hbm, 273, rfl⟩
abbrev main_call0_v14 : Ref sig .tc := ⟨.hbm, 274, rfl⟩
abbrev main_call0_v15 : Ref sig .tc := ⟨.hbm, 275, rfl⟩
abbrev main_call0_v16 : Ref sig .tc := ⟨.hbm, 276, rfl⟩
abbrev main_call0_v17 : Ref sig .tc := ⟨.hbm, 277, rfl⟩
abbrev main_call0_v18 : Ref sig .tc := ⟨.hbm, 278, rfl⟩
abbrev main_call0_v19 : Ref sig .tc := ⟨.hbm, 279, rfl⟩
abbrev main_call0_v20 : Ref sig .tc := ⟨.hbm, 280, rfl⟩
abbrev main_call0_c_6 : Ref sig .tc := ⟨.hbm, 281, rfl⟩
abbrev main_call0_v21 : Ref sig .tc := ⟨.hbm, 282, rfl⟩
abbrev main_call0_v22 : Ref sig .tc := ⟨.hbm, 283, rfl⟩
abbrev main_call0_c_7 : Ref sig .tc := ⟨.hbm, 284, rfl⟩
abbrev main_call0_v23 : Ref sig .tc := ⟨.hbm, 285, rfl⟩
abbrev main_call0_v24 : Ref sig .tc := ⟨.hbm, 286, rfl⟩
abbrev main_call0_c_8 : Ref sig .tc := ⟨.hbm, 287, rfl⟩
abbrev main_call0_v25 : Ref sig .tc := ⟨.hbm, 288, rfl⟩
abbrev main_call0_v26 : Ref sig .tc := ⟨.hbm, 289, rfl⟩
abbrev main_call0_c_9 : Ref sig .tc := ⟨.hbm, 290, rfl⟩
abbrev main_call0_v27 : Ref sig .tc := ⟨.hbm, 291, rfl⟩
abbrev main_call0_v28 : Ref sig .tc := ⟨.hbm, 292, rfl⟩
abbrev main_call0_v29 : Ref sig .tc := ⟨.hbm, 293, rfl⟩
abbrev main_call0_v30 : Ref sig .tc := ⟨.hbm, 294, rfl⟩
abbrev main_call0_v31 : Ref sig .tc := ⟨.hbm, 295, rfl⟩
abbrev main_call0_c_10 : Ref sig .tc := ⟨.hbm, 296, rfl⟩
abbrev main_call0_v32 : Ref sig .tc := ⟨.hbm, 297, rfl⟩
abbrev main_call0_v33 : Ref sig .tc := ⟨.hbm, 298, rfl⟩
abbrev main_call0_v34 : Ref sig .tc := ⟨.hbm, 299, rfl⟩
abbrev main_call0_v35 : Ref sig .tc := ⟨.hbm, 300, rfl⟩
abbrev main_call0_call4_v0 : Ref sig .tc := ⟨.hbm, 301, rfl⟩
abbrev main_call0_call4_c : Ref sig .tc := ⟨.hbm, 302, rfl⟩
abbrev main_call0_call4_v1 : Ref sig .tc := ⟨.hbm, 303, rfl⟩
abbrev main_call0_call4_v2 : Ref sig .tc := ⟨.hbm, 304, rfl⟩
abbrev main_call0_call4_v3 : Ref sig .tc := ⟨.hbm, 305, rfl⟩
abbrev main_call0_call4_v4 : Ref sig .tc := ⟨.hbm, 306, rfl⟩
abbrev main_call0_call4_v5 : Ref sig .tc := ⟨.hbm, 307, rfl⟩
abbrev main_call0_call4_v6 : Ref sig .tc := ⟨.hbm, 308, rfl⟩
abbrev main_call0_call4_c_0 : Ref sig .tc := ⟨.hbm, 309, rfl⟩
abbrev main_call0_call4_v7 : Ref sig .tc := ⟨.hbm, 310, rfl⟩
abbrev main_call0_call4_v8 : Ref sig .tc := ⟨.hbm, 311, rfl⟩
abbrev main_call0_call4_c_1 : Ref sig .tc := ⟨.hbm, 312, rfl⟩
abbrev main_call0_call4_v9 : Ref sig .tc := ⟨.hbm, 313, rfl⟩
abbrev main_call0_call4_v10 : Ref sig .tc := ⟨.hbm, 314, rfl⟩
abbrev main_call0_call4_v11 : Ref sig .tc := ⟨.hbm, 315, rfl⟩
abbrev main_call0_call4_v12 : Ref sig .tc := ⟨.hbm, 316, rfl⟩
abbrev main_call0_call4_v13 : Ref sig .tc := ⟨.hbm, 317, rfl⟩
abbrev main_call0_call4_c_2 : Ref sig .tc := ⟨.hbm, 318, rfl⟩
abbrev main_call0_call4_v14 : Ref sig .tc := ⟨.hbm, 319, rfl⟩
abbrev main_call0_call4_v15 : Ref sig .tc := ⟨.hbm, 320, rfl⟩
abbrev main_call0_call4_c_3 : Ref sig .tc := ⟨.hbm, 321, rfl⟩
abbrev main_call0_call4_v16 : Ref sig .tc := ⟨.hbm, 322, rfl⟩
abbrev main_call0_call4_v17 : Ref sig .tc := ⟨.hbm, 323, rfl⟩
abbrev main_call0_call4_v18 : Ref sig .tc := ⟨.hbm, 324, rfl⟩
abbrev main_call0_call4_v19 : Ref sig .tc := ⟨.hbm, 325, rfl⟩
abbrev main_call0_call4_v20 : Ref sig .tc := ⟨.hbm, 326, rfl⟩
abbrev main_call0_call4_c_4 : Ref sig .tc := ⟨.hbm, 327, rfl⟩
abbrev main_call0_call4_v21 : Ref sig .tc := ⟨.hbm, 328, rfl⟩
abbrev main_call0_call4_v22 : Ref sig .tc := ⟨.hbm, 329, rfl⟩
abbrev main_call0_call4_c_5 : Ref sig .tc := ⟨.hbm, 330, rfl⟩
abbrev main_call0_call4_v23 : Ref sig .tc := ⟨.hbm, 331, rfl⟩
abbrev main_call0_call4_v24 : Ref sig .tc := ⟨.hbm, 332, rfl⟩
abbrev main_call0_call4_v25 : Ref sig .tc := ⟨.hbm, 333, rfl⟩
abbrev main_call0_call4_v26 : Ref sig .tc := ⟨.hbm, 334, rfl⟩
abbrev main_call0_call4_v27 : Ref sig .tc := ⟨.hbm, 335, rfl⟩
abbrev main_call0_call4_c_6 : Ref sig .tc := ⟨.hbm, 336, rfl⟩
abbrev main_call0_call4_v28 : Ref sig .tc := ⟨.hbm, 337, rfl⟩
abbrev main_call0_call4_v29 : Ref sig .tc := ⟨.hbm, 338, rfl⟩
abbrev main_call0_call4_c_7 : Ref sig .tc := ⟨.hbm, 339, rfl⟩
abbrev main_call0_call4_v30 : Ref sig .tc := ⟨.hbm, 340, rfl⟩
abbrev main_call0_call4_v31 : Ref sig .tc := ⟨.hbm, 341, rfl⟩
abbrev main_call0_call4_v32 : Ref sig .tc := ⟨.hbm, 342, rfl⟩
abbrev main_call0_call4_v33 : Ref sig .tc := ⟨.hbm, 343, rfl⟩
abbrev main_call0_call4_v34 : Ref sig .tc := ⟨.hbm, 344, rfl⟩
abbrev main_call0_call4_v35 : Ref sig .tc := ⟨.hbm, 345, rfl⟩
abbrev main_call0_call4_v36 : Ref sig .tc := ⟨.hbm, 346, rfl⟩
abbrev main_call0_call4_v37 : Ref sig .tc := ⟨.hbm, 347, rfl⟩
abbrev main_call0_call4_c_8 : Ref sig .tc := ⟨.hbm, 348, rfl⟩
abbrev main_call0_call4_v38 : Ref sig .tc := ⟨.hbm, 349, rfl⟩
abbrev main_call0_call4_v39 : Ref sig .tc := ⟨.hbm, 350, rfl⟩
abbrev main_call0_call4_v40 : Ref sig .tc := ⟨.hbm, 351, rfl⟩
abbrev main_call0_call4_c_9 : Ref sig .tc := ⟨.hbm, 352, rfl⟩
abbrev main_call0_call4_v41 : Ref sig .tc := ⟨.hbm, 353, rfl⟩
abbrev main_call0_call4_v42 : Ref sig .tc := ⟨.hbm, 354, rfl⟩
abbrev main_call0_call4_c_10 : Ref sig .tc := ⟨.hbm, 355, rfl⟩
abbrev main_call0_call4_v43 : Ref sig .tc := ⟨.hbm, 356, rfl⟩
abbrev main_call0_call4_v44 : Ref sig .tc := ⟨.hbm, 357, rfl⟩
abbrev main_call0_call4_v45 : Ref sig .tc := ⟨.hbm, 358, rfl⟩
abbrev main_call0_call4_v46 : Ref sig .tc := ⟨.hbm, 359, rfl⟩
abbrev main_call0_call4_v47 : Ref sig .tc := ⟨.hbm, 360, rfl⟩
abbrev main_call0_call4_c_11 : Ref sig .tc := ⟨.hbm, 361, rfl⟩
abbrev main_call0_call4_v48 : Ref sig .tc := ⟨.hbm, 362, rfl⟩
abbrev main_call0_call4_v49 : Ref sig .tc := ⟨.hbm, 363, rfl⟩
abbrev main_call0_call4_c_12 : Ref sig .tc := ⟨.hbm, 364, rfl⟩
abbrev main_call0_call4_v50 : Ref sig .tc := ⟨.hbm, 365, rfl⟩
abbrev main_call0_call4_v51 : Ref sig .tc := ⟨.hbm, 366, rfl⟩
abbrev main_call0_call4_v52 : Ref sig .tc := ⟨.hbm, 367, rfl⟩
abbrev main_call0_call4_v53 : Ref sig .tc := ⟨.hbm, 368, rfl⟩
abbrev main_call0_call4_v54 : Ref sig .tc := ⟨.hbm, 369, rfl⟩
abbrev main_call0_call4_c_13 : Ref sig .tc := ⟨.hbm, 370, rfl⟩
abbrev main_call0_call4_v55 : Ref sig .tc := ⟨.hbm, 371, rfl⟩
abbrev main_call0_call4_v56 : Ref sig .tc := ⟨.hbm, 372, rfl⟩
abbrev main_call0_call4_c_14 : Ref sig .tc := ⟨.hbm, 373, rfl⟩
abbrev main_call0_call4_v57 : Ref sig .tc := ⟨.hbm, 374, rfl⟩
abbrev main_call0_call4_v58 : Ref sig .tc := ⟨.hbm, 375, rfl⟩
abbrev main_call0_call4_v59 : Ref sig .tc := ⟨.hbm, 376, rfl⟩
abbrev main_call0_call4_v60 : Ref sig .tc := ⟨.hbm, 377, rfl⟩
abbrev main_call0_call4_v61 : Ref sig .tc := ⟨.hbm, 378, rfl⟩
abbrev main_call0_call4_c_15 : Ref sig .tc := ⟨.hbm, 379, rfl⟩
abbrev main_call0_call4_v62 : Ref sig .tc := ⟨.hbm, 380, rfl⟩
abbrev main_call0_call4_v63 : Ref sig .tc := ⟨.hbm, 381, rfl⟩
abbrev main_call0_call4_c_16 : Ref sig .tc := ⟨.hbm, 382, rfl⟩
abbrev main_call0_call4_v64 : Ref sig .tc := ⟨.hbm, 383, rfl⟩
abbrev main_call0_call4_v65 : Ref sig .tc := ⟨.hbm, 384, rfl⟩
abbrev main_call0_call4_v66 : Ref sig .tc := ⟨.hbm, 385, rfl⟩
abbrev main_call0_call4_v67 : Ref sig .tc := ⟨.hbm, 386, rfl⟩
abbrev main_call0_call4_v68 : Ref sig .tc := ⟨.hbm, 387, rfl⟩
abbrev main_call0_call4_v69 : Ref sig .tc := ⟨.hbm, 388, rfl⟩
abbrev main_call0_call4_v70 : Ref sig .tc := ⟨.hbm, 389, rfl⟩
abbrev main_call0_call4_v71 : Ref sig .tc := ⟨.hbm, 390, rfl⟩
abbrev main_call0_call4_c_17 : Ref sig .tc := ⟨.hbm, 391, rfl⟩
abbrev main_call0_call4_v72 : Ref sig .tc := ⟨.hbm, 392, rfl⟩
abbrev main_call0_call4_v73 : Ref sig .tc := ⟨.hbm, 393, rfl⟩
abbrev main_call0_call4_v74 : Ref sig .tc := ⟨.hbm, 394, rfl⟩
abbrev main_call0_call4_c_18 : Ref sig .tc := ⟨.hbm, 395, rfl⟩
abbrev main_call0_call4_v75 : Ref sig .tc := ⟨.hbm, 396, rfl⟩
abbrev main_call0_call4_v76 : Ref sig .tc := ⟨.hbm, 397, rfl⟩
abbrev main_call0_call4_c_19 : Ref sig .tc := ⟨.hbm, 398, rfl⟩
abbrev main_call0_call4_v77 : Ref sig .tc := ⟨.hbm, 399, rfl⟩
abbrev main_call0_call4_v78 : Ref sig .tc := ⟨.hbm, 400, rfl⟩
abbrev main_call0_call4_v79 : Ref sig .tc := ⟨.hbm, 401, rfl⟩
abbrev main_call0_call4_v80 : Ref sig .tc := ⟨.hbm, 402, rfl⟩
abbrev main_call0_call4_v81 : Ref sig .tc := ⟨.hbm, 403, rfl⟩
abbrev main_call0_call4_c_20 : Ref sig .tc := ⟨.hbm, 404, rfl⟩
abbrev main_call0_call4_v82 : Ref sig .tc := ⟨.hbm, 405, rfl⟩
abbrev main_call0_call4_v83 : Ref sig .tc := ⟨.hbm, 406, rfl⟩
abbrev main_call0_call4_c_21 : Ref sig .tc := ⟨.hbm, 407, rfl⟩
abbrev main_call0_call4_v84 : Ref sig .tc := ⟨.hbm, 408, rfl⟩
abbrev main_call0_call4_v85 : Ref sig .tc := ⟨.hbm, 409, rfl⟩
abbrev main_call0_call4_v86 : Ref sig .tc := ⟨.hbm, 410, rfl⟩
abbrev main_call0_call4_v87 : Ref sig .tc := ⟨.hbm, 411, rfl⟩
abbrev main_call0_call4_v88 : Ref sig .tc := ⟨.hbm, 412, rfl⟩
abbrev main_call0_call4_c_22 : Ref sig .tc := ⟨.hbm, 413, rfl⟩
abbrev main_call0_call4_v89 : Ref sig .tc := ⟨.hbm, 414, rfl⟩
abbrev main_call0_call4_v90 : Ref sig .tc := ⟨.hbm, 415, rfl⟩
abbrev main_call0_call4_c_23 : Ref sig .tc := ⟨.hbm, 416, rfl⟩
abbrev main_call0_call4_v91 : Ref sig .tc := ⟨.hbm, 417, rfl⟩
abbrev main_call0_call4_v92 : Ref sig .tc := ⟨.hbm, 418, rfl⟩
abbrev main_call0_call4_v93 : Ref sig .tc := ⟨.hbm, 419, rfl⟩
abbrev main_call0_call4_v94 : Ref sig .tc := ⟨.hbm, 420, rfl⟩
abbrev main_call0_call4_v95 : Ref sig .tc := ⟨.hbm, 421, rfl⟩
abbrev main_call0_call4_c_24 : Ref sig .tc := ⟨.hbm, 422, rfl⟩
abbrev main_call0_call4_v96 : Ref sig .tc := ⟨.hbm, 423, rfl⟩
abbrev main_call0_call4_v97 : Ref sig .tc := ⟨.hbm, 424, rfl⟩
abbrev main_call0_call4_c_25 : Ref sig .tc := ⟨.hbm, 425, rfl⟩
abbrev main_call0_call4_v98 : Ref sig .tc := ⟨.hbm, 426, rfl⟩
abbrev main_call0_call4_v99 : Ref sig .tc := ⟨.hbm, 427, rfl⟩
abbrev main_call0_call4_v100 : Ref sig .tc := ⟨.hbm, 428, rfl⟩
abbrev main_call0_call4_v101 : Ref sig .tc := ⟨.hbm, 429, rfl⟩
abbrev main_call0_call4_v102 : Ref sig .tc := ⟨.hbm, 430, rfl⟩
abbrev main_call0_call4_v103 : Ref sig .tc := ⟨.hbm, 431, rfl⟩
abbrev main_call0_call4_v104 : Ref sig .tc := ⟨.hbm, 432, rfl⟩
abbrev main_call0_call4_v105 : Ref sig .tc := ⟨.hbm, 433, rfl⟩
abbrev main_call0_call4_c_26 : Ref sig .tc := ⟨.hbm, 434, rfl⟩
abbrev main_call0_call4_v106 : Ref sig .tc := ⟨.hbm, 435, rfl⟩
abbrev main_call0_call4_v107 : Ref sig .tc := ⟨.hbm, 436, rfl⟩
abbrev main_call0_call4_v108 : Ref sig .tc := ⟨.hbm, 437, rfl⟩
abbrev main_call0_call4_c_27 : Ref sig .tc := ⟨.hbm, 438, rfl⟩
abbrev main_call0_call4_v109 : Ref sig .tc := ⟨.hbm, 439, rfl⟩
abbrev main_call0_call4_v110 : Ref sig .tc := ⟨.hbm, 440, rfl⟩
abbrev main_call0_call4_c_28 : Ref sig .tc := ⟨.hbm, 441, rfl⟩
abbrev main_call0_call4_v111 : Ref sig .tc := ⟨.hbm, 442, rfl⟩
abbrev main_call0_call4_v112 : Ref sig .tc := ⟨.hbm, 443, rfl⟩
abbrev main_call0_call4_v113 : Ref sig .tc := ⟨.hbm, 444, rfl⟩
abbrev main_call0_call4_v114 : Ref sig .tc := ⟨.hbm, 445, rfl⟩
abbrev main_call0_call4_v115 : Ref sig .tc := ⟨.hbm, 446, rfl⟩
abbrev main_call0_call4_c_29 : Ref sig .tc := ⟨.hbm, 447, rfl⟩
abbrev main_call0_call4_v116 : Ref sig .tc := ⟨.hbm, 448, rfl⟩
abbrev main_call0_call4_v117 : Ref sig .tc := ⟨.hbm, 449, rfl⟩
abbrev main_call0_call4_c_30 : Ref sig .tc := ⟨.hbm, 450, rfl⟩
abbrev main_call0_call4_v118 : Ref sig .tc := ⟨.hbm, 451, rfl⟩
abbrev main_call0_call4_v119 : Ref sig .tc := ⟨.hbm, 452, rfl⟩
abbrev main_call0_call4_v120 : Ref sig .tc := ⟨.hbm, 453, rfl⟩
abbrev main_call0_call4_v121 : Ref sig .tc := ⟨.hbm, 454, rfl⟩
abbrev main_call0_call4_v122 : Ref sig .tc := ⟨.hbm, 455, rfl⟩
abbrev main_call0_call4_c_31 : Ref sig .tc := ⟨.hbm, 456, rfl⟩
abbrev main_call0_call4_v123 : Ref sig .tc := ⟨.hbm, 457, rfl⟩
abbrev main_call0_call4_v124 : Ref sig .tc := ⟨.hbm, 458, rfl⟩
abbrev main_call0_call4_c_32 : Ref sig .tc := ⟨.hbm, 459, rfl⟩
abbrev main_call0_call4_v125 : Ref sig .tc := ⟨.hbm, 460, rfl⟩
abbrev main_call0_call4_v126 : Ref sig .tc := ⟨.hbm, 461, rfl⟩
abbrev main_call0_call4_v127 : Ref sig .tc := ⟨.hbm, 462, rfl⟩
abbrev main_call0_call4_v128 : Ref sig .tc := ⟨.hbm, 463, rfl⟩
abbrev main_call0_call4_v129 : Ref sig .tc := ⟨.hbm, 464, rfl⟩
abbrev main_call0_call4_c_33 : Ref sig .tc := ⟨.hbm, 465, rfl⟩
abbrev main_call0_call4_v130 : Ref sig .tc := ⟨.hbm, 466, rfl⟩
abbrev main_call0_call4_v131 : Ref sig .tc := ⟨.hbm, 467, rfl⟩
abbrev main_call0_call4_c_34 : Ref sig .tc := ⟨.hbm, 468, rfl⟩
abbrev main_call0_call4_v132 : Ref sig .tc := ⟨.hbm, 469, rfl⟩
abbrev main_call0_call4_v133 : Ref sig .tc := ⟨.hbm, 470, rfl⟩
abbrev main_call0_call4_v134 : Ref sig .tc := ⟨.hbm, 471, rfl⟩
abbrev main_call0_call4_v135 : Ref sig .tc := ⟨.hbm, 472, rfl⟩
abbrev main_call0_call4_v136 : Ref sig .tc := ⟨.hbm, 473, rfl⟩
abbrev main_call0_call4_v137 : Ref sig .tc := ⟨.hbm, 474, rfl⟩
abbrev main_call0_call4_v138 : Ref sig .tc := ⟨.hbm, 475, rfl⟩
abbrev main_call0_call4_v139 : Ref sig .tc := ⟨.hbm, 476, rfl⟩
abbrev main_call0_call4_c_35 : Ref sig .tc := ⟨.hbm, 477, rfl⟩
abbrev main_call0_call4_v140 : Ref sig .tc := ⟨.hbm, 478, rfl⟩
abbrev main_call0_call4_v141 : Ref sig .tc := ⟨.hbm, 479, rfl⟩
abbrev main_call0_call4_v142 : Ref sig .tc := ⟨.hbm, 480, rfl⟩
abbrev main_call0_call4_c_36 : Ref sig .tc := ⟨.hbm, 481, rfl⟩
abbrev main_call0_call4_v143 : Ref sig .tc := ⟨.hbm, 482, rfl⟩
abbrev main_call0_call4_v144 : Ref sig .tc := ⟨.hbm, 483, rfl⟩
abbrev main_call0_call4_c_37 : Ref sig .tc := ⟨.hbm, 484, rfl⟩
abbrev main_call0_call4_v145 : Ref sig .tc := ⟨.hbm, 485, rfl⟩
abbrev main_call0_call4_v146 : Ref sig .tc := ⟨.hbm, 486, rfl⟩
abbrev main_call0_call4_v147 : Ref sig .tc := ⟨.hbm, 487, rfl⟩
abbrev main_call0_call4_v148 : Ref sig .tc := ⟨.hbm, 488, rfl⟩
abbrev main_call0_call4_v149 : Ref sig .tc := ⟨.hbm, 489, rfl⟩
abbrev main_call0_call4_c_38 : Ref sig .tc := ⟨.hbm, 490, rfl⟩
abbrev main_call0_call4_v150 : Ref sig .tc := ⟨.hbm, 491, rfl⟩
abbrev main_call0_call4_v151 : Ref sig .tc := ⟨.hbm, 492, rfl⟩
abbrev main_call0_call4_c_39 : Ref sig .tc := ⟨.hbm, 493, rfl⟩
abbrev main_call0_call4_v152 : Ref sig .tc := ⟨.hbm, 494, rfl⟩
abbrev main_call0_call4_v153 : Ref sig .tc := ⟨.hbm, 495, rfl⟩
abbrev main_call0_call4_v154 : Ref sig .tc := ⟨.hbm, 496, rfl⟩
abbrev main_call0_call4_v155 : Ref sig .tc := ⟨.hbm, 497, rfl⟩
abbrev main_call0_call4_v156 : Ref sig .tc := ⟨.hbm, 498, rfl⟩
abbrev main_call0_call4_c_40 : Ref sig .tc := ⟨.hbm, 499, rfl⟩
abbrev main_call0_call4_v157 : Ref sig .tc := ⟨.hbm, 500, rfl⟩
abbrev main_call0_call4_v158 : Ref sig .tc := ⟨.hbm, 501, rfl⟩
abbrev main_call0_call4_c_41 : Ref sig .tc := ⟨.hbm, 502, rfl⟩
abbrev main_call0_call4_v159 : Ref sig .tc := ⟨.hbm, 503, rfl⟩
abbrev main_call0_call4_v160 : Ref sig .tc := ⟨.hbm, 504, rfl⟩
abbrev main_call0_call4_v161 : Ref sig .tc := ⟨.hbm, 505, rfl⟩
abbrev main_call0_call4_v162 : Ref sig .tc := ⟨.hbm, 506, rfl⟩
abbrev main_call0_call4_v163 : Ref sig .tc := ⟨.hbm, 507, rfl⟩
abbrev main_call0_call4_c_42 : Ref sig .tc := ⟨.hbm, 508, rfl⟩
abbrev main_call0_call4_v164 : Ref sig .tc := ⟨.hbm, 509, rfl⟩
abbrev main_call0_call4_v165 : Ref sig .tc := ⟨.hbm, 510, rfl⟩
abbrev main_call0_call4_c_43 : Ref sig .tc := ⟨.hbm, 511, rfl⟩
abbrev main_call0_call4_v166 : Ref sig .tc := ⟨.hbm, 512, rfl⟩
abbrev main_call0_call4_v167 : Ref sig .tc := ⟨.hbm, 513, rfl⟩
abbrev main_call0_call4_v168 : Ref sig .tc := ⟨.hbm, 514, rfl⟩
abbrev main_call0_call4_v169 : Ref sig .tc := ⟨.hbm, 515, rfl⟩
abbrev main_call0_call4_v170 : Ref sig .tc := ⟨.hbm, 516, rfl⟩
abbrev main_call0_v36_0 : Ref sig .tc := ⟨.hbm, 517, rfl⟩
abbrev main_call0_call4_v172 : Ref sig .tc := ⟨.hbm, 518, rfl⟩
abbrev main_call0_call4_v173 : Ref sig .tc := ⟨.hbm, 519, rfl⟩
abbrev main_call0_call4_c_44 : Ref sig .tc := ⟨.hbm, 520, rfl⟩
abbrev main_call0_call4_v174 : Ref sig .tc := ⟨.hbm, 521, rfl⟩
abbrev main_call0_v36_1 : Ref sig .tc := ⟨.hbm, 522, rfl⟩
abbrev main_call0_v37 : Ref sig .tc := ⟨.hbm, 523, rfl⟩
abbrev main_call0_v38 : Ref sig .tc := ⟨.hbm, 524, rfl⟩
abbrev main_call0_v39 : Ref sig .tc := ⟨.hbm, 525, rfl⟩
abbrev main_call0_v40 : Ref sig .tc := ⟨.hbm, 526, rfl⟩
abbrev main_call0_v41 : Ref sig .tc := ⟨.hbm, 527, rfl⟩
abbrev main_call0_v42 : Ref sig .tc := ⟨.hbm, 528, rfl⟩
abbrev main_call0_v43 : Ref sig .tc := ⟨.hbm, 529, rfl⟩
abbrev main_call0_v44 : Ref sig .tc := ⟨.hbm, 530, rfl⟩
abbrev main_call0_v45 : Ref sig .tc := ⟨.hbm, 531, rfl⟩
abbrev main_call0_c_11 : Ref sig .tc := ⟨.hbm, 532, rfl⟩
abbrev main_call0_v46 : Ref sig .tc := ⟨.hbm, 533, rfl⟩
abbrev main_call0_v47 : Ref sig .tc := ⟨.hbm, 534, rfl⟩
abbrev main_call0_c_12 : Ref sig .tc := ⟨.hbm, 535, rfl⟩
abbrev main_call0_v48 : Ref sig .tc := ⟨.hbm, 536, rfl⟩
abbrev main_call0_v49 : Ref sig .tc := ⟨.hbm, 537, rfl⟩
abbrev main_call0_c_13 : Ref sig .tc := ⟨.hbm, 538, rfl⟩
abbrev main_call0_v50 : Ref sig .tc := ⟨.hbm, 539, rfl⟩
abbrev main_call0_v51 : Ref sig .tc := ⟨.hbm, 540, rfl⟩
abbrev main_call0_c_14 : Ref sig .tc := ⟨.hbm, 541, rfl⟩
abbrev main_call0_v52 : Ref sig .tc := ⟨.hbm, 542, rfl⟩
abbrev main_call0_v53 : Ref sig .tc := ⟨.hbm, 543, rfl⟩
abbrev main_call0_v54 : Ref sig .tc := ⟨.hbm, 544, rfl⟩
abbrev main_call0_v55 : Ref sig .tc := ⟨.hbm, 545, rfl⟩
abbrev main_call0_v56 : Ref sig .tc := ⟨.hbm, 546, rfl⟩
abbrev main_call0_c_15 : Ref sig .tc := ⟨.hbm, 547, rfl⟩
abbrev main_call0_v57 : Ref sig .tc := ⟨.hbm, 548, rfl⟩
abbrev main_call0_v58 : Ref sig .tc := ⟨.hbm, 549, rfl⟩
abbrev main_call0_v59 : Ref sig .tc := ⟨.hbm, 550, rfl⟩
abbrev main_call0_v60 : Ref sig .tc := ⟨.hbm, 551, rfl⟩
abbrev main_call0_call5_v0 : Ref sig .tc := ⟨.hbm, 552, rfl⟩
abbrev main_call0_call5_c : Ref sig .tc := ⟨.hbm, 553, rfl⟩
abbrev main_call0_call5_v1 : Ref sig .tc := ⟨.hbm, 554, rfl⟩
abbrev main_call0_call5_v2 : Ref sig .tc := ⟨.hbm, 555, rfl⟩
abbrev main_call0_call5_v3 : Ref sig .tc := ⟨.hbm, 556, rfl⟩
abbrev main_call0_call5_v4 : Ref sig .tc := ⟨.hbm, 557, rfl⟩
abbrev main_call0_call5_v5 : Ref sig .tc := ⟨.hbm, 558, rfl⟩
abbrev main_call0_call5_v6 : Ref sig .tc := ⟨.hbm, 559, rfl⟩
abbrev main_call0_call5_c_0 : Ref sig .tc := ⟨.hbm, 560, rfl⟩
abbrev main_call0_call5_v7 : Ref sig .tc := ⟨.hbm, 561, rfl⟩
abbrev main_call0_call5_v8 : Ref sig .tc := ⟨.hbm, 562, rfl⟩
abbrev main_call0_call5_c_1 : Ref sig .tc := ⟨.hbm, 563, rfl⟩
abbrev main_call0_call5_v9 : Ref sig .tc := ⟨.hbm, 564, rfl⟩
abbrev main_call0_call5_v10 : Ref sig .tc := ⟨.hbm, 565, rfl⟩
abbrev main_call0_call5_v11 : Ref sig .tc := ⟨.hbm, 566, rfl⟩
abbrev main_call0_call5_v12 : Ref sig .tc := ⟨.hbm, 567, rfl⟩
abbrev main_call0_call5_v13 : Ref sig .tc := ⟨.hbm, 568, rfl⟩
abbrev main_call0_call5_c_2 : Ref sig .tc := ⟨.hbm, 569, rfl⟩
abbrev main_call0_call5_v14 : Ref sig .tc := ⟨.hbm, 570, rfl⟩
abbrev main_call0_call5_v15 : Ref sig .tc := ⟨.hbm, 571, rfl⟩
abbrev main_call0_call5_c_3 : Ref sig .tc := ⟨.hbm, 572, rfl⟩
abbrev main_call0_call5_v16 : Ref sig .tc := ⟨.hbm, 573, rfl⟩
abbrev main_call0_call5_v17 : Ref sig .tc := ⟨.hbm, 574, rfl⟩
abbrev main_call0_call5_v18 : Ref sig .tc := ⟨.hbm, 575, rfl⟩
abbrev main_call0_call5_v19 : Ref sig .tc := ⟨.hbm, 576, rfl⟩
abbrev main_call0_call5_v20 : Ref sig .tc := ⟨.hbm, 577, rfl⟩
abbrev main_call0_call5_c_4 : Ref sig .tc := ⟨.hbm, 578, rfl⟩
abbrev main_call0_call5_v21 : Ref sig .tc := ⟨.hbm, 579, rfl⟩
abbrev main_call0_call5_v22 : Ref sig .tc := ⟨.hbm, 580, rfl⟩
abbrev main_call0_call5_c_5 : Ref sig .tc := ⟨.hbm, 581, rfl⟩
abbrev main_call0_call5_v23 : Ref sig .tc := ⟨.hbm, 582, rfl⟩
abbrev main_call0_call5_v24 : Ref sig .tc := ⟨.hbm, 583, rfl⟩
abbrev main_call0_call5_v25 : Ref sig .tc := ⟨.hbm, 584, rfl⟩
abbrev main_call0_call5_v26 : Ref sig .tc := ⟨.hbm, 585, rfl⟩
abbrev main_call0_call5_v27 : Ref sig .tc := ⟨.hbm, 586, rfl⟩
abbrev main_call0_call5_c_6 : Ref sig .tc := ⟨.hbm, 587, rfl⟩
abbrev main_call0_call5_v28 : Ref sig .tc := ⟨.hbm, 588, rfl⟩
abbrev main_call0_call5_v29 : Ref sig .tc := ⟨.hbm, 589, rfl⟩
abbrev main_call0_call5_c_7 : Ref sig .tc := ⟨.hbm, 590, rfl⟩
abbrev main_call0_call5_v30 : Ref sig .tc := ⟨.hbm, 591, rfl⟩
abbrev main_call0_call5_v31 : Ref sig .tc := ⟨.hbm, 592, rfl⟩
abbrev main_call0_call5_v32 : Ref sig .tc := ⟨.hbm, 593, rfl⟩
abbrev main_call0_call5_v33 : Ref sig .tc := ⟨.hbm, 594, rfl⟩
abbrev main_call0_call5_v34 : Ref sig .tc := ⟨.hbm, 595, rfl⟩
abbrev main_call0_call5_v35 : Ref sig .tc := ⟨.hbm, 596, rfl⟩
abbrev main_call0_call5_v36 : Ref sig .tc := ⟨.hbm, 597, rfl⟩
abbrev main_call0_call5_v37 : Ref sig .tc := ⟨.hbm, 598, rfl⟩
abbrev main_call0_call5_c_8 : Ref sig .tc := ⟨.hbm, 599, rfl⟩
abbrev main_call0_call5_v38 : Ref sig .tc := ⟨.hbm, 600, rfl⟩
abbrev main_call0_call5_v39 : Ref sig .tc := ⟨.hbm, 601, rfl⟩
abbrev main_call0_call5_v40 : Ref sig .tc := ⟨.hbm, 602, rfl⟩
abbrev main_call0_call5_c_9 : Ref sig .tc := ⟨.hbm, 603, rfl⟩
abbrev main_call0_call5_v41 : Ref sig .tc := ⟨.hbm, 604, rfl⟩
abbrev main_call0_call5_v42 : Ref sig .tc := ⟨.hbm, 605, rfl⟩
abbrev main_call0_call5_c_10 : Ref sig .tc := ⟨.hbm, 606, rfl⟩
abbrev main_call0_call5_v43 : Ref sig .tc := ⟨.hbm, 607, rfl⟩
abbrev main_call0_call5_v44 : Ref sig .tc := ⟨.hbm, 608, rfl⟩
abbrev main_call0_call5_v45 : Ref sig .tc := ⟨.hbm, 609, rfl⟩
abbrev main_call0_call5_v46 : Ref sig .tc := ⟨.hbm, 610, rfl⟩
abbrev main_call0_call5_v47 : Ref sig .tc := ⟨.hbm, 611, rfl⟩
abbrev main_call0_call5_c_11 : Ref sig .tc := ⟨.hbm, 612, rfl⟩
abbrev main_call0_call5_v48 : Ref sig .tc := ⟨.hbm, 613, rfl⟩
abbrev main_call0_call5_v49 : Ref sig .tc := ⟨.hbm, 614, rfl⟩
abbrev main_call0_call5_c_12 : Ref sig .tc := ⟨.hbm, 615, rfl⟩
abbrev main_call0_call5_v50 : Ref sig .tc := ⟨.hbm, 616, rfl⟩
abbrev main_call0_call5_v51 : Ref sig .tc := ⟨.hbm, 617, rfl⟩
abbrev main_call0_call5_v52 : Ref sig .tc := ⟨.hbm, 618, rfl⟩
abbrev main_call0_call5_v53 : Ref sig .tc := ⟨.hbm, 619, rfl⟩
abbrev main_call0_call5_v54 : Ref sig .tc := ⟨.hbm, 620, rfl⟩
abbrev main_call0_call5_c_13 : Ref sig .tc := ⟨.hbm, 621, rfl⟩
abbrev main_call0_call5_v55 : Ref sig .tc := ⟨.hbm, 622, rfl⟩
abbrev main_call0_call5_v56 : Ref sig .tc := ⟨.hbm, 623, rfl⟩
abbrev main_call0_call5_c_14 : Ref sig .tc := ⟨.hbm, 624, rfl⟩
abbrev main_call0_call5_v57 : Ref sig .tc := ⟨.hbm, 625, rfl⟩
abbrev main_call0_call5_v58 : Ref sig .tc := ⟨.hbm, 626, rfl⟩
abbrev main_call0_call5_v59 : Ref sig .tc := ⟨.hbm, 627, rfl⟩
abbrev main_call0_call5_v60 : Ref sig .tc := ⟨.hbm, 628, rfl⟩
abbrev main_call0_call5_v61 : Ref sig .tc := ⟨.hbm, 629, rfl⟩
abbrev main_call0_call5_c_15 : Ref sig .tc := ⟨.hbm, 630, rfl⟩
abbrev main_call0_call5_v62 : Ref sig .tc := ⟨.hbm, 631, rfl⟩
abbrev main_call0_call5_v63 : Ref sig .tc := ⟨.hbm, 632, rfl⟩
abbrev main_call0_call5_c_16 : Ref sig .tc := ⟨.hbm, 633, rfl⟩
abbrev main_call0_call5_v64 : Ref sig .tc := ⟨.hbm, 634, rfl⟩
abbrev main_call0_call5_v65 : Ref sig .tc := ⟨.hbm, 635, rfl⟩
abbrev main_call0_call5_v66 : Ref sig .tc := ⟨.hbm, 636, rfl⟩
abbrev main_call0_call5_v67 : Ref sig .tc := ⟨.hbm, 637, rfl⟩
abbrev main_call0_call5_v68 : Ref sig .tc := ⟨.hbm, 638, rfl⟩
abbrev main_call0_call5_v69 : Ref sig .tc := ⟨.hbm, 639, rfl⟩
abbrev main_call0_call5_v70 : Ref sig .tc := ⟨.hbm, 640, rfl⟩
abbrev main_call0_call5_v71 : Ref sig .tc := ⟨.hbm, 641, rfl⟩
abbrev main_call0_call5_c_17 : Ref sig .tc := ⟨.hbm, 642, rfl⟩
abbrev main_call0_call5_v72 : Ref sig .tc := ⟨.hbm, 643, rfl⟩
abbrev main_call0_call5_v73 : Ref sig .tc := ⟨.hbm, 644, rfl⟩
abbrev main_call0_call5_v74 : Ref sig .tc := ⟨.hbm, 645, rfl⟩
abbrev main_call0_call5_c_18 : Ref sig .tc := ⟨.hbm, 646, rfl⟩
abbrev main_call0_call5_v75 : Ref sig .tc := ⟨.hbm, 647, rfl⟩
abbrev main_call0_call5_v76 : Ref sig .tc := ⟨.hbm, 648, rfl⟩
abbrev main_call0_call5_c_19 : Ref sig .tc := ⟨.hbm, 649, rfl⟩
abbrev main_call0_call5_v77 : Ref sig .tc := ⟨.hbm, 650, rfl⟩
abbrev main_call0_call5_v78 : Ref sig .tc := ⟨.hbm, 651, rfl⟩
abbrev main_call0_call5_v79 : Ref sig .tc := ⟨.hbm, 652, rfl⟩
abbrev main_call0_call5_v80 : Ref sig .tc := ⟨.hbm, 653, rfl⟩
abbrev main_call0_call5_v81 : Ref sig .tc := ⟨.hbm, 654, rfl⟩
abbrev main_call0_call5_c_20 : Ref sig .tc := ⟨.hbm, 655, rfl⟩
abbrev main_call0_call5_v82 : Ref sig .tc := ⟨.hbm, 656, rfl⟩
abbrev main_call0_call5_v83 : Ref sig .tc := ⟨.hbm, 657, rfl⟩
abbrev main_call0_call5_c_21 : Ref sig .tc := ⟨.hbm, 658, rfl⟩
abbrev main_call0_call5_v84 : Ref sig .tc := ⟨.hbm, 659, rfl⟩
abbrev main_call0_call5_v85 : Ref sig .tc := ⟨.hbm, 660, rfl⟩
abbrev main_call0_call5_v86 : Ref sig .tc := ⟨.hbm, 661, rfl⟩
abbrev main_call0_call5_v87 : Ref sig .tc := ⟨.hbm, 662, rfl⟩
abbrev main_call0_call5_v88 : Ref sig .tc := ⟨.hbm, 663, rfl⟩
abbrev main_call0_call5_c_22 : Ref sig .tc := ⟨.hbm, 664, rfl⟩
abbrev main_call0_call5_v89 : Ref sig .tc := ⟨.hbm, 665, rfl⟩
abbrev main_call0_call5_v90 : Ref sig .tc := ⟨.hbm, 666, rfl⟩
abbrev main_call0_call5_c_23 : Ref sig .tc := ⟨.hbm, 667, rfl⟩
abbrev main_call0_call5_v91 : Ref sig .tc := ⟨.hbm, 668, rfl⟩
abbrev main_call0_call5_v92 : Ref sig .tc := ⟨.hbm, 669, rfl⟩
abbrev main_call0_call5_v93 : Ref sig .tc := ⟨.hbm, 670, rfl⟩
abbrev main_call0_call5_v94 : Ref sig .tc := ⟨.hbm, 671, rfl⟩
abbrev main_call0_call5_v95 : Ref sig .tc := ⟨.hbm, 672, rfl⟩
abbrev main_call0_call5_c_24 : Ref sig .tc := ⟨.hbm, 673, rfl⟩
abbrev main_call0_call5_v96 : Ref sig .tc := ⟨.hbm, 674, rfl⟩
abbrev main_call0_call5_v97 : Ref sig .tc := ⟨.hbm, 675, rfl⟩
abbrev main_call0_call5_c_25 : Ref sig .tc := ⟨.hbm, 676, rfl⟩
abbrev main_call0_call5_v98 : Ref sig .tc := ⟨.hbm, 677, rfl⟩
abbrev main_call0_call5_v99 : Ref sig .tc := ⟨.hbm, 678, rfl⟩
abbrev main_call0_call5_v100 : Ref sig .tc := ⟨.hbm, 679, rfl⟩
abbrev main_call0_call5_v101 : Ref sig .tc := ⟨.hbm, 680, rfl⟩
abbrev main_call0_call5_v102 : Ref sig .tc := ⟨.hbm, 681, rfl⟩
abbrev main_call0_call5_v103 : Ref sig .tc := ⟨.hbm, 682, rfl⟩
abbrev main_call0_call5_v104 : Ref sig .tc := ⟨.hbm, 683, rfl⟩
abbrev main_call0_call5_v105 : Ref sig .tc := ⟨.hbm, 684, rfl⟩
abbrev main_call0_call5_c_26 : Ref sig .tc := ⟨.hbm, 685, rfl⟩
abbrev main_call0_call5_v106 : Ref sig .tc := ⟨.hbm, 686, rfl⟩
abbrev main_call0_call5_v107 : Ref sig .tc := ⟨.hbm, 687, rfl⟩
abbrev main_call0_call5_v108 : Ref sig .tc := ⟨.hbm, 688, rfl⟩
abbrev main_call0_call5_c_27 : Ref sig .tc := ⟨.hbm, 689, rfl⟩
abbrev main_call0_call5_v109 : Ref sig .tc := ⟨.hbm, 690, rfl⟩
abbrev main_call0_call5_v110 : Ref sig .tc := ⟨.hbm, 691, rfl⟩
abbrev main_call0_call5_c_28 : Ref sig .tc := ⟨.hbm, 692, rfl⟩
abbrev main_call0_call5_v111 : Ref sig .tc := ⟨.hbm, 693, rfl⟩
abbrev main_call0_call5_v112 : Ref sig .tc := ⟨.hbm, 694, rfl⟩
abbrev main_call0_call5_v113 : Ref sig .tc := ⟨.hbm, 695, rfl⟩
abbrev main_call0_call5_v114 : Ref sig .tc := ⟨.hbm, 696, rfl⟩
abbrev main_call0_call5_v115 : Ref sig .tc := ⟨.hbm, 697, rfl⟩
abbrev main_call0_call5_c_29 : Ref sig .tc := ⟨.hbm, 698, rfl⟩
abbrev main_call0_call5_v116 : Ref sig .tc := ⟨.hbm, 699, rfl⟩
abbrev main_call0_call5_v117 : Ref sig .tc := ⟨.hbm, 700, rfl⟩
abbrev main_call0_call5_c_30 : Ref sig .tc := ⟨.hbm, 701, rfl⟩
abbrev main_call0_call5_v118 : Ref sig .tc := ⟨.hbm, 702, rfl⟩
abbrev main_call0_call5_v119 : Ref sig .tc := ⟨.hbm, 703, rfl⟩
abbrev main_call0_call5_v120 : Ref sig .tc := ⟨.hbm, 704, rfl⟩
abbrev main_call0_call5_v121 : Ref sig .tc := ⟨.hbm, 705, rfl⟩
abbrev main_call0_call5_v122 : Ref sig .tc := ⟨.hbm, 706, rfl⟩
abbrev main_call0_call5_c_31 : Ref sig .tc := ⟨.hbm, 707, rfl⟩
abbrev main_call0_call5_v123 : Ref sig .tc := ⟨.hbm, 708, rfl⟩
abbrev main_call0_call5_v124 : Ref sig .tc := ⟨.hbm, 709, rfl⟩
abbrev main_call0_call5_c_32 : Ref sig .tc := ⟨.hbm, 710, rfl⟩
abbrev main_call0_call5_v125 : Ref sig .tc := ⟨.hbm, 711, rfl⟩
abbrev main_call0_call5_v126 : Ref sig .tc := ⟨.hbm, 712, rfl⟩
abbrev main_call0_call5_v127 : Ref sig .tc := ⟨.hbm, 713, rfl⟩
abbrev main_call0_call5_v128 : Ref sig .tc := ⟨.hbm, 714, rfl⟩
abbrev main_call0_call5_v129 : Ref sig .tc := ⟨.hbm, 715, rfl⟩
abbrev main_call0_call5_c_33 : Ref sig .tc := ⟨.hbm, 716, rfl⟩
abbrev main_call0_call5_v130 : Ref sig .tc := ⟨.hbm, 717, rfl⟩
abbrev main_call0_call5_v131 : Ref sig .tc := ⟨.hbm, 718, rfl⟩
abbrev main_call0_call5_c_34 : Ref sig .tc := ⟨.hbm, 719, rfl⟩
abbrev main_call0_call5_v132 : Ref sig .tc := ⟨.hbm, 720, rfl⟩
abbrev main_call0_call5_v133 : Ref sig .tc := ⟨.hbm, 721, rfl⟩
abbrev main_call0_call5_v134 : Ref sig .tc := ⟨.hbm, 722, rfl⟩
abbrev main_call0_call5_v135 : Ref sig .tc := ⟨.hbm, 723, rfl⟩
abbrev main_call0_call5_v136 : Ref sig .tc := ⟨.hbm, 724, rfl⟩
abbrev main_call0_call5_v137 : Ref sig .tc := ⟨.hbm, 725, rfl⟩
abbrev main_call0_call5_v138 : Ref sig .tc := ⟨.hbm, 726, rfl⟩
abbrev main_call0_call5_v139 : Ref sig .tc := ⟨.hbm, 727, rfl⟩
abbrev main_call0_call5_c_35 : Ref sig .tc := ⟨.hbm, 728, rfl⟩
abbrev main_call0_call5_v140 : Ref sig .tc := ⟨.hbm, 729, rfl⟩
abbrev main_call0_call5_v141 : Ref sig .tc := ⟨.hbm, 730, rfl⟩
abbrev main_call0_call5_v142 : Ref sig .tc := ⟨.hbm, 731, rfl⟩
abbrev main_call0_call5_c_36 : Ref sig .tc := ⟨.hbm, 732, rfl⟩
abbrev main_call0_call5_v143 : Ref sig .tc := ⟨.hbm, 733, rfl⟩
abbrev main_call0_call5_v144 : Ref sig .tc := ⟨.hbm, 734, rfl⟩
abbrev main_call0_call5_c_37 : Ref sig .tc := ⟨.hbm, 735, rfl⟩
abbrev main_call0_call5_v145 : Ref sig .tc := ⟨.hbm, 736, rfl⟩
abbrev main_call0_call5_v146 : Ref sig .tc := ⟨.hbm, 737, rfl⟩
abbrev main_call0_call5_v147 : Ref sig .tc := ⟨.hbm, 738, rfl⟩
abbrev main_call0_call5_v148 : Ref sig .tc := ⟨.hbm, 739, rfl⟩
abbrev main_call0_call5_v149 : Ref sig .tc := ⟨.hbm, 740, rfl⟩
abbrev main_call0_call5_c_38 : Ref sig .tc := ⟨.hbm, 741, rfl⟩
abbrev main_call0_call5_v150 : Ref sig .tc := ⟨.hbm, 742, rfl⟩
abbrev main_call0_call5_v151 : Ref sig .tc := ⟨.hbm, 743, rfl⟩
abbrev main_call0_call5_c_39 : Ref sig .tc := ⟨.hbm, 744, rfl⟩
abbrev main_call0_call5_v152 : Ref sig .tc := ⟨.hbm, 745, rfl⟩
abbrev main_call0_call5_v153 : Ref sig .tc := ⟨.hbm, 746, rfl⟩
abbrev main_call0_call5_v154 : Ref sig .tc := ⟨.hbm, 747, rfl⟩
abbrev main_call0_call5_v155 : Ref sig .tc := ⟨.hbm, 748, rfl⟩
abbrev main_call0_call5_v156 : Ref sig .tc := ⟨.hbm, 749, rfl⟩
abbrev main_call0_call5_c_40 : Ref sig .tc := ⟨.hbm, 750, rfl⟩
abbrev main_call0_call5_v157 : Ref sig .tc := ⟨.hbm, 751, rfl⟩
abbrev main_call0_call5_v158 : Ref sig .tc := ⟨.hbm, 752, rfl⟩
abbrev main_call0_call5_c_41 : Ref sig .tc := ⟨.hbm, 753, rfl⟩
abbrev main_call0_call5_v159 : Ref sig .tc := ⟨.hbm, 754, rfl⟩
abbrev main_call0_call5_v160 : Ref sig .tc := ⟨.hbm, 755, rfl⟩
abbrev main_call0_call5_v161 : Ref sig .tc := ⟨.hbm, 756, rfl⟩
abbrev main_call0_call5_v162 : Ref sig .tc := ⟨.hbm, 757, rfl⟩
abbrev main_call0_call5_v163 : Ref sig .tc := ⟨.hbm, 758, rfl⟩
abbrev main_call0_call5_c_42 : Ref sig .tc := ⟨.hbm, 759, rfl⟩
abbrev main_call0_call5_v164 : Ref sig .tc := ⟨.hbm, 760, rfl⟩
abbrev main_call0_call5_v165 : Ref sig .tc := ⟨.hbm, 761, rfl⟩
abbrev main_call0_call5_c_43 : Ref sig .tc := ⟨.hbm, 762, rfl⟩
abbrev main_call0_call5_v166 : Ref sig .tc := ⟨.hbm, 763, rfl⟩
abbrev main_call0_call5_v167 : Ref sig .tc := ⟨.hbm, 764, rfl⟩
abbrev main_call0_call5_v168 : Ref sig .tc := ⟨.hbm, 765, rfl⟩
abbrev main_call0_call5_v169 : Ref sig .tc := ⟨.hbm, 766, rfl⟩
abbrev main_call0_call5_v170 : Ref sig .tc := ⟨.hbm, 767, rfl⟩
abbrev main_call0_v61_0 : Ref sig .tc := ⟨.hbm, 768, rfl⟩
abbrev main_call0_call5_v172 : Ref sig .tc := ⟨.hbm, 769, rfl⟩
abbrev main_call0_call5_v173 : Ref sig .tc := ⟨.hbm, 770, rfl⟩
abbrev main_call0_call5_c_44 : Ref sig .tc := ⟨.hbm, 771, rfl⟩
abbrev main_call0_call5_v174 : Ref sig .tc := ⟨.hbm, 772, rfl⟩
abbrev main_call0_v61_1 : Ref sig .tc := ⟨.hbm, 773, rfl⟩
abbrev main_call0_v62 : Ref sig .tc := ⟨.hbm, 774, rfl⟩
abbrev main_call0_v63 : Ref sig .tc := ⟨.hbm, 775, rfl⟩
abbrev main_call0_v64 : Ref sig .tc := ⟨.hbm, 776, rfl⟩
abbrev main_call0_v65 : Ref sig .tc := ⟨.hbm, 777, rfl⟩
abbrev main_call0_c_16 : Ref sig .tc := ⟨.hbm, 778, rfl⟩
abbrev main_call0_v66 : Ref sig .tc := ⟨.hbm, 779, rfl⟩
abbrev main_call0_v67 : Ref sig .tc := ⟨.hbm, 780, rfl⟩
abbrev main_call0_v68 : Ref sig .tc := ⟨.hbm, 781, rfl⟩
abbrev main_call0_v69 : Ref sig .tc := ⟨.hbm, 782, rfl⟩
abbrev main_call0_v70 : Ref sig .tc := ⟨.hbm, 783, rfl⟩
abbrev main_call0_c_17 : Ref sig .tc := ⟨.hbm, 784, rfl⟩
abbrev main_call0_v71 : Ref sig .tc := ⟨.hbm, 785, rfl⟩
abbrev main_call0_v72 : Ref sig .tc := ⟨.hbm, 786, rfl⟩
abbrev main_call0_v73 : Ref sig .tc := ⟨.hbm, 787, rfl⟩
abbrev main_call0_c_18 : Ref sig .tc := ⟨.hbm, 788, rfl⟩
abbrev main_call0_v74 : Ref sig .tc := ⟨.hbm, 789, rfl⟩
abbrev main_call0_v75 : Ref sig .tc := ⟨.hbm, 790, rfl⟩
abbrev main_call0_v76 : Ref sig .tc := ⟨.hbm, 791, rfl⟩
abbrev main_call0_v77 : Ref sig .tc := ⟨.hbm, 792, rfl⟩
abbrev main_call0_v78 : Ref sig .tc := ⟨.hbm, 793, rfl⟩
abbrev main_call0_v79 : Ref sig .tc := ⟨.hbm, 794, rfl⟩
abbrev main_call0_v80 : Ref sig .tc := ⟨.hbm, 795, rfl⟩
abbrev main_call0_v81 : Ref sig .tc := ⟨.hbm, 796, rfl⟩
abbrev main_call0_v82 : Ref sig .tc := ⟨.hbm, 797, rfl⟩
abbrev main_call0_v83 : Ref sig .tc := ⟨.hbm, 798, rfl⟩
abbrev main_call0_v84 : Ref sig .tc := ⟨.hbm, 799, rfl⟩
abbrev main_call0_v85 : Ref sig .tc := ⟨.hbm, 800, rfl⟩
abbrev main_call0_v86 : Ref sig .tc := ⟨.hbm, 801, rfl⟩
abbrev main_call0_v87 : Ref sig .tc := ⟨.hbm, 802, rfl⟩
abbrev main_call0_v88 : Ref sig .tc := ⟨.hbm, 803, rfl⟩
abbrev main_v7 : Ref sig .tc := ⟨.hbm, 804, rfl⟩
abbrev main_v8 : Ref sig .tc := ⟨.hbm, 805, rfl⟩
abbrev main_v9 : Ref sig .tc := ⟨.hbm, 806, rfl⟩
abbrev main_v10 : Ref sig .tc := ⟨.hbm, 807, rfl⟩
abbrev main_v11 : Ref sig .tc := ⟨.hbm, 808, rfl⟩
abbrev main_v12 : Ref sig .tc := ⟨.hbm, 809, rfl⟩
abbrev main_call1_c : Ref sig .tc := ⟨.hbm, 810, rfl⟩
abbrev main_call1_v0 : Ref sig .tc := ⟨.hbm, 811, rfl⟩
abbrev main_call1_v1 : Ref sig .tc := ⟨.hbm, 812, rfl⟩
abbrev main_call1_c_0 : Ref sig .tc := ⟨.hbm, 813, rfl⟩
abbrev main_call1_v2 : Ref sig .tc := ⟨.hbm, 814, rfl⟩
abbrev main_call1_v3 : Ref sig .tc := ⟨.hbm, 815, rfl⟩
abbrev main_call1_v4 : Ref sig .tc := ⟨.hbm, 816, rfl⟩
abbrev main_call1_v5 : Ref sig .tc := ⟨.hbm, 817, rfl⟩
abbrev main_call1_c_1 : Ref sig .tc := ⟨.hbm, 818, rfl⟩
abbrev main_call1_c_2 : Ref sig .tc := ⟨.hbm, 819, rfl⟩
abbrev main_call1_v6 : Ref sig .tc := ⟨.hbm, 820, rfl⟩
abbrev main_call1_v7 : Ref sig .tc := ⟨.hbm, 821, rfl⟩
abbrev main_call1_v8 : Ref sig .tc := ⟨.hbm, 822, rfl⟩
abbrev main_call1_v9 : Ref sig .tc := ⟨.hbm, 823, rfl⟩
abbrev main_call1_v10 : Ref sig .tc := ⟨.hbm, 824, rfl⟩
abbrev main_call1_v11 : Ref sig .tc := ⟨.hbm, 825, rfl⟩
abbrev main_call1_c_3 : Ref sig .tc := ⟨.hbm, 826, rfl⟩
abbrev main_call1_v12 : Ref sig .tc := ⟨.hbm, 827, rfl⟩
abbrev main_call1_v13 : Ref sig .tc := ⟨.hbm, 828, rfl⟩
abbrev main_call1_v14 : Ref sig .tc := ⟨.hbm, 829, rfl⟩
abbrev main_call1_cst : Ref sig .tc := ⟨.hbm, 830, rfl⟩
abbrev main_call1_v15 : Ref sig .tc := ⟨.hbm, 831, rfl⟩
abbrev main_v13 : Ref sig .tc := ⟨.hbm, 832, rfl⟩

abbrev nD : Nat := 1
abbrev τ : Topo := Topo.v7x

variable {F : FTy → Type} [FloatOps F]
-- ==== Proof.Host.lean ====
/-
  A straight line of array operations in which every buffer is written once: at its end each operation's result buffer
  still holds the operation's value of what its operands' buffers hold. So the end contents satisfy one equation per
  operation, and a result is computed from those equations alone.
-/
module

public import proofs.«01_k».proof.Defs
public import Idealize.ShloMosaic.Lib.StableHlo.Run
public import Idealize.ShloMosaic.Lib.StableHlo.RunHlo

@[expose] public section

noncomputable section

namespace Cert.Proof.Ref

open Idealize.ShloMosaic Idealize.ShloMosaic.StableHlo
open Idealize.SL.Sem

variable {nD : Nat} {τ : Topo} {sig : RefSig} {Λ : Labels} {Val : EltTy → Type}

/-! ## One operation's reads and its write -/

/-- The references an operation reads, and the one it writes. -/
abbrev Sg (sig : RefSig) : Type := List (Ref sig .tc) × Ref sig .tc

/-- The operation writes the one buffer, determined by what the read buffers hold. -/
structure Foot (op : HloOp τ sig Val) (s : Sg sig) : Prop where
  bufs : op.bufs ⊆ tcRefs τ sig
  fresh : op.fresh = ∅
  keeps : ∀ (V : Valuation τ sig Val) (b : DevRef τ sig), b ≠ Proc.devRef .tc s.2 → op.result V b = V b
  reads : ∀ V V' : Valuation τ sig Val, (∀ r ∈ s.1, V (Proc.devRef .tc r) = V' (Proc.devRef .tc r)) →
    op.result V (Proc.devRef .tc s.2) = op.result V' (Proc.devRef .tc s.2)

/-- An operation that writes one buffer leaves the others. -/
theorem keeps_of {op : HloOp τ sig Val} {y : Ref sig .tc} (h : op.writes = {Proc.devRef .tc y}) (V : Valuation τ sig Val) (b : DevRef τ sig)
    (hb : b ≠ Proc.devRef .tc y) : op.result V b = V b :=
  op.result_of_not_mem V (by rw [h]; exact fun hm => hb (Finset.mem_singleton.mp hm))

section Feet
variable {x y a b c : Ref sig .tc}

/-- A constant's footprint. -/
theorem foot_nullary (v : y.ty.Contents Val) (hy) : Foot (nullary (τ := τ) y v hy) ([], y) :=
  ⟨nullary_bufs_sub _ v hy, rfl, keeps_of rfl, fun V V' _ => (nullary_result y v hy V).trans (nullary_result y v hy V').symm⟩
/-- A one-operand operation's footprint. -/
theorem foot_unary (f : x.ty.Contents Val → y.ty.Contents Val) (hx hy) : Foot (unary (τ := τ) x y f hx hy) ([x], y) :=
  ⟨unary_bufs_sub _ _ f hx hy, rfl, keeps_of rfl, fun V V' h => by
    rw [unary_result, unary_result, h x (List.mem_cons_self ..)]⟩
/-- A two-operand operation's footprint. -/
theorem foot_binary (f : a.ty.Contents Val → b.ty.Contents Val → y.ty.Contents Val) (ha hb hy) : Foot (binary (τ := τ) a b y f ha hb hy) ([a, b], y) :=
  ⟨binary_bufs_sub _ _ _ f ha hb hy, rfl, keeps_of rfl, fun V V' h => by
    rw [binary_result, binary_result, h a (List.mem_cons_self ..), h b (List.mem_cons_of_mem _ (List.mem_cons_self ..))]⟩
/-- A three-operand operation's footprint. -/
theorem foot_ternary (f : c.ty.Contents Val → a.ty.Contents Val → b.ty.Contents Val → y.ty.Contents Val) (hc ha hb hy) :
    Foot (ternary (τ := τ) c a b y f hc ha hb hy) ([c, a, b], y) :=
  ⟨ternary_bufs_sub _ _ _ _ f hc ha hb hy, rfl, keeps_of rfl, fun V V' h => by
    rw [ternary_result, ternary_result, h c (List.mem_cons_self ..), h a (List.mem_cons_of_mem _ (List.mem_cons_self ..)),
      h b (List.mem_cons_of_mem _ (List.mem_cons_of_mem _ (List.mem_cons_self ..)))]⟩
/-- A reshape's footprint. -/
theorem foot_reshape (he hn hx hy) : Foot (reshape (τ := τ) (Val := Val) x y he hn hx hy) ([x], y) :=
  ⟨reshape_bufs_sub _ _ he hn hx hy, rfl, keeps_of rfl, fun V V' h => by
    rw [reshape_result, reshape_result, h x (List.mem_cons_self ..)]⟩

end Feet

/-! ## A line's single assignment, checked on the references' numbers -/

/-- A reference's number. -/
abbrev key (r : Ref sig .tc) : Nat := r.idx.val

/-- Whether no operation writes a buffer an earlier one, or itself, reads, or an earlier one writes; and the set of the
    numbers of the buffers written, as the bits of a number. -/
def chk : List (Sg sig) → Bool × Nat
  | [] => (true, 0)
  | s :: l =>
    ((chk l).1 && !((chk l).2.testBit (key s.2)) && s.1.all (fun r => !(((chk l).2 ||| 2 ^ key s.2).testBit (key r))), (chk l).2 ||| 2 ^ key s.2)

/-- A number outside a mask with one more bit is outside the mask and is not that bit. -/
theorem not_cons {m k j : Nat} (h : (m ||| 2 ^ k).testBit j = false) : m.testBit j = false ∧ j ≠ k := by
  rw [Nat.testBit_or, Bool.or_eq_false_iff] at h
  refine ⟨h.1, fun e => ?_⟩
  rw [e, Nat.testBit_two_pow_self] at h
  exact Bool.noConfusion h.2

/-- A buffer no operation of the line writes holds at its end what it held. -/
theorem unwritten {ops : List (HloOp τ sig Val)} {sg : List (Sg sig)} (hf : List.Forall₂ Foot ops sg) {r : Ref sig .tc}
    (hr : (chk sg).2.testBit (key r) = false) (V : Valuation τ sig Val) : after ops V (Proc.devRef .tc r) = V (Proc.devRef .tc r) := by
  induction hf generalizing V with
  | nil => rfl
  | cons h _ ih =>
    obtain ⟨h1, h2⟩ := not_cons hr
    rw [after_cons, ih h1]
    exact h.keeps _ _ (devRef_ne_of_ne fun e => h2 (congrArg key e))

/-- At the end of a single-assignment line each operation, done again, changes nothing. -/
theorem fixed {ops : List (HloOp τ sig Val)} {sg : List (Sg sig)} (hf : List.Forall₂ Foot ops sg) (hk : (chk sg).1 = true) (V : Valuation τ sig Val) :
    ∀ op ∈ ops, op.result (after ops V) = after ops V := by
  induction hf generalizing V with
  | nil => exact fun _ h => nomatch h
  | @cons op s ops sg h hl ih =>
    have hk' : ((chk sg).1 && !((chk sg).2.testBit (key s.2)) && s.1.all (fun r => !(((chk sg).2 ||| 2 ^ key s.2).testBit (key r)))) = true := hk
    rw [Bool.and_eq_true, Bool.and_eq_true, List.all_eq_true] at hk'
    obtain ⟨⟨k1, k2⟩, k3⟩ := hk'
    intro op' hop'
    rw [after_cons]
    rcases List.mem_cons.mp hop' with rfl | hop'
    · funext b
      by_cases hb : b = Proc.devRef .tc s.2
      · subst hb
        rw [unwritten hl (by simpa using k2)]
        refine h.reads _ _ fun r hr => ?_
        obtain ⟨h1, h2⟩ := not_cons (m := (chk sg).2) (k := key s.2) (j := key r) (by simpa using k3 r hr)
        rw [unwritten hl h1]
        exact h.keeps _ _ (devRef_ne_of_ne fun e => h2 (congrArg key e))
      · exact h.keeps _ _ hb
    · exact ih k1 _ op' hop'

/-! ## A line, its operations, and its equations -/

/-- What a typed reference's buffer holds. -/
def rd {T : BufTy} (t : TRef sig T) (V : Valuation τ sig Val) : T.Contents Val := t.ofBuf (V (Proc.devRef .tc t.ref))

/-- All of a list of statements. -/
def All : List Prop → Prop
  | [] => True
  | p :: l => p ∧ All l

/-- The statements of two lists together. -/
theorem All.append {l l' : List Prop} (h : All l) (h' : All l') : All (l ++ l') := by
  induction l with
  | nil => exact h'
  | cons p l ih => exact ⟨h.1, ih h.2⟩
/-- A stretch of the statements. -/
theorem All.drop {l : List Prop} (h : All l) (n : Nat) : All (l.drop n) := by
  induction n generalizing l with
  | zero => exact h
  | succ n ih => cases l with
    | nil => exact h
    | cons p l => exact ih h.2
/-- The first of the statements. -/
theorem All.take {l : List Prop} (h : All l) (n : Nat) : All (l.take n) := by
  induction n generalizing l with
  | zero => exact trivial
  | succ n ih => cases l with
    | nil => exact h
    | cons p l => exact ⟨h.1, ih h.2⟩

/-- The program is the line of the operations; these read and write as listed; and where each, done again, changes nothing,
    the equations hold. -/
structure Line (p : Prog (TpuEff nD τ sig Val Λ .tc) PUnit) (ops : List (HloOp τ sig Val)) (sg : List (Sg sig))
    (E : Valuation τ sig Val → List Prop) : Prop where
  prog : p = seq ops
  feet : List.Forall₂ Foot ops sg
  eqs : ∀ V, (∀ op ∈ ops, op.result V = V) → All (E V)

/-- A program with its operations, their reads and writes, and their equations. -/
structure LineOf (p : Prog (TpuEff nD τ sig Val Λ .tc) PUnit) where
  ops : List (HloOp τ sig Val)
  sg : List (Sg sig)
  E : Valuation τ sig Val → List Prop
  line : Line p ops sg E

namespace Line

variable {k : Prog (TpuEff nD τ sig Val Λ .tc) PUnit} {ops : List (HloOp τ sig Val)} {sg : List (Sg sig)} {E : Valuation τ sig Val → List Prop}

/-- The empty line. -/
theorem nil : Line (nD := nD) (Λ := Λ) (pure ⟨⟩ : Prog (TpuEff nD τ sig Val Λ .tc) PUnit) [] [] fun _ => [] := ⟨rfl, .nil, fun _ _ => trivial⟩

/-- A line with one more operation in front. -/
theorem cons {op : HloOp τ sig Val} {s : Sg sig} {e : Valuation τ sig Val → Prop} (hf : Foot op s) (he : ∀ V, op.result V = V → e V) (h : Line k ops sg E) :
    Line ((hlo rfl op fun _ => .ret (⟨⟩ : PUnit)) >>= fun _ => k) (op :: ops) (s :: sg) fun V => e V :: E V :=
  ⟨by rw [h.prog]; rfl, .cons hf h.feet,
    fun V hV => ⟨he V (hV op (List.mem_cons_self ..)), h.eqs V fun o ho => hV o (List.mem_cons_of_mem _ ho)⟩⟩

/-- The footprints of two lists together. -/
theorem feet_append {o o' : List (HloOp τ sig Val)} {s s' : List (Sg sig)} (h : List.Forall₂ Foot o s) (h' : List.Forall₂ Foot o' s') :
    List.Forall₂ Foot (o ++ o') (s ++ s') := by
  induction h with
  | nil => exact h'
  | cons a _ ih => exact .cons a ih

/-- A call: the callee's operations, then the rest. -/
theorem call {p : Prog (TpuEff nD τ sig Val Λ .tc) PUnit} (L : LineOf p) (h : Line k ops sg E) :
    Line (p >>= fun _ => k) (L.ops ++ ops) (L.sg ++ sg) fun V => All (L.E V) :: E V :=
  ⟨by rw [h.prog, seq_append, ← L.line.prog], feet_append L.line.feet h.feet,
    fun V hV => ⟨L.line.eqs V fun o ho => hV o (List.mem_append_left _ ho), h.eqs V fun o ho => hV o (List.mem_append_right _ ho)⟩⟩

/-- A program with its line, called last. -/
theorem tail {p : Prog (TpuEff nD τ sig Val Λ .tc) PUnit} (L : LineOf p) : Line p L.ops L.sg fun V => [All (L.E V)] :=
  ⟨L.line.prog, L.line.feet, fun V hV => ⟨L.line.eqs V hV, trivial⟩⟩

/-- A last operation, as one with nothing after it. -/
theorem last {p : Prog (TpuEff nD τ sig Val Λ .tc) PUnit} (h : Line (p >>= fun _ => pure ⟨⟩) ops sg E) : Line p ops sg E :=
  ⟨(bind_pure p).symm.trans h.prog, h.feet, h.eqs⟩

variable {Tx Ty Ta Tb Tc : BufTy}

/-- A constant in front of a line. -/
theorem nullary (y : TRef sig Ty) (v : Ty.Contents Val) (h : Line k ops sg E) :
    Line ((hlo rfl (TRef.nullary y v) fun _ => .ret (⟨⟩ : PUnit)) >>= fun _ => k) (TRef.nullary y v :: ops) (([], y.ref) :: sg)
      fun V => (rd y V = v) :: E V :=
  cons (foot_nullary _ _) (fun V hV => by
    have e := congrFun hV (Proc.devRef .tc y.ref)
    rw [nullary_result] at e; unfold rd; rw [← e]; exact TRef.ofBuf_toBuf _ _) h
/-- A one-operand operation in front of a line. -/
theorem unary (x : TRef sig Tx) (y : TRef sig Ty) (f : Tx.Contents Val → Ty.Contents Val) (h : Line k ops sg E) :
    Line ((hlo rfl (TRef.unary x y f) fun _ => .ret (⟨⟩ : PUnit)) >>= fun _ => k) (TRef.unary x y f :: ops) (([x.ref], y.ref) :: sg)
      fun V => (rd y V = f (rd x V)) :: E V :=
  cons (foot_unary _ _ _) (fun V hV => by
    have e := congrFun hV (Proc.devRef .tc y.ref)
    rw [unary_result] at e; unfold rd; rw [← e]; exact TRef.ofBuf_toBuf _ _) h
/-- A two-operand operation in front of a line. -/
theorem binary (a : TRef sig Ta) (b : TRef sig Tb) (y : TRef sig Ty) (f : Ta.Contents Val → Tb.Contents Val → Ty.Contents Val) (h : Line k ops sg E) :
    Line ((hlo rfl (TRef.binary a b y f) fun _ => .ret (⟨⟩ : PUnit)) >>= fun _ => k) (TRef.binary a b y f :: ops) (([a.ref, b.ref], y.ref) :: sg)
      fun V => (rd y V = f (rd a V) (rd b V)) :: E V :=
  cons (foot_binary _ _ _ _) (fun V hV => by
    have e := congrFun hV (Proc.devRef .tc y.ref)
    rw [binary_result] at e; unfold rd; rw [← e]; exact TRef.ofBuf_toBuf _ _) h
/-- A three-operand operation in front of a line. -/
theorem ternary (c : TRef sig Tc) (a : TRef sig Ta) (b : TRef sig Tb) (y : TRef sig Ty)
    (f : Tc.Contents Val → Ta.Contents Val → Tb.Contents Val → Ty.Contents Val) (h : Line k ops sg E) :
    Line ((hlo rfl (TRef.ternary c a b y f) fun _ => .ret (⟨⟩ : PUnit)) >>= fun _ => k) (TRef.ternary c a b y f :: ops) (([c.ref, a.ref, b.ref], y.ref) :: sg)
      fun V => (rd y V = f (rd c V) (rd a V) (rd b V)) :: E V :=
  cons (foot_ternary _ _ _ _ _) (fun V hV => by
    have e := congrFun hV (Proc.devRef .tc y.ref)
    rw [ternary_result] at e; unfold rd; rw [← e]; exact TRef.ofBuf_toBuf _ _) h

/-- A reshape in front of a line, over any types. -/
theorem reshape_gen (x : TRef sig Tx) (y : TRef sig Ty) (he : Tx.elt = Ty.elt) (hn : Tx.shape.ShapeCasts Ty.shape)
    (V : Valuation τ sig Val) (hV : (TRef.reshape (Val := Val) x y he hn).result V = V) : rd y V = fun i => he ▸ shapeCast Ty.shape (rd x V) hn i := by
  have e := congrFun hV (Proc.devRef .tc y.ref)
  rw [reshape_result] at e
  unfold rd
  rw [← e]
  obtain ⟨x, rfl, _, _⟩ := x
  obtain ⟨y, rfl, _, _⟩ := y
  rfl

/-- A reshape in front of a line. -/
theorem reshape {s t : Shape} {e : EltTy} (x : TRef sig ⟨s, e⟩) (y : TRef sig ⟨t, e⟩) (he : (⟨s, e⟩ : BufTy).elt = (⟨t, e⟩ : BufTy).elt) (hn : s.ShapeCasts t)
    (h : Line k ops sg E) :
    Line ((hlo rfl (TRef.reshape x y he hn) fun _ => .ret (⟨⟩ : PUnit)) >>= fun _ => k) (TRef.reshape x y he hn :: ops) (([x.ref], y.ref) :: sg)
      fun V => (rd y V = shapeCast t (rd x V) hn) :: E V :=
  cons (foot_reshape _ _ _ _) (fun V hV => reshape_gen x y he hn V hV) h

/-! The same of operations over plain references. -/

variable {x y a b c : Ref sig .tc}

/-- A constant of the main program in front of a line. -/
theorem rnullary (v : y.ty.Contents Val) (hy) (h : Line k ops sg E) :
    Line ((hlo rfl (StableHlo.nullary y v hy) fun _ => .ret (⟨⟩ : PUnit)) >>= fun _ => k) (StableHlo.nullary y v hy :: ops) (([], y) :: sg)
      fun V => (V (Proc.devRef .tc y) = v) :: E V :=
  cons (foot_nullary _ _) (fun V hV => (congrFun hV (Proc.devRef .tc y)).symm.trans (nullary_result y v hy V)) h
/-- A one-operand operation of the main program in front of a line. -/
theorem runary (f : x.ty.Contents Val → y.ty.Contents Val) (hx hy) (h : Line k ops sg E) :
    Line ((hlo rfl (StableHlo.unary x y f hx hy) fun _ => .ret (⟨⟩ : PUnit)) >>= fun _ => k) (StableHlo.unary x y f hx hy :: ops) (([x], y) :: sg)
      fun V => (V (Proc.devRef .tc y) = f (V (Proc.devRef .tc x))) :: E V :=
  cons (foot_unary _ _ _) (fun V hV => (congrFun hV (Proc.devRef .tc y)).symm.trans (unary_result x y f hx hy V)) h
/-- A two-operand operation of the main program in front of a line. -/
theorem rbinary (f : a.ty.Contents Val → b.ty.Contents Val → y.ty.Contents Val) (ha hb hy) (h : Line k ops sg E) :
    Line ((hlo rfl (StableHlo.binary a b y f ha hb hy) fun _ => .ret (⟨⟩ : PUnit)) >>= fun _ => k) (StableHlo.binary a b y f ha hb hy :: ops) (([a, b], y) :: sg)
      fun V => (V (Proc.devRef .tc y) = f (V (Proc.devRef .tc a)) (V (Proc.devRef .tc b))) :: E V :=
  cons (foot_binary _ _ _ _) (fun V hV => (congrFun hV (Proc.devRef .tc y)).symm.trans (binary_result a b y f ha hb hy V)) h

end Line

end Cert.Proof.Ref

end
-- ==== Proof.Lines.lean ====
/-
  The reference as a straight line of array operations: each of its functions, and the whole, with the operations' reads
  and writes and their equations.
-/
module

public import proofs.«01_k».proof.Proof.Host
public import proofs.«01_k».proof.Proof.Gen.ReferenceIdeal

@[expose] public section

noncomputable section

namespace Cert.Proof.Ref

open Cert.ReferenceIdeal Cert.ReferenceIdeal.Gen
open Idealize.ShloMosaic Idealize.ShloMosaic.StableHlo
open Idealize.SL.Sem

variable {F : FTy → Type} [FloatOps F]

set_option maxHeartbeats 4000000

/-- The clip's operations. -/
def clipL (arg0 : TRef sig ⟨S_, .i32⟩) (arg1 : TRef sig ⟨S_, .i32⟩) (arg2 : TRef sig ⟨S_, .i32⟩) (φ : fn_clip.Bufs) : LineOf (fn_clip.body (F := F) arg0 arg1 arg2 φ) := by
  apply LineOf.mk
  case line =>
    unfold fn_clip.body
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The other clip's operations. -/
def clip0L (arg0 : TRef sig ⟨S_, .i32⟩) (arg1 : TRef sig ⟨S_, .i32⟩) (arg2 : TRef sig ⟨S_, .i32⟩) (φ : fn_clip_0.Bufs) : LineOf (fn_clip_0.body (F := F) arg0 arg1 arg2 φ) := by
  apply LineOf.mk
  case line =>
    unfold fn_clip_0.body
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's first part, on pairs of words. -/
def tfS0 (arg0 : TRef sig ⟨S_, .i32⟩) (arg1 : TRef sig ⟨S_, .i32⟩) (arg2 : TRef sig ⟨S2, .i32⟩) (arg3 : TRef sig ⟨S2, .i32⟩) (φ : fn_threefry2x32.Bufs) : LineOf (fn_threefry2x32.body_part0 (F := F) arg0 arg1 arg2 arg3 φ) := by
  apply LineOf.mk
  case line =>
    unfold fn_threefry2x32.body_part0
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's second part, on pairs of words. -/
def tfS1 (arg0 : TRef sig ⟨S_, .i32⟩) (arg1 : TRef sig ⟨S_, .i32⟩) (arg2 : TRef sig ⟨S2, .i32⟩) (arg3 : TRef sig ⟨S2, .i32⟩) (φ : fn_threefry2x32.Bufs) : LineOf (fn_threefry2x32.body_part1 (F := F) arg0 arg1 arg2 arg3 φ) := by
  apply LineOf.mk
  case line =>
    unfold fn_threefry2x32.body_part1
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's third part, on pairs of words. -/
def tfS2 (arg0 : TRef sig ⟨S_, .i32⟩) (arg1 : TRef sig ⟨S_, .i32⟩) (arg2 : TRef sig ⟨S2, .i32⟩) (arg3 : TRef sig ⟨S2, .i32⟩) (φ : fn_threefry2x32.Bufs) : LineOf (fn_threefry2x32.body_part2 (F := F) arg0 arg1 arg2 arg3 φ) := by
  apply LineOf.mk
  case line =>
    unfold fn_threefry2x32.body_part2
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's fourth part, on pairs of words. -/
def tfS3 (arg0 : TRef sig ⟨S_, .i32⟩) (arg1 : TRef sig ⟨S_, .i32⟩) (arg2 : TRef sig ⟨S2, .i32⟩) (arg3 : TRef sig ⟨S2, .i32⟩) (φ : fn_threefry2x32.Bufs) : LineOf (fn_threefry2x32.body_part3 (F := F) arg0 arg1 arg2 arg3 φ) := by
  apply LineOf.mk
  case line =>
    unfold fn_threefry2x32.body_part3
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's operations on pairs of words. -/
def tfS (arg0 arg1 : TRef sig ⟨S_, .i32⟩) (arg2 arg3 : TRef sig ⟨S2, .i32⟩) (φ : fn_threefry2x32.Bufs) : LineOf (fn_threefry2x32.body (F := F) arg0 arg1 arg2 arg3 φ) := by
  apply LineOf.mk
  case line =>
    unfold fn_threefry2x32.body
    exact Line.call (tfS0 arg0 arg1 arg2 arg3 φ) (Line.call (tfS1 arg0 arg1 arg2 arg3 φ)
      (Line.call (tfS2 arg0 arg1 arg2 arg3 φ) (Line.tail (tfS3 arg0 arg1 arg2 arg3 φ))))

/-- The key split's operations. -/
def splitL (arg0 : TRef sig ⟨S2, .i32⟩) (φ : fn_threefry_split.Bufs) : LineOf (fn_threefry_split.body (F := F) arg0 φ) := by
  apply LineOf.mk
  case line =>
    unfold fn_threefry_split.body
    repeat (first
      | with_reducible apply Line.nullary
      | with_reducible apply Line.unary
      | with_reducible apply Line.binary
      | with_reducible apply Line.ternary
      | with_reducible apply Line.reshape
      | with_reducible apply Line.call (tfS _ _ _ _ _))
    first
      | exact Line.nil
      | (apply Line.last
         first
           | with_reducible apply Line.unary
           | with_reducible apply Line.binary
         exact Line.nil)

/-- The cipher's first part, on the rows' counters. -/
def tfA0 (arg0 : TRef sig ⟨S_, .i32⟩) (arg1 : TRef sig ⟨S_, .i32⟩) (arg2 : TRef sig ⟨S2x32x1x1, .i32⟩) (arg3 : TRef sig ⟨S2x32x1x1, .i32⟩) (φ : fn_threefry2x32_1.Bufs) : LineOf (fn_threefry2x32_1.body_part0 (F := F) arg0 arg1 arg2 arg3 φ) := by
  apply LineOf.mk
  case line =>
    unfold fn_threefry2x32_1.body_part0
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's second part, on the rows' counters. -/
def tfA1 (arg0 : TRef sig ⟨S_, .i32⟩) (arg1 : TRef sig ⟨S_, .i32⟩) (arg2 : TRef sig ⟨S2x32x1x1, .i32⟩) (arg3 : TRef sig ⟨S2x32x1x1, .i32⟩) (φ : fn_threefry2x32_1.Bufs) : LineOf (fn_threefry2x32_1.body_part1 (F := F) arg0 arg1 arg2 arg3 φ) := by
  apply LineOf.mk
  case line =>
    unfold fn_threefry2x32_1.body_part1
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's third part, on the rows' counters. -/
def tfA2 (arg0 : TRef sig ⟨S_, .i32⟩) (arg1 : TRef sig ⟨S_, .i32⟩) (arg2 : TRef sig ⟨S2x32x1x1, .i32⟩) (arg3 : TRef sig ⟨S2x32x1x1, .i32⟩) (φ : fn_threefry2x32_1.Bufs) : LineOf (fn_threefry2x32_1.body_part2 (F := F) arg0 arg1 arg2 arg3 φ) := by
  apply LineOf.mk
  case line =>
    unfold fn_threefry2x32_1.body_part2
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's fourth part, on the rows' counters. -/
def tfA3 (arg0 : TRef sig ⟨S_, .i32⟩) (arg1 : TRef sig ⟨S_, .i32⟩) (arg2 : TRef sig ⟨S2x32x1x1, .i32⟩) (arg3 : TRef sig ⟨S2x32x1x1, .i32⟩) (φ : fn_threefry2x32_1.Bufs) : LineOf (fn_threefry2x32_1.body_part3 (F := F) arg0 arg1 arg2 arg3 φ) := by
  apply LineOf.mk
  case line =>
    unfold fn_threefry2x32_1.body_part3
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The cipher's operations on the rows' counters. -/
def tfA (arg0 arg1 : TRef sig ⟨S_, .i32⟩) (arg2 arg3 : TRef sig ⟨S2x32x1x1, .i32⟩) (φ : fn_threefry2x32_1.Bufs) : LineOf (fn_threefry2x32_1.body (F := F) arg0 arg1 arg2 arg3 φ) := by
  apply LineOf.mk
  case line =>
    unfold fn_threefry2x32_1.body
    exact Line.call (tfA0 arg0 arg1 arg2 arg3 φ) (Line.call (tfA1 arg0 arg1 arg2 arg3 φ)
      (Line.call (tfA2 arg0 arg1 arg2 arg3 φ) (Line.tail (tfA3 arg0 arg1 arg2 arg3 φ))))

/-- The draw's first part. -/
def randint0 (arg0 : TRef sig ⟨S2, .i32⟩) (arg1 : TRef sig ⟨S_, .i32⟩) (arg2 : TRef sig ⟨S_, .i32⟩) (φ : fn_randint.Bufs) : LineOf (fn_randint.body_part0 (F := F) arg0 arg1 arg2 φ) := by
  apply LineOf.mk
  case line =>
    unfold fn_randint.body_part0
    repeat (first
      | with_reducible apply Line.nullary
      | with_reducible apply Line.unary
      | with_reducible apply Line.binary
      | with_reducible apply Line.ternary
      | with_reducible apply Line.reshape
      | with_reducible apply Line.call (clipL _ _ _ _)
      | with_reducible apply Line.call (clip0L _ _ _ _)
      | with_reducible apply Line.call (splitL _ _)
      | with_reducible apply Line.call (tfA _ _ _ _ _))
    first
      | exact Line.nil
      | (apply Line.last
         first
           | with_reducible apply Line.unary
           | with_reducible apply Line.binary
         exact Line.nil)

/-- The draw's second part. -/
def randint1 (arg0 : TRef sig ⟨S2, .i32⟩) (arg1 : TRef sig ⟨S_, .i32⟩) (arg2 : TRef sig ⟨S_, .i32⟩) (φ : fn_randint.Bufs) : LineOf (fn_randint.body_part1 (F := F) arg0 arg1 arg2 φ) := by
  apply LineOf.mk
  case line =>
    unfold fn_randint.body_part1
    repeat (first
      | with_reducible apply Line.nullary
      | with_reducible apply Line.unary
      | with_reducible apply Line.binary
      | with_reducible apply Line.ternary
      | with_reducible apply Line.reshape
      | with_reducible apply Line.call (tfA _ _ _ _ _))
    first
      | exact Line.nil
      | (apply Line.last
         first
           | with_reducible apply Line.unary
           | with_reducible apply Line.binary
         exact Line.nil)

/-- The draw's operations. -/
def randintL (arg0 : TRef sig ⟨S2, .i32⟩) (arg1 arg2 : TRef sig ⟨S_, .i32⟩) (φ : fn_randint.Bufs) : LineOf (fn_randint.body (F := F) arg0 arg1 arg2 φ) := by
  apply LineOf.mk
  case line =>
    unfold fn_randint.body
    exact Line.call (randint0 arg0 arg1 arg2 φ) (Line.tail (randint1 arg0 arg1 arg2 φ))

/-- The operations of the read along the last axis. -/
def takeL (arg0 : TRef sig ⟨S2x32x1x160000, .f32⟩) (arg1 : TRef sig ⟨S2x32x1x152000, .i32⟩) (φ : fn_take_along_axis.Bufs) :
    LineOf (fn_take_along_axis.body (F := F) arg0 arg1 φ) := by
  apply LineOf.mk
  case line =>
    unfold fn_take_along_axis.body
    repeat (first
      | with_reducible apply Line.nullary
      | with_reducible apply Line.unary
      | with_reducible apply Line.binary
      | with_reducible apply Line.ternary
      | with_reducible apply Line.reshape)
    first
      | exact Line.nil
      | (apply Line.last
         first
           | with_reducible apply Line.unary
           | with_reducible apply Line.binary
         exact Line.nil)

/-- The main program's operations. -/
def mainL (d : Dev nD) : LineOf (main (F := F) d) := by
  apply LineOf.mk
  case line =>
    unfold main
    repeat (first
      | with_reducible apply Line.rnullary
      | with_reducible apply Line.runary
      | with_reducible apply Line.rbinary
      | with_reducible apply Line.call (randintL _ _ _ _)
      | with_reducible apply Line.call (takeL _ _ _))
    first
      | exact Line.nil
      | (apply Line.last
         first
           | with_reducible apply Line.unary
           | with_reducible apply Line.binary
         exact Line.nil)

end Cert.Proof.Ref

end
-- ==== Proof.Cipher.lean ====
/-
  The reference's block cipher (threefry with twenty rounds on pairs of 32-bit words) as a function of words, and the
  stretches of the reference's equations that compute it.
-/
module

public import proofs.«01_k».proof.Proof.Lines

@[expose] public section

noncomputable section

namespace Cert.Proof.Ref

open Cert.ReferenceIdeal Cert.ReferenceIdeal.Gen
open Idealize.ShloMosaic Idealize.ShloMosaic.StableHlo
open Idealize.SL.Sem

/-! ## The cipher on words -/

/-- A round: the sum, and the second word rotated left by `a` (right by `b`) against the sum. -/
def rnd (a b : BitVec 32) (x : BitVec 32 × BitVec 32) : BitVec 32 × BitVec 32 :=
  (x.1 + x.2, (x.1 + x.2) ^^^ (x.2 <<< a ||| x.2 >>> b))

/-- The keys' addition after four rounds, with the group's number. -/
def inj (k l g : BitVec 32) (x : BitVec 32 × BitVec 32) : BitVec 32 × BitVec 32 := (x.1 + k, x.2 + l + g)

/-- Four rounds by the first four rotations. -/
def odd (x : BitVec 32 × BitVec 32) : BitVec 32 × BitVec 32 := rnd 6 26 (rnd 26 6 (rnd 15 17 (rnd 13 19 x)))

/-- Four rounds by the other four rotations. -/
def even (x : BitVec 32 × BitVec 32) : BitVec 32 × BitVec 32 := rnd 24 8 (rnd 16 16 (rnd 29 3 (rnd 17 15 x)))

/-- The cipher's value of a pair under the two key words. -/
def tf (k l : BitVec 32) (x : BitVec 32 × BitVec 32) : BitVec 32 × BitVec 32 :=
  let m := k ^^^ l ^^^ 466688986
  inj m k 5 (odd (inj l m 4 (even (inj k l 3 (odd (inj m k 2 (even (inj l m 1 (odd (x.1 + k, x.2 + l))))))))))

/-- The cipher from its groups. -/
theorem tf_of {k l m : BitVec 32} {x e g₁ g₂ g₃ g₄ g₅ : BitVec 32 × BitVec 32} (hm : m = k ^^^ l ^^^ 466688986) (he : e = (x.1 + k, x.2 + l))
    (h₁ : g₁ = inj l m 1 (odd e)) (h₂ : g₂ = inj m k 2 (even g₁)) (h₃ : g₃ = inj k l 3 (odd g₂)) (h₄ : g₄ = inj l m 4 (even g₃))
    (h₅ : g₅ = inj m k 5 (odd g₄)) : g₅ = tf k l x := by
  subst hm he h₁ h₂ h₃ h₄ h₅
  rfl

/-! ## The equations of a stretch -/

/-- The one index of a scalar. -/
def nil : S_.Idx := fun a => a.elim0

/-- A word broadcast to every place reads as itself. -/
theorem bc0 {α : Type} {s : Shape} (h : S_.BroadcastsInDim s ![]) (x : S_.Idx → α) (i : s.Idx) : broadcastInDim s ![] h x i = x nil :=
  congrArg x (funext fun a => a.elim0)

section
variable {s : Shape} {h : S_.BroadcastsInDim s ![]}

/-- A round's equations, before others. -/
abbrev Rnd (h : S_.BroadcastsInDim s ![]) (a a' : BitVec 32) (x0 x1 S b l b' r o y : IVec s 32) (c c' : IVec S_ 32) (L : List Prop) : List Prop :=
  (S = addi x0 x1) :: (c = constantI S_ 32 a) :: (b = broadcastInDim s ![] h c) :: (l = Host.shli x1 b) :: (c' = constantI S_ 32 a') ::
    (b' = broadcastInDim s ![] h c') :: (r = Host.shrui x1 b') :: (o = ori l r) :: (y = xori S o) :: L

/-- The keys' addition's equations, before others. -/
abbrev Inj (h : S_.BroadcastsInDim s ![]) (g : BitVec 32) (x0 x1 bk y0 bl u bg y1 : IVec s 32) (k l c : IVec S_ 32) (L : List Prop) : List Prop :=
  (bk = broadcastInDim s ![] h k) :: (y0 = addi x0 bk) :: (bl = broadcastInDim s ![] h l) :: (u = addi x1 bl) :: (c = constantI S_ 32 g) ::
    (bg = broadcastInDim s ![] h c) :: (y1 = addi u bg) :: L

/-- One round's operations compute `rnd` at each place. -/
theorem rnd_eq {a a' : BitVec 32} {x0 x1 S b l b' r o y : IVec s 32} {c c' : IVec S_ 32} {L : List Prop}
    (H : All (Rnd h a a' x0 x1 S b l b' r o y c c' L)) (ha : a.toNat < 32 ∧ a'.toNat < 32) (i : s.Idx) :
    (S i, y i) = rnd a a' (x0 i, x1 i) ∧ All L := by
  obtain ⟨rfl, rfl, rfl, rfl, rfl, rfl, rfl, rfl, rfl, H⟩ := H
  refine ⟨?_, H⟩
  simp only [rnd, addi, xori, ori, Host.shli, Host.shrui, bc0, constantI, IntOp.addi, IntOp.xori, IntOp.ori, IntOp.shli, IntOp.shrui,
    ha.1, ha.2, if_true]

/-- A key injection's operations compute `inj` at each place. -/
theorem inj_eq {g : BitVec 32} {x0 x1 bk y0 bl u bg y1 : IVec s 32} {k l c : IVec S_ 32} {L : List Prop}
    (H : All (Inj h g x0 x1 bk y0 bl u bg y1 k l c L)) (i : s.Idx) : (y0 i, y1 i) = inj (k nil) (l nil) g (x0 i, x1 i) ∧ All L := by
  obtain ⟨rfl, rfl, rfl, rfl, rfl, rfl, rfl, H⟩ := H
  refine ⟨?_, H⟩
  simp only [inj, addi, bc0, constantI, IntOp.addi]

/-- Four rounds and the keys' addition. -/
theorem grp_eq {a₁ a₁' a₂ a₂' a₃ a₃' a₄ a₄' g : BitVec 32} {x0 x1 S₁ b₁ l₁ b₁' r₁ o₁ y₁ S₂ b₂ l₂ b₂' r₂ o₂ y₂ S₃ b₃ l₃ b₃' r₃ o₃ y₃
      S₄ b₄ l₄ b₄' r₄ o₄ y₄ bk y0 bl u bg y1 : IVec s 32} {c₁ c₁' c₂ c₂' c₃ c₃' c₄ c₄' k l c : IVec S_ 32} {L : List Prop}
    (H : All (Rnd h a₁ a₁' x0 x1 S₁ b₁ l₁ b₁' r₁ o₁ y₁ c₁ c₁' (Rnd h a₂ a₂' S₁ y₁ S₂ b₂ l₂ b₂' r₂ o₂ y₂ c₂ c₂'
      (Rnd h a₃ a₃' S₂ y₂ S₃ b₃ l₃ b₃' r₃ o₃ y₃ c₃ c₃' (Rnd h a₄ a₄' S₃ y₃ S₄ b₄ l₄ b₄' r₄ o₄ y₄ c₄ c₄'
      (Inj h g S₄ y₄ bk y0 bl u bg y1 k l c L))))))
    (ha : ((a₁.toNat < 32 ∧ a₁'.toNat < 32) ∧ a₂.toNat < 32 ∧ a₂'.toNat < 32) ∧ (a₃.toNat < 32 ∧ a₃'.toNat < 32) ∧ a₄.toNat < 32 ∧ a₄'.toNat < 32)
    (i : s.Idx) :
    (y0 i, y1 i) = inj (k nil) (l nil) g (rnd a₄ a₄' (rnd a₃ a₃' (rnd a₂ a₂' (rnd a₁ a₁' (x0 i, x1 i))))) ∧ All L := by
  obtain ⟨e₁, H⟩ := rnd_eq H ha.1.1 i
  obtain ⟨e₂, H⟩ := rnd_eq H ha.1.2 i
  obtain ⟨e₃, H⟩ := rnd_eq H ha.2.1 i
  obtain ⟨e₄, H⟩ := rnd_eq H ha.2.2 i
  obtain ⟨e, H⟩ := inj_eq H i
  exact ⟨by rw [e, e₄, e₃, e₂, e₁], H⟩

/-- The keys' mixing and the first addition's equations, before others. -/
abbrev Pre (h : S_.BroadcastsInDim s ![]) (x y kb x0 lb x1 : IVec s 32) (k l kl c m : IVec S_ 32) (L : List Prop) : List Prop :=
  (kl = xori k l) :: (c = constantI S_ 32 466688986) :: (m = xori kl c) :: (kb = broadcastInDim s ![] h k) :: (x0 = addi x kb) ::
    (lb = broadcastInDim s ![] h l) :: (x1 = addi y lb) :: L

/-- The first key injection and the key's parity word, at each place. -/
theorem pre_eq {x y kb x0 lb x1 : IVec s 32} {k l kl c m : IVec S_ 32} {L : List Prop} (H : All (Pre h x y kb x0 lb x1 k l kl c m L)) (i : s.Idx) :
    m nil = k nil ^^^ l nil ^^^ 466688986 ∧ (x0 i, x1 i) = (x i + k nil, y i + l nil) ∧ All L := by
  obtain ⟨rfl, rfl, rfl, rfl, rfl, rfl, rfl, H⟩ := H
  exact ⟨rfl, by simp only [addi, bc0, IntOp.addi], H⟩

end

/-! ## The reference's two copies of it -/

variable {F : FTy → Type} [FloatOps F] {V : Valuation τ sig (Elt F)}

/-- The cipher at two positions. -/
theorem tfS_val {k l : TRef sig ⟨S_, .i32⟩} {x y : TRef sig ⟨S2, .i32⟩} {φ : fn_threefry2x32.Bufs} (h : All ((tfS (F := F) k l x y φ).E V)) (i : S2.Idx) :
    (rd φ.v171 V i, rd φ.v175 V i) = tf (rd k V nil) (rd l V nil) (rd x V i, rd y V i) := by
  obtain ⟨h0, h1, h2, h3, -⟩ := h
  obtain ⟨em, e, H⟩ := pre_eq (h0.append (h1.append (h2.append h3))) i
  obtain ⟨g1, H⟩ := grp_eq H (by decide) i
  obtain ⟨g2, H⟩ := grp_eq H (by decide) i
  obtain ⟨g3, H⟩ := grp_eq H (by decide) i
  obtain ⟨g4, H⟩ := grp_eq H (by decide) i
  obtain ⟨g5, H⟩ := grp_eq H (by decide) i
  exact tf_of em e g1 g2 g3 g4 g5

/-- The cipher at every row's position. -/
theorem tfA_val {k l : TRef sig ⟨S_, .i32⟩} {x y : TRef sig ⟨S2x32x1x1, .i32⟩} {φ : fn_threefry2x32_1.Bufs} (h : All ((tfA (F := F) k l x y φ).E V)) (i : S2x32x1x1.Idx) :
    (rd φ.v171 V i, rd φ.v175 V i) = tf (rd k V nil) (rd l V nil) (rd x V i, rd y V i) := by
  obtain ⟨h0, h1, h2, h3, -⟩ := h
  obtain ⟨em, e, H⟩ := pre_eq (h0.append (h1.append (h2.append h3))) i
  obtain ⟨g1, H⟩ := grp_eq H (by decide) i
  obtain ⟨g2, H⟩ := grp_eq H (by decide) i
  obtain ⟨g3, H⟩ := grp_eq H (by decide) i
  obtain ⟨g4, H⟩ := grp_eq H (by decide) i
  obtain ⟨g5, H⟩ := grp_eq H (by decide) i
  exact tf_of em e g1 g2 g3 g4 g5

end Cert.Proof.Ref

end
-- ==== Proof.Setup.lean ====
/-
  The set-up of the certificate: the kernel's launch as the launch theorem sees it, the numbers of a tile's work items
  (row, shift, first word of the fetched stretch, size), the views its copies name, and what they hold.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Pointwise.Reshape
public import Idealize.ShloMosaic.Lib.Tactic
public import proofs.«01_k».proof.Proof.Gen.KernelIdeal
public import proofs.«01_k».proof.Proof.Gen.KernelIdeal.Skeleton

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev wLoc (d : Dev nD) : Loc nD τ sig := (SparseCore.T d).loc main_arg0
abbrev oLoc (d : Dev nD) : Loc nD τ sig := (SparseCore.T d).loc main_v0

abbrev cV (i : grid0.Coords) : Fin τ.nSC := (i 0).castLE hcore0
abbrev jV (i : grid0.Coords) : Fin τ.nSub := (i 1).castLE hsub0
/-- The thread of the tile at `i` of device `d`. -/
abbrev thr (d : Dev nD) (i : grid0.Coords) : Thread nD τ := V d (cV i) (jV i)

/-! ## The numbers of a work item

Tile `i` works on two rows of the 64, and on each row in twelve stretches: its item `j < 24` is stretch `j % 12` of the
row `rowOf i j`. -/

/-- The shift of each of the 64 rows. -/
def offTab : List Nat := [
     644,  914, 6071, 2369, 5709, 5419, 6977,  807,
    1094, 1026, 2152, 3954, 1945, 1051, 4812, 1490,
    5003, 2754, 5635, 5639, 6582, 6603, 3148, 7427,
    7084, 7761, 6192, 7131, 3292, 5239, 1989, 3812,
    1237, 1198, 7731,  724, 6702, 4274, 5393, 6253,
    7239, 1796, 3735, 6909, 6905, 6592,  956, 4324,
    5987, 3853, 3348, 4955, 2962, 6323, 1784, 4599,
    7691, 3410, 1627, 2361,  985, 6150, 7904, 5000]

/-- The shift of row `n`. -/
def OFF (n : Nat) : Nat := offTab.getD n 0

/-- The row of item `j` of tile `i`. -/
def rowOf (i : grid0.Coords) (j : Nat) : Nat := 4 * (i 1).val + 2 * (i 0).val + j / 12
/-- The item's first output column, and how many columns it makes. -/
def start (j : Nat) : Nat := (j % 12) * 12672
def csz (j : Nat) : Nat := if j % 12 = 11 then 12608 else 12672
/-- The first column of the stretch of the row the item fetches. -/
def srcStart (i : grid0.Coords) (j : Nat) : Nat := min (OFF (rowOf i j) / 128 * 128 + start j) 147200
/-- Where in the fetched stretch the item's first value stands. -/
def shift (i : grid0.Coords) (j : Nat) : Nat := OFF (rowOf i j) + start j - srcStart i j

abbrev inOffs (i : grid0.Coords) (j : Nat) : Fin 4 → Nat := ![rowOf i j / 32, rowOf i j % 32, 0, srcStart i j]
abbrev outOffs (i : grid0.Coords) (j : Nat) : Fin 4 → Nat := ![rowOf i j / 32, rowOf i j % 32, 0, start j]

/-- Each offset is below 8000. -/
theorem OFF_lt (n : Nat) : OFF n < 8000 := by
  unfold OFF
  by_cases h : n < 64
  · have : ∀ k : Fin 64, offTab.getD k.val 0 < 8000 := by decide +kernel
    exact this ⟨n, h⟩
  · rw [List.getD_eq_getElem?_getD, List.getElem?_eq_none (show offTab.length ≤ n by simp only [offTab, List.length_cons, List.length_nil]; omega)]
    exact Nat.succ_pos _

/-- There are 64 rows. -/
theorem rowOf_lt (i : grid0.Coords) {j : Nat} (hj : j < 24) : rowOf i j < 64 := by
  have h0 : (i 0).val < 2 := (i 0).isLt
  have h1 : (i 1).val < 16 := (i 1).isLt
  unfold rowOf; omega

/-- An item's columns are in the result's row. -/
theorem start_le (j : Nat) : start j + csz j ≤ 152000 := by unfold start csz; split <;> omega
/-- An item has at most 12672 columns. -/
theorem csz_le (j : Nat) : csz j ≤ 12672 := by unfold csz; split <;> omega
/-- An item's source stretch is in the argument's row. -/
theorem srcStart_le (i : grid0.Coords) (j : Nat) : srcStart i j + 12800 ≤ 160000 := by unfold srcStart; omega
/-- The fetched stretch covers the item's values. -/
theorem srcStart_shift (i : grid0.Coords) (j : Nat) : srcStart i j + shift i j = OFF (rowOf i j) + start j := by
  unfold shift srcStart; omega
/-- The shift and the item's columns fit its input buffer. -/
theorem shift_le (i : grid0.Coords) (j : Nat) : shift i j + csz j ≤ 12800 := by
  have h := OFF_lt (rowOf i j)
  unfold shift srcStart start csz; split <;> omega

/-- An item's input copy is in bounds. -/
theorem inb_in (i : grid0.Coords) {j : Nat} (hj : j < 24) : ∀ a, inOffs i j a + S1x1x1x12800.size a ≤ S2x32x1x160000.size a := by
  have h := rowOf_lt i hj
  have h' := srcStart_le i j
  intro a
  match a with
  | 0 => show rowOf i j / 32 + 1 ≤ 2; omega
  | 1 => show rowOf i j % 32 + 1 ≤ 32; omega
  | 2 => show 0 + 1 ≤ 1; omega
  | 3 => exact h'

/-! ## The views -/

/-- The array the kernel reads, and the one it writes. -/
abbrev wV : Memref sig .scVector .hbm S2x32x1x160000 .f32 := Memref.whole main_arg0_scv
abbrev oV : Memref sig .scVector .hbm S2x32x1x152000 .f32 := Memref.whole main_v0_scv

/-- The four buffers the stretches are fetched into, and the four the results are made in. -/
abbrev IB (s : Fin 4) : Memref sig .scVector .vmem S12800 .f32 :=
  match s with
  | 0 => Memref.whole cc0_scratch0
  | 1 => Memref.whole cc0_scratch1
  | 2 => Memref.whole cc0_scratch2
  | 3 => Memref.whole cc0_scratch3
abbrev OB (s : Fin 4) : Memref sig .scVector .vmem S12672 .f32 :=
  match s with
  | 0 => Memref.whole cc0_scratch4
  | 1 => Memref.whole cc0_scratch5
  | 2 => Memref.whole cc0_scratch6
  | 3 => Memref.whole cc0_scratch7

/-- Each input buffer is whole. -/
theorem IB_whole (s : Fin 4) : (IB s).IsWhole := match s with
  | 0 | 1 | 2 | 3 => Memref.isWhole_whole _
/-- Each output buffer is whole. -/
theorem OB_whole (s : Fin 4) : (OB s).IsWhole := match s with
  | 0 | 1 | 2 | 3 => Memref.isWhole_whole _

/-- A cell of a semaphore array is in bounds. -/
theorem inb_cell (n : Nat) (k : Fin n) : ∀ a : Fin 1, (![k.val] : Fin 1 → Nat) a + S1.size a ≤ (⟨1, ![n]⟩ : Shape).size a := by
  intro a
  match a with
  | 0 => show k.val + 1 ≤ n; exact k.isLt

/-- The semaphores of the copies in, and of the copies out; the last of the latter is the short stretches'. -/
abbrev isem (s : Fin 4) : DmaSem sig := ((cc0_scratch8.slice (Rect.unit (s := S4) ![s.val] S1.size (inb_cell 4 s))).squeeze S_ squeezes_S1_S_).sem
abbrev osem (s : Fin 5) : DmaSem sig := ((cc0_scratch9.slice (Rect.unit (s := S5) ![s.val] S1.size (inb_cell 5 s))).squeeze S_ squeezes_S1_S_).sem

/-- The stretch of 12800 words of the input at offsets `off`, as one row. -/
abbrev inV (off : Fin 4 → Nat) (inb : ∀ a, off a + S1x1x1x12800.size a ≤ S2x32x1x160000.size a) : Memref sig .scVector .hbm S12800 .f32 :=
  (wV.slice (Rect.unit (s := S2x32x1x160000) off S1x1x1x12800.size inb) (fun _ => rfl)).squeeze S12800 squeezes_S1x1x1x12800_S12800

abbrev Sn (n : Nat) : Shape := ⟨1, ![n]⟩
abbrev S1n (n : Nat) : Shape := ⟨4, ![1, 1, 1, n]⟩

/-- The stretch of `n` words of the output at offsets `off`, as one row. -/
abbrev outV (n : Nat) (sq : (S1n n).Squeezes (Sn n)) (off : Fin 4 → Nat) (inb : ∀ a, off a + (S1n n).size a ≤ S2x32x1x152000.size a) :
    Memref sig .scVector .hbm (Sn n) .f32 :=
  (oV.slice (Rect.unit (s := S2x32x1x152000) off (S1n n).size inb) (fun _ => rfl)).squeeze (Sn n) sq

/-- The index of column `p` of a row of one long axis behind three unit axes. -/
theorem reshape_row (n : Nat) (h : (Sn n).numel = (S1n n).numel) (x : (Sn n).Idx) :
    (Shape.reshapeEquiv h x 0).val = 0 ∧ (Shape.reshapeEquiv h x 1).val = 0 ∧ (Shape.reshapeEquiv h x 2).val = 0
      ∧ (Shape.reshapeEquiv h x 3).val = (x 0).val := by
  have e : Shape.reshapeEquiv h x = (fun | 0 => ⟨0, Nat.one_pos⟩ | 1 => ⟨0, Nat.one_pos⟩ | 2 => ⟨0, Nat.one_pos⟩ | 3 => x 0 : (S1n n).Idx) :=
    Shape.reshapeEquiv_eq_of_rowMajor h (by
      rw [rowMajor_val4 _ (1 * (1 * n)) (1 * n) n rfl rfl rfl, rowMajor_val1]
      show 0 * (1 * (1 * n)) + 0 * (1 * n) + 0 * n + (x 0).val = (x 0).val
      omega)
  rw [e]; exact ⟨rfl, rfl, rfl, rfl⟩

/-! ## The values -/

/-- The input's index at row `n` and column `t`, and column `t` of the output's row `n`. -/
def wIdx (n t : Nat) : S2x32x1x160000.Idx
  | 0 => ⟨n % 64 / 32, show n % 64 / 32 < 2 by omega⟩
  | 1 => ⟨n % 32, show n % 32 < 32 by omega⟩
  | 2 => ⟨0, Nat.one_pos⟩
  | 3 => ⟨t % 160000, show t % 160000 < 160000 by omega⟩

/-- What the output holds at the end: each row of the input read from that row's shift on. -/
def G (w : S2x32x1x160000.Idx → Elt F .f32) : S2x32x1x152000.Idx → Elt F .f32 :=
  fun y => w (wIdx (32 * (y 0).val + (y 1).val) ((y 3).val + OFF (32 * (y 0).val + (y 1).val)))

/-- What item `j`'s copy fetches. -/
def inD (w : S2x32x1x160000.Idx → Elt F .f32) (i : grid0.Coords) (j : Nat) : S12800.Idx → Elt F .f32 :=
  fun x => w (wIdx (rowOf i j) (srcStart i j + (x 0).val))

/-- What item `j` makes, column by column. -/
def outD (w : S2x32x1x160000.Idx → Elt F .f32) (i : grid0.Coords) (j p : Nat) : Elt F .f32 :=
  w (wIdx (rowOf i j) (srcStart i j + (shift i j + p)))

/-- The part of the output item `j` makes. -/
def piece (i : grid0.Coords) (j : Nat) : Finset S2x32x1x152000.Idx :=
  Finset.univ.filter fun y => (y 0).val = rowOf i j / 32 ∧ (y 1).val = rowOf i j % 32 ∧ start j ≤ (y 3).val ∧ (y 3).val < start j + csz j

/-- An argument index is `wIdx`'s where its coordinates are. -/
theorem wIdx_ext {x : S2x32x1x160000.Idx} {n t : Nat} (h0 : (x 0).val = n % 64 / 32) (h1 : (x 1).val = n % 32) (h3 : (x 3).val = t % 160000) :
    x = wIdx n t := by
  funext a
  match a with
  | 0 => exact Fin.ext h0
  | 1 => exact Fin.ext h1
  | 2 => exact Fin.ext (show (x 2).val = 0 from Nat.lt_one_iff.1 (x 2).isLt)
  | 3 => exact Fin.ext h3

/-- Where the fetched stretch's words stand in the input. -/
theorem inV_emb (i : grid0.Coords) {j : Nat} (hj : j < 24) {off inb} (h : off = inOffs i j) (x : S12800.Idx) :
    (inV off inb).view.emb x = wIdx (rowOf i j) (srcStart i j + (x 0).val) := by
  subst h
  have hr := rowOf_lt i hj
  have hs := srcStart_le i j
  have hx : (x 0).val < 12800 := (x 0).isLt
  obtain ⟨e0, e1, e2, e3⟩ := reshape_row 12800 squeezes_S1x1x1x12800_S12800.numel_eq x
  refine wIdx_ext ?_ ?_ ?_
  · show rowOf i j / 32 + 1 * (Shape.reshapeEquiv _ x 0).val = _
    rw [e0]; omega
  · show rowOf i j % 32 + 1 * (Shape.reshapeEquiv _ x 1).val = _
    rw [e1]; omega
  · show srcStart i j + 1 * (Shape.reshapeEquiv _ x 3).val = _
    rw [e3]; omega

/-- What an item's source view reads. -/
theorem inV_read (w : S2x32x1x160000.Idx → Elt F .f32) (i : grid0.Coords) {j : Nat} (hj : j < 24) {off inb} (h : off = inOffs i j) :
    (inV off inb).view.read (Elt F) w = inD w i j := by
  funext x
  exact ((View.read_apply _ _).trans (cast_eq _ _)).trans (congrArg w (inV_emb i hj h x))

/-- Where the made stretch's words stand in the output. -/
theorem outV_emb (i : grid0.Coords) {j : Nat} {n : Nat} {sq off inb} (h : off = outOffs i j) (x : (Sn n).Idx) :
    ((outV n sq off inb).view.emb x 0).val = rowOf i j / 32 ∧ ((outV n sq off inb).view.emb x 1).val = rowOf i j % 32
      ∧ ((outV n sq off inb).view.emb x 3).val = start j + (x 0).val := by
  subst h
  obtain ⟨e0, e1, e2, e3⟩ := reshape_row n sq.numel_eq x
  refine ⟨?_, ?_, ?_⟩
  · show rowOf i j / 32 + 1 * (Shape.reshapeEquiv _ x 0).val = _
    rw [e0]; omega
  · show rowOf i j % 32 + 1 * (Shape.reshapeEquiv _ x 1).val = _
    rw [e1]; omega
  · show start j + 1 * (Shape.reshapeEquiv _ x 3).val = _
    rw [e3]; omega

/-- The made stretch's elements are the item's part of the output. -/
theorem outV_set (i : grid0.Coords) {j : Nat} {n : Nat} {sq off inb} (h : off = outOffs i j) (hn : n = csz j) :
    (outV n sq off inb).view.set = piece i j := by
  subst h hn
  rw [show (outV (csz j) sq (outOffs i j) inb).view.set = (Rect.unit (s := S2x32x1x152000) (outOffs i j) (S1n (csz j)).size inb).set by
    show (((oV).view.slice (Rect.unit (s := S2x32x1x152000) (outOffs i j) (S1n (csz j)).size inb)).reshape (Sn (csz j)) sq.numel_eq).set = _
    rw [View.set_reshape, View.set_slice]; exact Finset.map_refl]
  ext y
  rw [Rect.mem_set_unit, piece, Finset.mem_filter]
  have h2 : (y 2).val < 1 := (y 2).isLt
  constructor
  · intro hy
    have a0 : rowOf i j / 32 ≤ (y 0).val ∧ (y 0).val < rowOf i j / 32 + 1 := hy 0
    have a1 : rowOf i j % 32 ≤ (y 1).val ∧ (y 1).val < rowOf i j % 32 + 1 := hy 1
    have a3 : start j ≤ (y 3).val ∧ (y 3).val < start j + csz j := hy 3
    exact ⟨Finset.mem_univ _, by omega, by omega, a3.1, a3.2⟩
  · rintro ⟨-, a0, a1, a3, a3'⟩ a
    match a with
    | 0 => show rowOf i j / 32 ≤ (y 0).val ∧ (y 0).val < rowOf i j / 32 + 1; omega
    | 1 => show rowOf i j % 32 ≤ (y 1).val ∧ (y 1).val < rowOf i j % 32 + 1; omega
    | 2 => show 0 ≤ (y 2).val ∧ (y 2).val < 0 + 1; omega
    | 3 => exact ⟨a3, a3'⟩

/-- What the copy out leaves in the item's part of the output, when the copied words are the item's. -/
theorem outV_write (w : S2x32x1x160000.Idx → Elt F .f32) (i : grid0.Coords) {j : Nat} (hj : j < 24) {n : Nat} {sq off inb}
    (h : off = outOffs i j) (fd : S2x32x1x152000.Idx → Elt F .f32) (p : (Sn n).Idx → Elt F .f32)
    (hp : ∀ x, p x = outD w i j (x 0).val) :
    ∀ y ∈ (outV n sq off inb).view.set, (outV n sq off inb).view.write (Elt F) fd p Finset.univ y = G w y := by
  intro y hy
  obtain ⟨x, -, rfl⟩ := Finset.mem_map.1 (show y ∈ Finset.univ.map (outV n sq off inb).view.emb from hy)
  obtain ⟨e0, e1, e3⟩ := outV_emb i (sq := sq) (inb := inb) h x
  have hr := rowOf_lt i hj
  rw [View.write_emb_of_mem _ _ (Finset.mem_univ x)]
  refine (cast_eq _ _).trans ((hp x).trans ?_)
  have e : 32 * (rowOf i j / 32) + rowOf i j % 32 = rowOf i j := by omega
  unfold outD G
  rw [e0, e1, e3, e, ← Nat.add_assoc, srcStart_shift]
  congr 2; omega

end Cert.Proof.K

end
-- ==== Proof.Draw.lean ====
/-
  The offsets the reference draws: the key's split, the two words drawn of each row's number, and their reduction below 8000.
-/
module

public import proofs.«01_k».proof.Proof.Cipher
public import proofs.«01_k».proof.Proof.Setup
public import Idealize.ShloMosaic.Lib.Pointwise.Reshape
public import Idealize.ShloMosaic.Lib.Pointwise.SelectCore

@[expose] public section

noncomputable section

namespace Cert.Proof.Ref

open Cert.ReferenceIdeal Cert.ReferenceIdeal.Gen
open Idealize.ShloMosaic Idealize.ShloMosaic.StableHlo
open Idealize.SL.Sem

/-! ## Indices and the small re-indexings -/

/-- An index of a pair. -/
def ix (n : Fin 2) : S2.Idx := fun a => match a with | ⟨0, _⟩ => n

/-- An index of a two-by-two array. -/
def ixx (r c : Fin 2) : S2x2.Idx := fun a => match a with | ⟨0, _⟩ => r | ⟨1, _⟩ => c

/-- The two words of a pair, as scalars. -/
theorem words_eq {key : IVec S2 32} {a b : IVec S1 32} {p q : IVec S_ 32} {h0 : S2.Slices ![0] S1} {h1 : S2.Slices ![1] S1}
    {hc hc' : S1.ShapeCasts S_} {L : List Prop}
    (H : All ((a = extractStridedSlice S1 ![0] key h0) :: (p = shapeCast S_ a hc) :: (b = extractStridedSlice S1 ![1] key h1) :: (q = shapeCast S_ b hc') :: L)) :
    p nil = key (ix 0) ∧ q nil = key (ix 1) ∧ All L := by
  obtain ⟨rfl, rfl, rfl, rfl, H⟩ := H
  refine ⟨congrArg key ?_, congrArg key ?_, H⟩ <;> funext a <;> match a with | ⟨0, _⟩ => ?_
  · exact Fin.ext (by have := (Shape.reshapeEquiv hc nil 0).isLt; show 0 + (Shape.reshapeEquiv hc nil 0).val = 0; have h : S1.size 0 = 1 := rfl; omega)
  · exact Fin.ext (by have := (Shape.reshapeEquiv hc' nil 0).isLt; show 1 + (Shape.reshapeEquiv hc' nil 0).val = 1; have h : S1.size 0 = 1 := rfl; omega)

/-- A row of a two-by-two array, as a pair. -/
theorem row_eq {t : IVec S2x2 32} (r : Fin 2) {h : S2x2.Slices ![r.val, 0] S1x2} {hc : S1x2.ShapeCasts S2} (c : Fin 2) :
    shapeCast S2 (extractStridedSlice S1x2 ![r.val, 0] t h) hc (ix c) = t (ixx r c) := by
  rw [shapeCast_apply _ _ _ (fun a => match a with | ⟨0, _⟩ => (0 : Fin 1) | ⟨1, _⟩ => c) (by revert c; decide)]
  refine congrArg t (funext fun a => ?_)
  match a with
  | ⟨0, _⟩ => rfl
  | ⟨1, _⟩ => exact Fin.ext (Nat.zero_add _)

/-- Two columns side by side. -/
theorem cols_eq {a b : IVec S2 32} {h h' : S2.BroadcastsInDim S2x1 ![0]} {hc : Shape.Concatenates [S2x1, S2x1] S2x2 1} (r : Fin 2) :
    concatenate S2x2 1 [⟨S2x1, broadcastInDim S2x1 ![0] h a⟩, ⟨S2x1, broadcastInDim S2x1 ![0] h' b⟩] hc (ixx r 0) = a (ix r)
    ∧ concatenate S2x2 1 [⟨S2x1, broadcastInDim S2x1 ![0] h a⟩, ⟨S2x1, broadcastInDim S2x1 ![0] h' b⟩] hc (ixx r 1) = b (ix r) := by
  constructor
  · refine (concatenate_pair_apply ..).trans ((dif_pos (show (0 : Nat) < 1 from Nat.one_pos)).trans ?_)
    refine congrArg a (funext fun x => ?_)
    match x with | ⟨0, _⟩ => rfl
  · refine (concatenate_pair_apply ..).trans ((dif_neg (show ¬ (1 : Nat) < 1 from Nat.lt_irrefl 1)).trans ?_)
    refine congrArg b (funext fun x => ?_)
    match x with | ⟨0, _⟩ => rfl

/-! ## The counters -/

/-- A row's number, as the reference counts. -/
def num (i : S2x32x1x1.Idx) : BitVec 64 :=
  32 * BitVec.ofNat 64 (i 0).val + 1 * BitVec.ofNat 64 (i 1).val + 1 * BitVec.ofNat 64 (i 2).val + 1 * BitVec.ofNat 64 (i 3).val

/-- The numbers' two halves. -/
theorem num_eq {x0 x1 x2 x3 b0 b1 b2 b3 p0 p1 p2 p3 s1 s2 s3 b r : IVec S2x32x1x1 64} {lo hi : IVec S2x32x1x1 32} {c0 c1 c2 c3 c : IVec S_ 64}
    {h : S_.BroadcastsInDim S2x32x1x1 ![]} {hl : 32 < 64} {L : List Prop}
    (H : All ((x0 = iotaInDim S2x32x1x1 64 0) :: (x1 = iotaInDim S2x32x1x1 64 1) :: (x2 = iotaInDim S2x32x1x1 64 2) :: (x3 = iotaInDim S2x32x1x1 64 3) ::
      (c0 = constantI S_ 64 32#64) :: (b0 = broadcastInDim S2x32x1x1 ![] h c0) :: (p0 = muli b0 x0) ::
      (c1 = constantI S_ 64 1#64) :: (b1 = broadcastInDim S2x32x1x1 ![] h c1) :: (p1 = muli b1 x1) ::
      (c2 = constantI S_ 64 1#64) :: (b2 = broadcastInDim S2x32x1x1 ![] h c2) :: (p2 = muli b2 x2) ::
      (c3 = constantI S_ 64 1#64) :: (b3 = broadcastInDim S2x32x1x1 ![] h c3) :: (p3 = muli b3 x3) ::
      (s1 = addi p0 p1) :: (s2 = addi s1 p2) :: (s3 = addi s2 p3) ::
      (c = constantI S_ 64 32#64) :: (b = broadcastInDim S2x32x1x1 ![] h c) :: (r = Host.shrui s3 b) :: (lo = trunci 32 s3 hl) :: (hi = trunci 32 r hl) :: L))
    (i : S2x32x1x1.Idx) : lo i = (num i).setWidth 32 ∧ hi i = (num i >>> (32#64)).setWidth 32 ∧ All L := by
  obtain ⟨rfl, rfl, rfl, rfl, rfl, rfl, rfl, rfl, rfl, rfl, rfl, rfl, rfl, rfl, rfl, rfl, rfl, rfl, rfl, rfl, rfl, rfl, rfl, rfl, H⟩ := H
  exact ⟨rfl, rfl, H⟩

/-! ## The reduction -/

/-- The range of the draw from 0 to 8000 is 8000. -/
theorem span : Scalar.select (0#1 &&& IntOp.cmpi .sgt 8000#32 0#32) (Scalar.select (IntOp.cmpi .sle 8000#32 0#32) 1#32 (8000#32 - 0#32) + 1#32)
    (Scalar.select (IntOp.cmpi .sle 8000#32 0#32) 1#32 (8000#32 - 0#32)) = 8000#32 := by decide

/-- The width of the range of the draws is 8000. -/
theorem span_eq {lo hi d d' one w one' w' v : IVec S1x1x1x1 32} {le gt ok both : IVec S1x1x1x1 1} {c c' : IVec S_ 32} {o : IVec S_ 1}
    {h h' : S_.BroadcastsInDim S1x1x1x1 ![]} {L : List Prop} (hlo : lo = fun _ => 0#32) (hhi : hi = fun _ => 8000#32)
    (H : All ((d = subi hi lo) :: (d' = id d) :: (le = cmpi .sle hi lo) :: (c = constantI S_ 32 1#32) :: (one = broadcastInDim S1x1x1x1 ![] h c) ::
      (w = select le one d') :: (gt = cmpi .sgt hi lo) :: (ok = broadcastInDim S1x1x1x1 ![] h' o) :: (both = andi ok gt) ::
      (c' = constantI S_ 32 1#32) :: (one' = broadcastInDim S1x1x1x1 ![] h c') :: (w' = addi w one') :: (v = select both w' w) :: L))
    (ho : o nil = 0#1) : (v = fun _ => 8000#32) ∧ All L := by
  subst hlo hhi
  obtain ⟨rfl, rfl, rfl, rfl, rfl, rfl, rfl, rfl, rfl, rfl, rfl, rfl, rfl, H⟩ := H
  refine ⟨funext fun i => ?_, H⟩
  have e := (bc0 h' o i).trans ho
  simp only [select, andi, e]
  exact span

/-- Two drawn words reduced below 8000. -/
def fold (x y : BitVec 32) : BitVec 32 := (x % 8000 * (65536 % 8000 * (65536 % 8000) % 8000) + y % 8000) % 8000

/-- The reduction's operations compute `fold` at each place. -/
theorem fold_eq {lo v b r q m : IVec S1x1x1x1 32} {x y v' x' m' p v₂ y' u v₃ z z' lo' out : IVec S2x32x1x1 32} {c : IVec S_ 32}
    {h : S_.BroadcastsInDim S1x1x1x1 ![]} {g : S1x1x1x1.BroadcastsInDim S2x32x1x1 ![0, 1, 2, 3]} {L : List Prop}
    (hlo : lo = fun _ => 0#32) (hv : v = fun _ => 8000#32)
    (H : All ((c = constantI S_ 32 65536#32) :: (b = broadcastInDim S1x1x1x1 ![] h c) :: (r = Host.remui b v) :: (q = muli r r) :: (m = Host.remui q v) ::
      (v' = broadcastInDim S2x32x1x1 ![0, 1, 2, 3] g v) :: (x' = Host.remui x v') :: (m' = broadcastInDim S2x32x1x1 ![0, 1, 2, 3] g m) :: (p = muli x' m') ::
      (v₂ = broadcastInDim S2x32x1x1 ![0, 1, 2, 3] g v) :: (y' = Host.remui y v₂) :: (u = addi p y') ::
      (v₃ = broadcastInDim S2x32x1x1 ![0, 1, 2, 3] g v) :: (z = Host.remui u v₃) :: (z' = id z) ::
      (lo' = broadcastInDim S2x32x1x1 ![0, 1, 2, 3] g lo) :: (out = addi lo' z') :: L)) (i : S2x32x1x1.Idx) :
    out i = fold (x i) (y i) := by
  subst hlo hv
  obtain ⟨rfl, rfl, rfl, rfl, rfl, rfl, rfl, rfl, rfl, rfl, rfl, rfl, rfl, rfl, rfl, rfl, rfl, H⟩ := H
  have e : ∀ a : BitVec 32, IntOp.remui .host a 8000#32 = a % 8000 := fun a => if_neg (by decide)
  simp only [addi, muli, Host.remui, broadcastInDim, constantI, IntOp.addi, IntOp.muli, id, e, fold]
  exact BitVec.zero_add _

/-! ## The draw -/

variable {F : FTy → Type} [FloatOps F] {V : Valuation τ sig (Elt F)}

/-- The upper half of a counter below two is zero, its lower half the counter. -/
theorem halves (r : Fin 2) : (IntOp.shrui .host (1#64 * BitVec.ofNat 64 r.val) 32#64).setWidth 32 = 0#32
    ∧ (1#64 * BitVec.ofNat 64 r.val).setWidth 32 = BitVec.ofNat 32 r.val := by revert r; decide

/-- The key's split: its two new keys are the cipher's values of 0 and 1. -/
theorem split_val {key : TRef sig ⟨S2, .i32⟩} {φ : fn_threefry_split.Bufs} (h : All ((splitL (F := F) key φ).E V)) (r : Fin 2) :
    ((rd φ.v14 V : IVec S2x2 32) (ixx r 0), (rd φ.v14 V : IVec S2x2 32) (ixx r 1))
      = tf (rd key V (ix 0)) (rd key V (ix 1)) (0, BitVec.ofNat 32 r.val) := by
  obtain ⟨k, l, h⟩ := words_eq h
  obtain ⟨e4, ec, e5, e6, ec0, e7, e8, e9, e10, ht, e12, e13, e14, -⟩ := h
  have a : (rd φ.v10 V : IVec S2 32) (ix r) = 0 := by
    rw [e10, e8, e7, ec0, e6, e5, ec, e4]; exact (halves r).1
  have b : (rd φ.v9 V : IVec S2 32) (ix r) = BitVec.ofNat 32 r.val := by
    rw [e9, e6, e5, ec, e4]; exact (halves r).2
  have t := tfS_val ht (ix r)
  rw [k, l, a, b] at t
  rw [← t, e14, e13, e12, (cols_eq r).1, (cols_eq r).2]

/-- The offset drawn for a row under a key. -/
def draw (k l : BitVec 32) (i : S2x32x1x1.Idx) : BitVec 32 :=
  let n : BitVec 32 × BitVec 32 := ((num i >>> (32#64)).setWidth 32, (num i).setWidth 32)
  let a := tf k l (0, 0)
  let b := tf k l (0, 1)
  let x := tf a.1 a.2 n
  let y := tf b.1 b.2 n
  fold (x.1 ^^^ x.2) (y.1 ^^^ y.2)

/-- A draw from the named keys and words is `draw`. -/
theorem draw_of {k l a a' b b' x x' y y' : BitVec 32} {i : S2x32x1x1.Idx} (ha : (a, a') = tf k l (0, 0)) (hb : (b, b') = tf k l (0, 1))
    (hx : (x, x') = tf a a' ((num i >>> (32#64)).setWidth 32, (num i).setWidth 32))
    (hy : (y, y') = tf b b' ((num i >>> (32#64)).setWidth 32, (num i).setWidth 32)) : fold (x ^^^ x') (y ^^^ y') = draw k l i := by
  unfold draw
  rw [← ha, ← hb]
  dsimp only
  rw [← hx, ← hy]

set_option maxRecDepth 200000 in
/-- The reference's draws between 0 and 8000. -/
theorem randint_val {key : TRef sig ⟨S2, .i32⟩} {lo hi : TRef sig ⟨S_, .i32⟩} {φ : fn_randint.Bufs} (h : All ((randintL (F := F) key lo hi φ).E V))
    (hlo : rd lo V = constantI S_ 32 0#32) (hhi : rd hi V = constantI S_ 32 8000#32) (i : S2x32x1x1.Idx) :
    rd φ.v89 V i = draw (rd key V (ix 0)) (rd key V (ix 1)) i := by
  obtain ⟨h0, h1, -⟩ := h
  obtain ⟨ec, ec0, ec1, ⟨f0, f1, -⟩, e1, ec2, ec3, ⟨g0, g1, -⟩, e3, ec4, ec5, ⟨k0, k1, -⟩, e5, e6, e7, hs, e9, e10, e11, e12, H⟩ := h0
  obtain ⟨wk, wl, H⟩ := words_eq H
  obtain ⟨nlo, nhi, ht, e37, H⟩ := num_eq H i
  obtain ⟨wk', wl', H⟩ := words_eq H
  replace H := H.append h1
  obtain ⟨nlo', nhi', ht', e62, H⟩ := num_eq H i
  have o : (rd φ.v1 V : IVec S_ 1) nil = 0#1 := by
    rw [e1, hhi, f1, f0, ec, ec0, ec1]; rfl
  have l6 : rd φ.v6 V = fun _ => 0#32 := by
    rw [e6, e3, g1, g0, hlo, ec2, ec3]; rfl
  have l7 : rd φ.v7 V = fun _ => 8000#32 := by
    rw [e7, e5, k1, k0, hhi, ec4, ec5]; rfl
  obtain ⟨ev, H⟩ := span_eq l6 l7 H o
  have r0 (c : Fin 2) : (rd φ.v10 V : IVec S2 32) (ix c) = (rd φ.call3.v14 V : IVec S2x2 32) (ixx 0 c) := by
    rw [e10, e9]; exact row_eq 0 c
  have r1 (c : Fin 2) : (rd φ.v12 V : IVec S2 32) (ix c) = (rd φ.call3.v14 V : IVec S2x2 32) (ixx 1 c) := by
    rw [e12, e11]; exact row_eq 1 c
  have t := tfA_val ht i
  have t' := tfA_val ht' i
  rw [wk, wl, r0, r0, nlo, nhi] at t
  rw [wk', wl', r1, r1, nlo', nhi'] at t'
  have s0 := split_val hs 0
  have s1 := split_val hs 1
  rw [fold_eq l6 ev H i, e37, e62]
  exact draw_of s0 s1 t t'

/-- The offset of a row, as the reference draws it, by the row's number. -/
def offAt (a : Fin 2) (b : Fin 32) : BitVec 32 := draw 0 42 fun x => match x with | ⟨0, _⟩ => a | ⟨1, _⟩ => b | ⟨2, _⟩ => (0 : Fin 1) | ⟨3, _⟩ => (0 : Fin 1)

/-- The reference's drawn offsets are the kernel's table. -/
theorem offAt_eq : ∀ (a : Fin 2) (b : Fin 32), (offAt a b).toNat = K.OFF (32 * a.val + b.val) := by decide +kernel

end Cert.Proof.Ref

end
-- ==== Proof.Take.lean ====
/-
  The reference's result: its argument read at each position plus the row's offset.
-/
module

public import proofs.«01_k».proof.Proof.Draw

@[expose] public section

noncomputable section

namespace Cert.Proof.Ref

open Cert.ReferenceIdeal Cert.ReferenceIdeal.Gen
open Idealize.ShloMosaic Idealize.ShloMosaic.StableHlo
open Idealize.SL.Sem

/-! ## The gather along the last axis -/

/-- A result position's place among the start indices. -/
def sp (y : S2x32x1x152000.Idx) : S2x32x152000x1.Idx :=
  fun a => match a with | ⟨0, _⟩ => y 0 | ⟨1, _⟩ => y 1 | ⟨2, _⟩ => y 3 | ⟨3, _⟩ => (0 : Fin 1)

/-- The reshape that adds the start indices' last axis, read at a result position's place. -/
theorem cast_sp {α : Type} (x : S2x32x1x152000.Idx → α) (h : S2x32x1x152000.ShapeCasts S2x32x152000x1) (y : S2x32x1x152000.Idx) :
    shapeCast S2x32x152000x1 x h (sp y) = x y := by
  refine shapeCast_apply x h (sp y) y ?_
  rw [rowMajor_val4 y 4864000 152000 152000 (by decide) (by decide) (by decide), rowMajor_val4 (sp y) 4864000 152000 1 (by decide) (by decide) (by decide)]
  show (y 0).val * 4864000 + (y 1).val * 152000 + (y 2).val * 152000 + (y 3).val = (y 0).val * 4864000 + (y 1).val * 152000 + (y 3).val * 1 + 0
  have h2 : (y 2).val < 1 := (y 2).isLt
  omega

/-- The gather read at a result position: the operand at the same row, at the start index there. -/
theorem gather_eq {α : Type} (x : S2x32x1x160000.Idx → α) (idx : IVec S2x32x152000x1 32) (y : S2x32x1x152000.Idx) (z : S2x32x1x160000.Idx)
    (h0 : (z 0).val = (y 0).val) (h1 : (z 1).val = (y 1).val) (h3 : (z 3).val = min (idx (sp y)).toInt.toNat 159999) :
    Host.gather gather_S2x32x1x160000_S2x32x152000x1_S2x32x1x152000_2_3_01_01_3_3_1111 x idx y = x z := by
  unfold Host.gather
  refine congrArg x (funext fun a => Fin.ext ?_)
  generalize hD : gather_S2x32x1x160000_S2x32x152000x1_S2x32x1x152000_2_3_01_01_3_3_1111 = D
  show D.start y idx a + D.batchCoord y a + D.offCoord y a = (z a).val
  subst hD
  match a with
  | 0 =>
    rw [GatherDims.start_batching _ _ _ _ (by decide), GatherDims.offCoord_eq_zero _ _ _ (by decide)]
    unfold GatherDims.batchCoord
    rw [dif_pos (by decide)]
    exact (Nat.add_zero _).trans ((Nat.zero_add _).trans h0.symm)
  | 1 =>
    rw [GatherDims.start_batching _ _ _ _ (by decide), GatherDims.offCoord_eq_zero _ _ _ (by decide)]
    unfold GatherDims.batchCoord
    rw [dif_pos (by decide)]
    exact (Nat.add_zero _).trans ((Nat.zero_add _).trans h1.symm)
  | 2 =>
    rw [GatherDims.batchCoord_eq_zero _ _ _ (by decide)]
    unfold GatherDims.start GatherDims.offCoord
    rw [dif_neg (by decide), dif_pos (by decide)]
    have hy : (y 2).val < 1 := (y 2).isLt
    have hz : (z 2).val < 1 := (z 2).isLt
    show 0 + 0 + (y 2).val = (z 2).val
    omega
  | 3 =>
    rw [GatherDims.batchCoord_eq_zero _ _ _ (by decide), GatherDims.offCoord_eq_zero _ _ _ (by decide)]
    unfold GatherDims.start
    rw [dif_pos (by decide)]
    refine Eq.trans ?_ h3.symm
    refine congrArg (fun p => min (idx p).toInt.toNat 159999) (funext fun b => Fin.ext ?_)
    match b with
    | 0 => rfl
    | 1 => rfl
    | 2 => rfl
    | 3 => rfl

/-! ## The bounds' mask -/

/-- A word below the axis's size is not negative and within both bounds. -/
theorem cmp_ok {b : BitVec 32} (h : b.toNat < 160000) :
    IntOp.cmpi .slt b 0#32 = 0#1 ∧ IntOp.cmpi .sge b 0#32 = 1#1 ∧ IntOp.cmpi .sle b 159999#32 = 1#1 := by
  have e : b.toInt = b.toNat := BitVec.toInt_eq_toNat_of_lt (by omega)
  have e0 : (0#32).toInt = 0 := by decide
  have e1 : (159999#32).toInt = 159999 := by decide
  have l : b.slt 0#32 = false := decide_eq_false (by rw [e, e0]; omega)
  have g : (0#32).sle b = true := decide_eq_true (by rw [e, e0]; omega)
  have u : b.sle 159999#32 = true := decide_eq_true (by rw [e, e1]; omega)
  exact ⟨congrArg BitVec.ofBool l, congrArg BitVec.ofBool g, congrArg BitVec.ofBool u⟩

/-- The conjunction of ones is one. -/
theorem reduce_one {s t : Shape} {axes : List (Fin s.rank)} (x : IVec s 1) (init : IVec S_ 1) (h : s.ReducesTo axes t) (hu : 0 < S_.numel)
    (hx : ∀ p, x p = 1#1) (hi : init = constantI S_ 1 1#1) (j : t.Idx) : Host.reduce IntOp.andi x init h hu j = 1#1 := by
  subst hi
  unfold Host.reduce
  generalize (List.finRange s.numel).filter _ = l
  show l.foldl (fun r n => IntOp.andi r (x (s.rowMajor.symm n))) 1#1 = 1#1
  induction l with
  | nil => rfl
  | cons a l ih => rw [List.foldl_cons, hx]; exact ih

/-! ## The result -/

variable {F : FTy → Type} [FloatOps F] {V : Valuation τ sig (Elt F)}

/-- Taking along the last axis at indices below its size. -/
theorem take_val {x : TRef sig ⟨S2x32x1x160000, .f32⟩} {i : TRef sig ⟨S2x32x1x152000, .i32⟩} {φ : fn_take_along_axis.Bufs}
    (h : All ((takeL (F := F) x i φ).E V)) (hi : ∀ y, ((rd i V : IVec S2x32x1x152000 32) y).toNat < 160000) (y : S2x32x1x152000.Idx)
    (z : S2x32x1x160000.Idx) (h0 : (z 0).val = (y 0).val) (h1 : (z 1).val = (y 1).val)
    (h3 : (z 3).val = ((rd i V : IVec S2x32x1x152000 32) y).toNat) : rd φ.v16 V y = rd x V z := by
  obtain ⟨ec, e0, e1, ec0, e2, e3, e4, e5, ec1, ec2, e6, e7, e8, e9, e10, e11, ec3, e12, e13, e14, ecst, e15, e16, -⟩ := h
  have i4 (y) : (rd φ.v4 V : IVec S2x32x1x152000 32) y = (rd i V : IVec S2x32x1x152000 32) y := by
    have c : (rd φ.v1 V : IVec S2x32x1x152000 1) y = 0#1 := by
      rw [e1, e0, ec]; exact (cmp_ok (hi y)).1
    rw [e4]
    show Scalar.select ((rd φ.v1 V : IVec S2x32x1x152000 1) y) _ _ = _
    rw [c]; rfl
  have m11 (p) : (rd φ.v11 V : IVec S2x32x152000x1 1) p = 1#1 := by
    have e : (rd φ.v5 V : IVec S2x32x152000x1 32) p = (rd i V : IVec S2x32x1x152000 32) (Shape.reshapeEquiv shapeCasts_S2x32x1x152000_S2x32x152000x1 p) := by
      rw [e5]; exact i4 _
    have c := cmp_ok (hi (Shape.reshapeEquiv shapeCasts_S2x32x1x152000_S2x32x152000x1 p))
    rw [← e] at c
    rw [e11, e10, e9, e8, ec1, e7, e6, ec2]
    exact congrArg₂ IntOp.andi c.2.1 c.2.2
  have m12 (q) : (rd φ.v12 V : IVec S2x32x152000 1) q = 1#1 := by
    rw [e12]; exact reduce_one _ _ _ _ m11 ec3 q
  rw [e16]
  show Scalar.select ((rd φ.v14 V : IVec S2x32x1x152000 1) y) _ _ = _
  rw [show (rd φ.v14 V : IVec S2x32x1x152000 1) y = 1#1 by rw [e14]; exact m12 _]
  show rd φ.v13 V y = _
  rw [e13]
  refine gather_eq _ _ y z h0 h1 (h3.trans ?_)
  rw [e5, cast_sp, i4, BitVec.toInt_eq_toNat_of_lt (by have := hi y; omega), Int.toNat_natCast]
  have := hi y
  omega

end Cert.Proof.Ref

end
-- ==== Proof.Run.lean ====
/-
  The reference's run: it ends with its argument untouched and its buffers satisfying every operation's equation.
-/
module

public import proofs.«01_k».proof.Proof.Lines
public import proofs.«01_k».proof.Defs
public import Idealize.ShloMosaic.Lib.Quiescent

@[expose] public section

noncomputable section

namespace Cert.Proof.Ref

open Cert.ReferenceIdeal Cert.ReferenceIdeal.Gen
open Idealize.ShloMosaic Idealize.ShloMosaic.StableHlo
open Idealize.SL.Sem

/-- The reference assigns every value once, and after its operands. -/
theorem main_chk : ∀ d : Dev nD, (chk (mainL (F := Ideal) d).sg).1 = true := by decide +kernel

/-- The reference does not write its argument. -/
theorem main_arg : ∀ d : Dev nD, (chk (mainL (F := Ideal) d).sg).2.testBit (key main_arg0) = false := by decide +kernel

/-- Each operation of a list with footprints works on the program's buffers and allocates none. -/
theorem feet_mem {ops : List (HloOp τ sig (Elt Ideal))} {sg : List (Sg sig)} (hf : List.Forall₂ Foot ops sg) :
    ∀ op ∈ ops, op.bufs ⊆ tcRefs τ sig ∧ op.fresh = ∅ := by
  induction hf with
  | nil => exact fun _ h => nomatch h
  | cons h _ ih =>
    intro op ho
    rcases List.mem_cons.mp ho with rfl | ho
    · exact ⟨h.bufs, h.fresh⟩
    · exact ih op ho

/-- From any memory with zero counters the reference terminates, its buffers a solution of its operations' equations and
    its argument as it was. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r => ∀ d : Dev nD, ∃ V : Valuation τ sig (Elt Ideal),
      (∀ b : Ref sig .tc, r.2.mem ((d.tc : Thread nD τ).loc b) = V (Proc.devRef .tc b))
      ∧ V (Proc.devRef .tc main_arg0) = m ((d.tc : Thread nD τ).loc main_arg0)
      ∧ All ((mainL d).E V) := by
  have foot : ∀ d, ∀ op ∈ (mainL (F := Ideal) d).ops, op.bufs ⊆ tcRefs τ sig ∧ op.fresh = ∅ := fun d op ho => by
    exact feet_mem (mainL (F := Ideal) d).line.feet op ho
  refine (θ_run (defs (F := Ideal)) _ _).mono (fun r h d => ⟨_, h d, ?_, ?_⟩)
    (run_seq (by decide) (by decide) defs main (fun d => (mainL d).ops) (fun d => (mainL d).line.prog)
      (fun d => List.forall_iff_forall_mem.2 fun op ho => (foot d op ho).1) m ρ fun d op ho => (foot d op ho).2)
  · exact unwritten (mainL d).line.feet (main_arg d) _
  · exact (mainL d).line.eqs _ (fixed (mainL d).line.feet (main_chk d) _)

/-- The reference terminates and leaves its argument as it was. -/
theorem frame_reference : Cert.quiescent_ReferenceIdeal := by
  intro m ρ _
  refine (θ_run (defs (F := Ideal)) _ _).mono (fun r h => ⟨fun d => ?_, sem_eq_zero_of_no_sems (by decide) r.2⟩) (run_main m ρ)
  obtain ⟨V, hV, ha, -⟩ := h d
  exact (hV _).trans ha

end Cert.Proof.Ref

end
-- ==== Proof.Trip.lean ====
/-
  The loop of a work item: sixteen words at a time, from the fetched stretch to the made one.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The sixteen indices of trip `t`: `16 t` on from `sh`, one by one. -/
def idxs (sh : BitVec 32) (t : Nat) : IVec S16 32 :=
  addi (addi (iota .scVector S16 32 [0] iota_S16_d0_w32_scVector) (broadcast S16 sh))
    (broadcast S16 (Scalar.addi 0#32 (Scalar.muli (Scf.iv 0#32 1#32 t) 16#32)))

/-- A lane's index, as a number. -/
theorem idxs_toNat (sh : BitVec 32) (t : Nat) (hs : sh.toNat ≤ 12800) (ht : t ≤ 792) (x : S16.Idx) :
    (idxs sh t x).toNat = sh.toNat + (16 * t + (x 0).val) := by
  have hx : (x 0).val < 16 := (x 0).isLt
  have e : idxs sh t x = BitVec.ofNat 32 (0 * 16 + (x 0).val) + sh + (0#32 + (0#32 + BitVec.ofNat 32 t * 1#32) * 16#32) := rfl
  rw [e]
  simp only [BitVec.toNat_add, BitVec.toNat_mul, BitVec.toNat_ofNat]
  omega

/-- That the indices name words of the stretch. -/
abbrev Chk (v : IVec S16 32) : Prop := ∀ (a : Fin 1) (x : S16.Idx), ((![v] : Fin 1 → IVec S16 32) a x).toNat < S12800.size a

/-- One trip of an item's loop. -/
abbrev trip (i : grid0.Coords) (ib : Memref sig .scVector .vmem S12800 .f32) (ob : Memref sig .scVector .vmem S12672 .f32)
    (v : IVec S16 32) (dc : Decidable (Chk v)) (off : Fin 1 → Nat) (inb : ∀ a, off a + S16.size a ≤ S12672.size a) :
    Prog (TpuEff nD τ sig (Elt F) Λ₀ (.scVector ((i 0).castLE hcore0) ((i 1).castLE hsub0))) Unit := do
  have hw : Chk v := (← Prog.lift (TpuEff.assume (Chk v) dc)).down
  let x : Vec F S16 .f32 ← SparseCore.vectorLoadIdx ib ![v] hw (View.loads_vmem h_S12800)
  let _y : Vec F S16 .f32 ← Prog.lift (.load ob (Rect.unit (s := S12672) off S16.size inb).toLoadRect (View.loadsAt_vmem h_S16))
  Prog.lift (.store ob (Rect.unit (s := S12672) off S16.size inb) x Finset.univ (View.stores_vmem_bits_univ h_S16 rfl) (.inl rfl))
  pure ⟨⟩

/-- What a trip writes: the words made so far are extended by sixteen. -/
theorem trip_value (ib : Memref sig .scVector .vmem S12800 .f32) (ob : Memref sig .scVector .vmem S12672 .f32)
    {d : Dev nD} {i : grid0.Coords}
    (f : Buf (Elt F) (ib.view.loc (thr d i))) (g : Buf (Elt F) (ob.view.loc (thr d i)))
    (Dt : Nat → Elt F .f32) (sh : BitVec 32) (t : Nat) (hs : sh.toNat ≤ 12800) (ht : t ≤ 792)
    (hf : ∀ (p : Nat) (y : S12800.Idx), (y 0).val = sh.toNat + p → ib.view.read (Elt F) f y = Dt p)
    (hg : ∀ x : S12672.Idx, (x 0).val < 16 * t → ob.view.read (Elt F) g x = Dt (x 0).val)
    (off : Fin 1 → Nat) (inb : ∀ a, off a + S16.size a ≤ S12672.size a) (hoff : off = ![16 * t]) (hc : Chk (idxs sh t)) :
    ∀ x : S12672.Idx, (x 0).val < 16 * (t + 1) →
      ob.view.read (Elt F) ((ob.access (Rect.unit (s := S12672) off S16.size inb)).write (Elt F) g
        (loadIdx ((ib.access (.whole S12800)).read (Elt F) f) ![idxs sh t] hc) Finset.univ) x = Dt (x 0).val := by
  subst hoff
  intro x hx
  by_cases h : (x 0).val < 16 * t
  · rw [← hg x h]
    refine View.read_slice_write_of_not_mem (v := ob.view) _ g _ Finset.univ ?_
    rw [Rect.map_emb_univ, Rect.mem_set_unit]
    intro hm
    have : 16 * t ≤ (x 0).val := (hm 0).1
    omega
  · let x' : S16.Idx := fun | 0 => ⟨(x 0).val - 16 * t, show (x 0).val - 16 * t < 16 by omega⟩
    have ex : x = (Rect.unit (s := S12672) ![16 * t] S16.size inb).emb x' := by
      funext a
      match a with
      | 0 => exact Fin.ext (show (x 0).val = 16 * t + 1 * ((x 0).val - 16 * t) by omega)
    have e0 : (x 0).val = 16 * t + (x' 0).val := show (x 0).val = 16 * t + ((x 0).val - 16 * t) by omega
    have hr := View.read_slice_write_emb (Val := Elt F) (v := ob.view) (Rect.unit (s := S12672) ![16 * t] S16.size inb) g
      (loadIdx ((ib.access (.whole S12800)).read (Elt F) f) ![idxs sh t] hc) (Finset.mem_univ x')
    rw [← ex] at hr
    refine hr.trans ?_
    rw [e0]
    show ib.view.read (Elt F) f ((Rect.whole S12800).emb (idxAt ![idxs sh t] hc x')) = _
    refine hf _ _ ?_
    show 0 + 1 * (idxs sh t x').toNat = _
    rw [idxs_toNat sh t hs ht]; omega

/-- The loop's invariant: the words made so far. -/
abbrev tripInv (d : Dev nD) (i : grid0.Coords) (ib : Memref sig .scVector .vmem S12800 .f32) (ob : Memref sig .scVector .vmem S12672 .f32)
    (f : Buf (Elt F) (ib.view.loc (thr d i))) (Dt : Nat → Elt F .f32) (t : Nat) : sProp 𝕄 :=
  iprop((ib.view.loc (thr d i) ↦{fullShare} f)
    ∗ ∃ g, (ob.view.loc (thr d i) ↦{fullShare} g) ∗ ⌜∀ x : S12672.Idx, (x 0).val < 16 * t → ob.view.read (Elt F) g x = Dt (x 0).val⌝)

/-- A program at its end. -/
theorem wp_end {d : Dev nD} {i : grid0.Coords} {α : Type} (a : α) (Q : α → sProp 𝕄) :
    Q a ⊢ wp frame (wpE (defs₀ (F := F)) 𝒱₀ (thr d i) none) Set.univ (.ret a) Q := by
  rw [wp_ret]
  iintro H; imodintro; iexact H

/-- One trip keeps the invariant. -/
theorem wp_trip (d : Dev nD) (i : grid0.Coords) (ib : Memref sig .scVector .vmem S12800 .f32) (ob : Memref sig .scVector .vmem S12672 .f32)
    (f : Buf (Elt F) (ib.view.loc (thr d i))) (Dt : Nat → Elt F .f32) (sh : BitVec 32) (t n : Nat) (hs : sh.toNat + 16 * n ≤ 12800) (ht : t < n) (hn : n ≤ 792)
    (hf : ∀ (p : Nat) (y : S12800.Idx), (y 0).val = sh.toNat + p → ib.view.read (Elt F) f y = Dt p)
    (v : IVec S16 32) (hv : v = idxs sh t) (dc : Decidable (Chk v))
    (off : Fin 1 → Nat) (inb : ∀ a, off a + S16.size a ≤ S12672.size a) (hoff : off = ![16 * t]) :
    tripInv (F := F) d i ib ob f Dt t
      ⊢ wp frame (wpE (defs₀ (F := F)) 𝒱₀ (thr d i) none) Set.univ (trip (F := F) i ib ob v dc off inb) fun _ => tripInv (F := F) d i ib ob f Dt (t + 1) := by
  subst hv
  have hc : Chk (idxs sh t) := by
    intro a x
    match a with
    | 0 =>
      have hx : (x 0).val < 16 := (x 0).isLt
      show (idxs sh t x).toNat < 12800
      rw [idxs_toNat sh t (by omega) (by omega)]; omega
  iintro ⟨Hi, %g, Ho, %hg⟩
  iapply (wp_assume 𝒱₀ (thr d i) none Set.univ hc)
  iapply (SparseCore.wp_vectorLoadIdx 𝒱₀ (thr d i) none Set.univ (base := ib) (h := hc) (hl := View.loads_vmem h_S12800) (S := Finset.univ) (Finset.subset_univ _)) $$ Hi
  iintro Hi
  iapply (wp_load_rect 𝒱₀ (thr d i) none Set.univ (m := ob) (r := (Rect.unit (s := S12672) off S16.size inb)) (hl := View.loadsAt_vmem h_S16) (S := Finset.univ) (Finset.subset_univ _)) $$ Ho
  iintro Ho
  iapply (wp_store 𝒱₀ (thr d i) none Set.univ (m := ob) (r := (Rect.unit (s := S12672) off S16.size inb)) (hx := View.stores_vmem_bits_univ h_S16 rfl) (hm := .inl rfl) (S := Finset.univ) (Finset.subset_univ _)) $$ Ho
  iintro Ho
  iapply (wp_end (d := d) (i := i))
  isplitl [Hi]; · iexact Hi
  iexists _
  isplitl [Ho]; · iexact Ho
  ipureintro
  exact trip_value ib ob f g Dt sh t (by omega) (by omega) hf hg off inb hoff hc

end Cert.Proof.K

end
-- ==== Proof.Steps.lean ====
/-
  The state of a tile between its operations — which work items' copies in are under way or done, which results are made,
  which copies out are under way or done —, and one lemma per kind of operation: what it does to the state.
-/
module

public import proofs.«01_k».proof.Proof.Trip
public import Idealize.ShloMosaic.Lib.Scf

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Which item is where

Five counts say all: the first `a` items' copies in are started, the first `b` awaited, the first `l` items' results made,
the first `c` copies out started, the first `d` awaited. -/

/-- What a buffer is at: free, some item's copy under way, or holding some item's words. -/
inductive BSt where
  | free
  | flight (j : Nat)
  | full (j : Nat)
  deriving DecidableEq

/-- Where an item's part of the output is: not yet written, under way, or written. -/
inductive PSt where
  | old
  | gone
  | fin
  deriving DecidableEq

/-- The buffer of item `j`. -/
abbrev slot (j : Nat) : Fin 4 := ⟨j % 4, Nat.mod_lt _ (by decide)⟩
/-- The semaphore of item `j`'s copy out. -/
abbrev ocell (j : Nat) : Fin 5 := ⟨if j % 12 = 11 then 4 else j % 4, by split <;> omega⟩

/-- The last item before `a` that uses buffer `s`. -/
def lastOf (a : Nat) (s : Fin 4) : Nat := s.val + 4 * ((a - 1 - s.val) / 4)

def inSt (a b l : Nat) (s : Fin 4) : BSt :=
  if a ≤ s.val then .free else if b ≤ lastOf a s then .flight (lastOf a s) else if l ≤ lastOf a s then .full (lastOf a s) else .free
def outSt (l c d : Nat) (s : Fin 4) : BSt :=
  if l ≤ s.val then .free else if c ≤ lastOf l s then .full (lastOf l s) else if d ≤ lastOf l s then .flight (lastOf l s) else .free
/-- Whether a copy out is under way on semaphore `k`. -/
def busy (c d : Nat) (k : Fin 5) : Bool := (List.range 24).any fun j => decide (d ≤ j) && decide (j < c) && decide (ocell j = k)
def pst (c d : Nat) (j : Fin 24) : PSt := if j.val < d then .fin else if j.val < c then .gone else .old

/-! ## The resources -/

section Res

variable (d : Dev nD) (i : grid0.Coords) (w : S2x32x1x160000.Idx → Elt F .f32) (o : S2x32x1x152000.Idx → Elt F .f32)
  (q : Fin 4 → PosShare TreeShare)

/-- The whole buffer is in bounds. -/
theorem inb_all (n : Nat) : ∀ a : Fin 1, (![0] : Fin 1 → Nat) a + (Sn n).size a ≤ (Sn n).size a := by
  intro a; match a with | 0 => show 0 + n ≤ n; omega

/-- What a copy into, and a copy out of, the tile counts on its semaphore. -/
abbrev inN (s : Fin 4) : Nat :=
  ((IB s).slice (Rect.unit (s := S12800) ![0] S12800.size inb_S12800_S12800_0) (fun _ => rfl)).view.dmaCredit
abbrev outN (n : Nat) : Nat := sig.dmaCredit .scVector (Kind.scVector.table .hbm) oV.view.buf (Sn n) .f32

abbrev wPts (q : PosShare TreeShare) (S : Finset S2x32x1x160000.Idx) : sProp 𝕄 := wV.view.loc (thr d i) ↦[S]{q} w

abbrev ibIs (s : Fin 4) (j : Nat) : sProp 𝕄 :=
  iprop(∃ f, ((IB s).view.loc (thr d i) ↦{fullShare} f) ∗ ⌜(IB s).view.read (Elt F) f = inD w i j⌝)

abbrev obIs (s : Fin 4) (j : Nat) : sProp 𝕄 :=
  iprop(∃ f, ((OB s).view.loc (thr d i) ↦{fullShare} f) ∗ ⌜∀ x : S12672.Idx, (x 0).val < csz j → (OB s).view.read (Elt F) f x = outD w i j (x 0).val⌝)

def inRes (s : Fin 4) : BSt → sProp 𝕄
  | .free => iprop((∃ f, (IB s).view.loc (thr d i) ↦{fullShare} f) ∗ wPts d i w (q s) Finset.univ ∗ semVal (thr d i, .dma (isem s)) 0)
  | .full j => iprop(ibIs d i w s j ∗ wPts d i w (q s) Finset.univ ∗ semVal (thr d i, .dma (isem s)) 0)
  | .flight j => iprop(∃ S : Finset S2x32x1x160000.Idx, Transfers.Flight countersEmb (thr d i) (.dma (isem s)) (default : HIx 1) (inN s)
        iprop(ibIs d i w s j ∗ wPts d i w (q s) S) ∗ wPts d i w (q s) (Finset.univ \ S))

abbrev pcFin (j : Nat) : sProp 𝕄 := oV.view.loc (thr d i) ↦[piece i j]{fullShare} G w

def outRes (s : Fin 4) : BSt → sProp 𝕄
  | .free => iprop(∃ f, (OB s).view.loc (thr d i) ↦{fullShare} f)
  | .full j => obIs d i w s j
  | .flight j => iprop(∃ (f : Buf (Elt F) ((OB s).view.loc (thr d i))) (S : Finset (Idx ((OB s).view.loc (thr d i)))),
      Transfers.Flight countersEmb (thr d i) (.dma (osem (ocell j))) (default : HIx 1) (outN (csz j))
        iprop(pcFin d i w j ∗ ((OB s).view.loc (thr d i) ↦[S]{fullShare} f)) ∗ ((OB s).view.loc (thr d i) ↦[Finset.univ \ S]{fullShare} f))

def cellRes (k : Fin 5) : Bool → sProp 𝕄
  | true => iprop(emp)
  | false => semVal (thr d i, .dma (osem k)) 0

def pcRes (j : Fin 24) : PSt → sProp 𝕄
  | .old => oV.view.loc (thr d i) ↦[piece i j.val]{fullShare} o
  | .gone => iprop(emp)
  | .fin => pcFin d i w j.val

theorem inRes_free (s : Fin 4) : inRes d i w q s .free
    = iprop((∃ f, (IB s).view.loc (thr d i) ↦{fullShare} f) ∗ wPts d i w (q s) Finset.univ ∗ semVal (thr d i, .dma (isem s)) 0) := rfl
theorem inRes_full (s : Fin 4) (j : Nat) : inRes d i w q s (.full j)
    = iprop(ibIs d i w s j ∗ wPts d i w (q s) Finset.univ ∗ semVal (thr d i, .dma (isem s)) 0) := rfl
theorem inRes_flight (s : Fin 4) (j : Nat) : inRes d i w q s (.flight j)
    = iprop(∃ S : Finset S2x32x1x160000.Idx, Transfers.Flight countersEmb (thr d i) (.dma (isem s)) (default : HIx 1) (inN s)
        iprop(ibIs d i w s j ∗ wPts d i w (q s) S) ∗ wPts d i w (q s) (Finset.univ \ S)) := rfl
theorem outRes_free (s : Fin 4) : outRes d i w s .free = iprop(∃ f, (OB s).view.loc (thr d i) ↦{fullShare} f) := rfl
theorem outRes_full (s : Fin 4) (j : Nat) : outRes d i w s (.full j) = obIs d i w s j := rfl
theorem outRes_flight (s : Fin 4) (j : Nat) : outRes d i w s (.flight j)
    = iprop(∃ (f : Buf (Elt F) ((OB s).view.loc (thr d i))) (S : Finset (Idx ((OB s).view.loc (thr d i)))),
      Transfers.Flight countersEmb (thr d i) (.dma (osem (ocell j))) (default : HIx 1) (outN (csz j))
        iprop(pcFin d i w j ∗ ((OB s).view.loc (thr d i) ↦[S]{fullShare} f)) ∗ ((OB s).view.loc (thr d i) ↦[Finset.univ \ S]{fullShare} f)) := rfl
theorem cellRes_true (k : Fin 5) : cellRes (F := F) d i k true = iprop(emp) := rfl
theorem cellRes_false (k : Fin 5) : cellRes (F := F) d i k false = semVal (thr d i, .dma (osem k)) 0 := rfl
theorem pcRes_old (j : Fin 24) : pcRes d i w o j .old = (oV.view.loc (thr d i) ↦[piece i j.val]{fullShare} o) := rfl
theorem pcRes_gone (j : Fin 24) : pcRes d i w o j .gone = iprop(emp) := rfl
theorem pcRes_fin (j : Fin 24) : pcRes d i w o j .fin = pcFin d i w j.val := rfl

variable (O : CellTallies nD τ sig (HIx 1)) (W : Waits sig (HIx 1))

/-- The waits recorded so far: those there were, and local ones. -/
abbrev owesSt : sProp 𝕄 :=
  iprop(Transfers.MayWaits (thr d i) (default : HIx 1) O ∗ ∃ W', ⌜∀ p ∈ W', p ∈ W ∨ p.2 = none⌝ ∗ owes (thr d i) O W')

/-- The tile's state at the five counts. -/
def St (a b l c e : Nat) : sProp 𝕄 :=
  iprop((bigSep Finset.univ fun s => inRes d i w q s (inSt a b l s)) ∗ (bigSep Finset.univ fun s => outRes d i w s (outSt l c e s))
    ∗ (bigSep Finset.univ fun k => cellRes d i k (busy c e k)) ∗ (bigSep Finset.univ fun j => pcRes d i w o j (pst c e j)) ∗ owesSt d i O W)

end Res

/-- One member of a family changes. -/
theorem upd {ι σ : Type} [Fintype ι] [DecidableEq ι] (R : ι → σ → sProp 𝕄) {f f' : ι → σ} (k : ι) (y z : σ) (hf : f k = y)
    (h : f' = Function.update f k z) :
    (bigSep Finset.univ fun s => R s (f s)) ⊢ iprop(R k y ∗ (R k z -∗ bigSep Finset.univ fun s => R s (f' s))) := by
  rw [SparseCore.bigSep_erase' (Finset.mem_univ k) (Φ := fun s => R s (f s)), SparseCore.bigSep_erase' (Finset.mem_univ k) (Φ := fun s => R s (f' s)),
    bigSep_congr (s := Finset.univ.erase k) (Φ := fun s => R s (f' s)) (Ψ := fun s => R s (f s)) fun s hs => by
      rw [h, Function.update_of_ne (Finset.ne_of_mem_erase hs)], hf, h, Function.update_self]
  iintro ⟨Hk, Hr⟩
  isplitl [Hk]; · iexact Hk
  iintro Hz
  isplitl [Hz]; · iexact Hz
  iexact Hr

section Steps

variable {d : Dev nD} {i : grid0.Coords} {w : S2x32x1x160000.Idx → Elt F .f32} {o : S2x32x1x152000.Idx → Elt F .f32}
  {q : Fin 4 → PosShare TreeShare} {O : CellTallies nD τ sig (HIx 1)} {W : Waits sig (HIx 1)}
variable {a b l c e : Nat} {α β : Type}

abbrev PR (i : grid0.Coords) (α : Type) : Type _ := Prog (TpuEff nD τ sig (Elt F) Λ₀ (Proc.scVector ((i 0).castLE hcore0) ((i 1).castLE hsub0))) α
abbrev WP (d : Dev nD) (i : grid0.Coords) {α : Type} (p : PR (F := F) i α) (Q : α → sProp 𝕄) : sProp 𝕄 :=
  wp frame (wpE (defs₀ (F := F)) 𝒱₀ (thr d i) none) Set.univ p Q

/-- A program's first part. -/
theorem step_part {Q : α → sProp 𝕄} {p : PR (F := F) i β} {k : β → PR (F := F) i α} (h : St d i w o q O W a b l c e ⊢ WP d i p fun x => WP d i (k x) Q) :
    St d i w o q O W a b l c e ⊢ WP d i (p >>= k) Q := by unfold WP; rw [wp_bind]; exact h

/-- A part's end: what it yields, by a name. -/
theorem step_ret {Q : α → sProp 𝕄} {x : α} (h : ∀ r, r = x → St d i w o q O W a b l c e ⊢ Q r) : St d i w o q O W a b l c e ⊢ WP d i (.ret x) Q :=
  (h x rfl).trans (wp_end x Q)

/-- A buffer all of it copied into, as the copy names it. -/
abbrev IBs (s : Fin 4) : Memref sig .scVector .vmem S12800 .f32 :=
  (IB s).slice (Rect.unit (s := S12800) ![0] S12800.size inb_S12800_S12800_0) (fun _ => rfl)

/-- What reads a whole buffer after a copy into all of it: the copied words. -/
theorem read_after_in (s : Fin 4) (fd : Buf (Elt F) ((IB s).view.loc (thr d i))) (p : S12800.Idx → Elt F .f32) :
    (IB s).view.read (Elt F) ((IBs s).view.write (Elt F) fd p Finset.univ) = p := by
  funext x
  have ex : x = (Rect.unit (s := S12800) ![0] S12800.size inb_S12800_S12800_0).emb x := by
    funext a
    match a with
    | 0 => exact Fin.ext (show (x 0).val = 0 + 1 * (x 0).val by omega)
  have hr := View.read_slice_write_emb (Val := Elt F) (v := (IB s).view) (Rect.unit (s := S12800) ![0] S12800.size inb_S12800_S12800_0) fd p (Finset.mem_univ x)
  rw [← ex] at hr
  exact hr

/-- What a copy in delivers: the item's words, and the read part of the input. -/
theorem landed_in {off : Fin 4 → Nat} {inb : ∀ x, off x + S1x1x1x12800.size x ≤ S2x32x1x160000.size x} {a : Nat}
    (hoff : off = inOffs i a) (ha : a < 24) {p : PosShare TreeShare} (fd : Buf (Elt F) ((IB (slot a)).view.loc (thr d i))) :
    iprop(((IBs (slot a)).view.loc (thr d i) ↦{fullShare} (IBs (slot a)).view.write (Elt F) fd (ReadAs.same.apply ((inV off inb).view.read (Elt F) w)) Finset.univ)
        ∗ ((inV off inb).view.loc (thr d i) ↦[(inV off inb).view.set]{p} w) : sProp 𝕄)
      ⊢ iprop(ibIs d i w (slot a) a ∗ wPts d i w p (inV off inb).view.set) := by
  iintro ⟨Hb, Hw⟩
  isplitl [Hb]
  · iexists _
    isplitl [Hb]; · iexact Hb
    ipureintro
    exact (read_after_in (slot a) fd _).trans (inV_read w i ha hoff)
  iexact Hw

/-- The input's read part joined to its rest. -/
theorem wPts_join {p : PosShare TreeShare} (S : Finset S2x32x1x160000.Idx) :
    iprop(wPts d i w p S ∗ wPts d i w p (Finset.univ \ S) : sProp 𝕄) ⊢ wPts d i w p Finset.univ :=
  (pointsTo_split_subset (Finset.subset_univ _)).2

/-- The start of item `a`'s copy in. -/
theorem step_inStart {off : Fin 4 → Nat} {inb : ∀ x, off x + S1x1x1x12800.size x ≤ S2x32x1x160000.size x}
    {hsrc : (inV off inb).view.WordExact} {hdst : (IBs (slot a)).view.WordExact}
    {hsem : DmaTarget.Typed (nD := nD) (p := (thr d i).2) .hbm (.dma (isem (slot a))) (.here (IBs (slot a)))}
    {k : PUnit → PR (F := F) i α} {Q : α → sProp 𝕄}
    (h : St d i w o q O W (a + 1) b l c e ⊢ WP d i (k ⟨⟩) Q)
    (hoff : off = inOffs i a := by clear * - i; revert i; decide +kernel) (ha : a < 24 := by decide)
    (hf : inSt a b l (slot a) = .free := by decide)
    (hu : inSt (a + 1) b l = Function.update (inSt a b l) (slot a) (.flight a) := by decide) :
    St d i w o q O W a b l c e ⊢ WP d i (.op (.enqueueDmaAs (inV off inb) (.here (IBs (slot a))) .same (.dma (isem (slot a))) hsrc hdst hsem) k) Q := by
  unfold St at h ⊢
  iintro ⟨Hin, Hout, Hc, Hp, HO⟩
  ihave H := (upd (inRes d i w q) (slot a) .free (.flight a) hf hu) $$ Hin
  icases H with ⟨Hs, Hback⟩
  ihave Hs' := (Entails.of_eq (inRes_free d i w q (slot a))) $$ Hs
  icases Hs' with ⟨⟨%fd, Hb⟩, Hw, Hv⟩
  ihave Hw' := (pointsTo_split_subset (q := q (slot a)) (f := w) (S := Finset.univ) (Finset.subset_univ (inV off inb).view.set)).1 $$ Hw
  icases Hw' with ⟨Hws, Hwr⟩
  iapply (Transfers.wp_dmaLocal countersEmb 𝒱₀ (thr d i) none (src := inV off inb) (dst := IBs (slot a)) (via := .same) (sm := .dma (isem (slot a)))
    (hsrc := hsrc) (hdst := hdst) (hsem := hsem) (k := k) (q := q (slot a)) (fs := w) (Sd := Finset.univ) (fd := fd)
    (default : HIx 1) (inN (slot a)) rfl (View.dmaCredit_pos _ (by decide)) (Finset.subset_univ _)) $$ [Hws Hb Hv]
  · isplitl [Hws]; · iexact Hws
    isplitl [Hb]; · iexact Hb
    iexact Hv
  iintro Hfl
  ihave Hfl' := (Transfers.Flight_mono countersEmb (thr d i) (landed_in hoff ha fd)) $$ Hfl
  iapply h
  isplitl [Hback Hfl' Hwr]
  · iapply Hback
    iapply (Entails.of_eq (inRes_flight d i w q (slot a) a).symm)
    iexists _
    isplitl [Hfl']; · iexact Hfl'
    iexact Hwr
  isplitl [Hout]; · iexact Hout
  isplitl [Hc]; · iexact Hc
  isplitl [Hp]; · iexact Hp
  iexact HO

/-- The wait for item `b`'s copy in. -/
theorem step_inWait {sp' : Space} {s' : Shape} {e' : EltTy} {srcw : Memref sig .scVector sp' s' e'} {hsrc : srcw.view.WordExact} {hdst : (IBs (slot b)).view.WordExact}
    {k : PUnit → PR (F := F) i α} {Q : α → sProp 𝕄}
    (h : St d i w o q O W a (b + 1) l c e ⊢ WP d i (k ⟨⟩) Q)
    (hf : inSt a b l (slot b) = .flight b := by decide)
    (hu : inSt a (b + 1) l = Function.update (inSt a b l) (slot b) (.full b) := by decide) :
    St d i w o q O W a b l c e ⊢ WP d i (.op (.waitDma2 (isem (slot b)) srcw (IBs (slot b)) hsrc hdst) k) Q := by
  unfold St at h ⊢
  iintro ⟨Hin, Hout, Hc, Hp, #Hmw, %W', %hW', HO⟩
  ihave H := (upd (inRes d i w q) (slot b) (.flight b) (.full b) hf hu) $$ Hin
  icases H with ⟨Hs, Hback⟩
  ihave Hs' := (Entails.of_eq (inRes_flight d i w q (slot b) b)) $$ Hs
  icases Hs' with ⟨%S, Hfl, Hwr⟩
  iapply (Transfers.wp_waitLocalO countersEmb 𝒱₀ (thr d i) none (srcw := srcw) (dstw := IBs (slot b)) (hsrc := hsrc) (hdst := hdst) (k := k)
    (default : HIx 1) (N := inN (slot b)) rfl) $$ [Hfl HO]
  · isplitl [Hfl]; · iexact Hfl
    isplitl [HO]; · iexact HO
    iapply (Transfers.MayWaits.elim (SemLoc.dma (isem (slot b)))) $$ Hmw
  iintro ⟨⟨Hb, Hws⟩, Hv, HO⟩
  ihave Hw := (wPts_join S) $$ [Hws Hwr]
  · isplitl [Hws] <;> iassumption
  iapply h
  isplitl [Hback Hb Hw Hv]
  · iapply Hback
    iapply (Entails.of_eq (inRes_full d i w q (slot b) b).symm)
    isplitl [Hb]; · iexact Hb
    isplitl [Hw]; · iexact Hw
    iexact Hv
  isplitl [Hout]; · iexact Hout
  isplitl [Hc]; · iexact Hc
  isplitl [Hp]; · iexact Hp
  isplitr [HO]; · iexact Hmw
  iexists _
  isplitr
  swap; · iexact HO
  ipureintro; intro p hp
  rcases Finset.mem_insert.mp hp with hp | hp
  · exact .inr (hp ▸ rfl)
  · exact hW' p hp

/-- Item `l`'s loop: from its fetched words to its result. -/
theorem step_loop {lb ub st : BitVec 32} {hok : Scf.OK lb ub st} {body : Fin (Scf.trips lb ub st) → Unit → PR (F := F) i Unit}
    {v : Fin (Scf.trips lb ub st) → IVec S16 32} {dc : ∀ t, Decidable (Chk (v t))} {off : Fin (Scf.trips lb ub st) → Fin 1 → Nat}
    {inb : ∀ t x, off t x + S16.size x ≤ S12672.size x} {sh : BitVec 32} {kk : Unit → PR (F := F) i α} {Q : α → sProp 𝕄}
    (hoff : ∀ t, off t = ![16 * t.val]) (hsh : sh.toNat = shift i l)
    (h : St d i w o q O W a b (l + 1) c e ⊢ WP d i (kk ()) Q)
    (hb : ∀ t x, body t x = trip i (IB (slot l)) (OB (slot l)) (v t) (dc t) (off t) (inb t) := by exact fun _ _ => rfl)
    (hv : ∀ t, v t = idxs sh t.val := by exact fun _ => rfl) (hn : 16 * Scf.trips lb ub st = csz l := by decide)
    (hf : inSt a b l (slot l) = .full l := by decide)
    (hu : inSt a b (l + 1) = Function.update (inSt a b l) (slot l) .free := by decide)
    (hf' : outSt l c e (slot l) = .free := by decide)
    (hu' : outSt (l + 1) c e = Function.update (outSt l c e) (slot l) (.full l) := by decide) :
    St d i w o q O W a b l c e ⊢ WP d i (Scf.for lb ub st hok () body >>= kk) Q := by
  unfold St at h ⊢
  iintro ⟨Hin, Hout, Hc, Hp, HO⟩
  ihave H := (upd (inRes d i w q) (slot l) (.full l) .free hf hu) $$ Hin
  icases H with ⟨Hs, Hback⟩
  ihave Hs' := (Entails.of_eq (inRes_full d i w q (slot l) l)) $$ Hs
  icases Hs' with ⟨⟨%f, Hb, %hread⟩, Hw, Hv⟩
  ihave H := (upd (outRes d i w) (slot l) .free (.full l) hf' hu') $$ Hout
  icases H with ⟨Ho, Hback'⟩
  ihave Ho' := (Entails.of_eq (outRes_free d i w (slot l))) $$ Ho
  icases Ho' with ⟨%g, Ho⟩
  have hval : ∀ (p : Nat) (y : S12800.Idx), (y 0).val = sh.toNat + p → (IB (slot l)).view.read (Elt F) f y = outD w i l p := by
    intro p y hy
    rw [hread, inD, hy, hsh]; rfl
  have hle := shift_le i l
  have hle' := csz_le l
  iapply (Scf.wp_for_bind _ _ _ lb ub st hok () body (fun t _ => tripInv (F := F) d i (IB (slot l)) (OB (slot l)) f (outD w i l) t)
    (fun t x => by
      rw [hb t x]
      exact wp_trip d i (IB (slot l)) (OB (slot l)) f (outD w i l) sh t.val (Scf.trips lb ub st) (by omega) t.isLt (by omega) hval (v t) (hv t) (dc t) (off t) (inb t) (hoff t))
    (kk := kk)) $$ [Hb Ho]
  · isplitl [Hb]; · iexact Hb
    iexists g
    isplitl [Ho]; · iexact Ho
    ipureintro
    intro x hx; exact absurd hx (by omega)
  iintro %_ ⟨Hb, %g', Ho, %hg'⟩
  iapply h
  isplitl [Hback Hb Hw Hv]
  · iapply Hback
    iapply (Entails.of_eq (inRes_free d i w q (slot l)).symm)
    isplitl [Hb]; · iexists f; iexact Hb
    isplitl [Hw]; · iexact Hw
    iexact Hv
  isplitl [Hback' Ho]
  · iapply Hback'
    iapply (Entails.of_eq (outRes_full d i w (slot l) l).symm)
    iexists g'
    isplitl [Ho]; · iexact Ho
    ipureintro
    intro x hx; exact hg' x (by omega)
  isplitl [Hc]; · iexact Hc
  isplitl [Hp]; · iexact Hp
  iexact HO

/-- The first `n` words of a result, as a copy out names them. -/
abbrev OBs (s : Fin 4) (n : Nat) (inb : ∀ x, (![0] : Fin 1 → Nat) x + (Sn n).size x ≤ S12672.size x) : Memref sig .scVector .vmem (Sn n) .f32 :=
  (OB s).slice (Rect.unit (s := S12672) ![0] (Sn n).size inb) (fun _ => rfl)

/-- What a copy out delivers: the item's part of the output as it ends, and the copied words' buffer. -/
theorem landed_out {j n : Nat} {inbn : ∀ x, (![0] : Fin 1 → Nat) x + (Sn n).size x ≤ S12672.size x} {sq : (S1n n).Squeezes (Sn n)}
    {off : Fin 4 → Nat} {inb : ∀ x, off x + (S1n n).size x ≤ S2x32x1x152000.size x} (hoff : off = outOffs i j) (hj : j < 24) (hn : n = csz j)
    (f : Buf (Elt F) ((OB (slot j)).view.loc (thr d i)))
    (hf : ∀ x : S12672.Idx, (x 0).val < csz j → (OB (slot j)).view.read (Elt F) f x = outD w i j (x 0).val) :
    iprop(((outV n sq off inb).view.loc (thr d i) ↦[piece i j]{fullShare}
          (outV n sq off inb).view.write (Elt F) o (ReadAs.same.apply ((OBs (slot j) n inbn).view.read (Elt F) f)) Finset.univ)
        ∗ ((OBs (slot j) n inbn).view.loc (thr d i) ↦[(OBs (slot j) n inbn).view.set]{fullShare} f) : sProp 𝕄)
      ⊢ iprop(pcFin d i w j ∗ ((OB (slot j)).view.loc (thr d i) ↦[(OBs (slot j) n inbn).view.set]{fullShare} f)) := by
  refine sep_mono ?_ .rfl
  refine Entails.of_eq (pointsTo_congr fun y hy => ?_)
  refine outV_write w i hj hoff o _ (fun x => ?_) y (by rw [outV_set i hoff hn]; exact hy)
  have hx : (x 0).val < n := (x 0).isLt
  have e0 : ((Rect.unit (s := S12672) ![0] (Sn n).size inbn).emb x 0).val = (x 0).val := show 0 + 1 * (x 0).val = _ by omega
  refine (hf ((Rect.unit (s := S12672) ![0] (Sn n).size inbn).emb x) ?_).trans ?_
  · rw [e0]; omega
  · rw [e0]

/-- The start of item `c`'s copy out. -/
theorem step_outStart {n : Nat} {inbn : ∀ x, (![0] : Fin 1 → Nat) x + (Sn n).size x ≤ S12672.size x} {sq : (S1n n).Squeezes (Sn n)}
    {off : Fin 4 → Nat} {inb : ∀ x, off x + (S1n n).size x ≤ S2x32x1x152000.size x}
    {hsrc : (OBs (slot c) n inbn).view.WordExact} {hdst : (outV n sq off inb).view.WordExact}
    {hsem : DmaTarget.Typed (nD := nD) (p := (thr d i).2) .vmem (.dma (osem (ocell c))) (.here (outV n sq off inb))}
    {k : PUnit → PR (F := F) i α} {Q : α → sProp 𝕄}
    (h : St d i w o q O W a b l (c + 1) e ⊢ WP d i (k ⟨⟩) Q)
    (hoff : off = outOffs i c := by clear * - i; revert i; decide +kernel) (hc : c < 24 := by decide) (hn : n = csz c := by rfl)
    (hf : outSt l c e (slot c) = .full c := by decide)
    (hu : outSt l (c + 1) e = Function.update (outSt l c e) (slot c) (.flight c) := by decide)
    (hf' : busy c e (ocell c) = false := by decide)
    (hu' : busy (c + 1) e = Function.update (busy c e) (ocell c) true := by decide)
    (hf'' : pst c e ⟨c, hc⟩ = .old := by decide)
    (hu'' : pst (c + 1) e = Function.update (pst c e) ⟨c, hc⟩ .gone := by decide) :
    St d i w o q O W a b l c e ⊢ WP d i (.op (.enqueueDmaAs (OBs (slot c) n inbn) (.here (outV n sq off inb)) .same (.dma (osem (ocell c))) hsrc hdst hsem) k) Q := by
  unfold St at h ⊢
  iintro ⟨Hin, Hout, Hc, Hp, HO⟩
  ihave H := (upd (outRes d i w) (slot c) (.full c) (.flight c) hf hu) $$ Hout
  icases H with ⟨Hs, Hback⟩
  ihave Hs' := (Entails.of_eq (outRes_full d i w (slot c) c)) $$ Hs
  icases Hs' with ⟨%f, Hb, %hread⟩
  ihave H := (upd (cellRes d i) (ocell c) false true hf' hu') $$ Hc
  icases H with ⟨Hv, Hback'⟩
  ihave Hv' := (Entails.of_eq (cellRes_false (F := F) d i (ocell c))) $$ Hv
  ihave H := (upd (pcRes d i w o) ⟨c, hc⟩ .old .gone hf'' hu'') $$ Hp
  icases H with ⟨Hpc, Hback''⟩
  ihave Hpc' := (Entails.of_eq (pcRes_old d i w o ⟨c, hc⟩)) $$ Hpc
  ihave Hb' := (pointsTo_split_subset (q := fullShare) (f := f) (S := Finset.univ) (Finset.subset_univ (OBs (slot c) n inbn).view.set)).1 $$ Hb
  icases Hb' with ⟨Hbs, Hbr⟩
  have hpos : 0 < (Sn n).numel := by
    rw [hn]; unfold csz; split <;> decide
  iapply (Transfers.wp_dmaLocal countersEmb 𝒱₀ (thr d i) none (src := OBs (slot c) n inbn) (dst := outV n sq off inb) (via := .same) (sm := .dma (osem (ocell c)))
    (hsrc := hsrc) (hdst := hdst) (hsem := hsem) (k := k) (q := fullShare) (fs := f) (Sd := piece i c) (fd := o)
    (default : HIx 1) (outN n) rfl (show 0 < (outV n sq off inb).view.dmaCredit from View.dmaCredit_pos _ hpos) (outV_set i hoff hn).subset) $$ [Hbs Hpc' Hv']
  · isplitl [Hbs]; · iexact Hbs
    isplitl [Hpc']; · iexact Hpc'
    iexact Hv'
  iintro Hfl
  ihave Hfl' := (Transfers.Flight_mono countersEmb (thr d i) (landed_out hoff hc hn f hread)) $$ Hfl
  subst hn
  iapply h
  isplitl [Hin]; · iexact Hin
  isplitl [Hback Hfl' Hbr]
  · iapply Hback
    iapply (Entails.of_eq (outRes_flight d i w (slot c) c).symm)
    iexists f, _
    isplitl [Hfl']; · iexact Hfl'
    iexact Hbr
  isplitl [Hback']
  · iapply Hback'
    iapply (Entails.of_eq (cellRes_true (F := F) d i (ocell c)).symm)
    iempintro
  isplitl [Hback'']
  · iapply Hback''
    iapply (Entails.of_eq (pcRes_gone d i w o ⟨c, hc⟩).symm)
    iempintro
  iexact HO

/-- The wait for item `e`'s copy out. -/
theorem step_outWait {n : Nat} {sp' : Space} {s' : Shape} {e' : EltTy} {srcw : Memref sig .scVector sp' s' e'} {sq : (S1n n).Squeezes (Sn n)}
    {off : Fin 4 → Nat} {inb : ∀ x, off x + (S1n n).size x ≤ S2x32x1x152000.size x}
    {hsrc : srcw.view.WordExact} {hdst : (outV n sq off inb).view.WordExact}
    {k : PUnit → PR (F := F) i α} {Q : α → sProp 𝕄}
    (h : St d i w o q O W a b l c (e + 1) ⊢ WP d i (k ⟨⟩) Q)
    (he : e < 24 := by decide) (hn : n = csz e := by rfl)
    (hf : outSt l c e (slot e) = .flight e := by decide)
    (hu : outSt l c (e + 1) = Function.update (outSt l c e) (slot e) .free := by decide)
    (hf' : busy c e (ocell e) = true := by decide)
    (hu' : busy c (e + 1) = Function.update (busy c e) (ocell e) false := by decide)
    (hf'' : pst c e ⟨e, he⟩ = .gone := by decide)
    (hu'' : pst c (e + 1) = Function.update (pst c e) ⟨e, he⟩ .fin := by decide) :
    St d i w o q O W a b l c e ⊢ WP d i (.op (.waitDma2 (osem (ocell e)) srcw (outV n sq off inb) hsrc hdst) k) Q := by
  subst hn
  unfold St at h ⊢
  iintro ⟨Hin, Hout, Hc, Hp, #Hmw, %W', %hW', HO⟩
  ihave H := (upd (outRes d i w) (slot e) (.flight e) .free hf hu) $$ Hout
  icases H with ⟨Hs, Hback⟩
  ihave Hs' := (Entails.of_eq (outRes_flight d i w (slot e) e)) $$ Hs
  icases Hs' with ⟨%f, %S, Hfl, Hbr⟩
  ihave H := (upd (cellRes d i) (ocell e) true false hf' hu') $$ Hc
  icases H with ⟨-, Hback'⟩
  ihave H := (upd (pcRes d i w o) ⟨e, he⟩ .gone .fin hf'' hu'') $$ Hp
  icases H with ⟨-, Hback''⟩
  iapply (Transfers.wp_waitLocalO countersEmb 𝒱₀ (thr d i) none (srcw := srcw) (dstw := outV (csz e) sq off inb) (hsrc := hsrc) (hdst := hdst) (k := k)
    (default : HIx 1) (N := outN (csz e)) rfl) $$ [Hfl HO]
  · isplitl [Hfl]; · iexact Hfl
    isplitl [HO]; · iexact HO
    iapply (Transfers.MayWaits.elim (SemLoc.dma (osem (ocell e)))) $$ Hmw
  iintro ⟨⟨Hpc, Hbs⟩, Hv, HO⟩
  ihave Hb := (pointsTo_split_subset (q := fullShare) (f := f) (S := Finset.univ) (Finset.subset_univ S)).2 $$ [Hbs Hbr]
  · isplitl [Hbs] <;> iassumption
  iapply h
  isplitl [Hin]; · iexact Hin
  isplitl [Hback Hb]
  · iapply Hback
    iapply (Entails.of_eq (outRes_free d i w (slot e)).symm)
    iexists f; iexact Hb
  isplitl [Hback' Hv]
  · iapply Hback'
    iapply (Entails.of_eq (cellRes_false (F := F) d i (ocell e)).symm)
    iexact Hv
  isplitl [Hback'' Hpc]
  · iapply Hback''
    iapply (Entails.of_eq (pcRes_fin d i w o ⟨e, he⟩).symm)
    iexact Hpc
  isplitr [HO]; · iexact Hmw
  iexists _
  isplitr
  swap; · iexact HO
  ipureintro; intro p hp
  rcases Finset.mem_insert.mp hp with hp | hp
  · exact .inr (hp ▸ rfl)
  · exact hW' p hp

end Steps

end Cert.Proof.K

end
-- ==== Proof.Body.lean ====
/-
  One tile's body: from a state with no copy begun to the state with all twenty-four of its chunks copied in, shifted and
  copied out.
-/
module

public import proofs.«01_k».proof.Proof.Steps

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

section Body
variable {d : Dev nD} {i : grid0.Coords} {w : S2x32x1x160000.Idx → Elt F .f32} {o : S2x32x1x152000.Idx → Elt F .f32}
  {q : Fin 4 → PosShare TreeShare} {O : CellTallies nD τ sig (HIx 1)} {W : Waits sig (HIx 1)}

set_option maxRecDepth 65536
set_option maxHeartbeats 0 in
/-- From the state before the first chunk the tile's body runs to the state after the last. -/
theorem body_run (Q : PUnit → sProp 𝕄) (h : St d i w o q O W 24 24 24 24 24 ⊢ Q ⟨⟩) :
    St d i w o q O W 0 0 0 0 0 ⊢ WP d i (cc0__sc_body i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) Q := by
  unfold cc0__sc_body
  refine step_part ?_
  rw [k0_part110_eq_skeleton]; unfold k0_part110_skel
  refine step_part ?_
  rw [k0_part1_eq_skeleton]; unfold k0_part1_skel
  refine step_ret ?_
  rintro ⟨v1, v3, v5, v27, v28⟩ h1
  refine step_part ?_
  rw [k0_part2_eq_skeleton]; unfold k0_part2_skel
  refine step_ret ?_
  rintro ⟨v57, v58⟩ h2
  refine step_part ?_
  rw [k0_part3_eq_skeleton]; unfold k0_part3_skel
  refine step_ret ?_
  rintro ⟨v67, v87, c1⟩ h3
  refine step_part ?_
  rw [k0_part4_eq_skeleton]; unfold k0_part4_skel
  refine step_ret ?_
  rintro ⟨v117, c2⟩ h4
  refine step_part ?_
  rw [k0_part5_eq_skeleton]; unfold k0_part5_skel
  refine step_ret ?_
  rintro ⟨v129, v147, c3, v148, v153, v154⟩ h5
  refine step_part ?_
  rw [k0_part6_eq_skeleton]; unfold k0_part6_skel
  refine step_ret ?_
  rintro ⟨v165, v166, v167, v191, v192, v193, v194, v195⟩ h6
  have h147 : v147 = BitVec.ofNat 32 (OFF (rowOf i 0) / 128 * 128) ∧ v165 = BitVec.ofNat 32 (OFF (rowOf i 12) / 128 * 128) ∧
      v166 = BitVec.ofNat 32 (OFF (rowOf i 0) % 128) ∧ v167 = BitVec.ofNat 32 (OFF (rowOf i 12) % 128) := by
    cases h1; cases h2; cases h3; cases h4; cases h5; cases h6
    clear * - i
    revert i; decide +kernel
  obtain ⟨h147, h165, h166, h167⟩ := h147
  clear h1 h2 h3 h4 h5 h6
  refine step_part ?_; rw [k0_part7_eq_skeleton]; unfold k0_part7_skel; refine step_inStart ?_; refine step_ret ?_; rintro _ -
  refine step_part ?_; rw [k0_part8_eq_skeleton]; unfold k0_part8_skel; refine step_inStart ?_; refine step_ret ?_; rintro _ -
  refine step_part ?_; rw [k0_part9_eq_skeleton]; unfold k0_part9_skel; refine step_inStart ?_; refine step_ret ?_; rintro _ -
  refine step_part ?_; rw [k0_part10_eq_skeleton]; unfold k0_part10_skel; refine step_inStart ?_; refine step_ret ?_; rintro _ -
  refine step_part ?_; rw [k0_part11_eq_skeleton]; unfold k0_part11_skel; refine step_inWait ?_; refine step_loop k0_off2_eq ?_ ?_
  · rw [h166, h147]; clear * - i; revert i; decide +kernel
  refine step_ret ?_; rintro _ -
  refine step_part ?_; rw [k0_part12_eq_skeleton]; unfold k0_part12_skel; refine step_outStart ?_; refine step_ret ?_; rintro _ -
  refine step_part ?_; rw [k0_part13_eq_skeleton]; unfold k0_part13_skel; refine step_inStart ?_; refine step_ret ?_; rintro _ -
  refine step_part ?_; rw [k0_part14_eq_skeleton]; unfold k0_part14_skel; refine step_inWait ?_; refine step_loop k0_off4_eq ?_ ?_
  · rw [h166, h147]; clear * - i; revert i; decide +kernel
  refine step_ret ?_; rintro _ -
  refine step_part ?_; rw [k0_part15_eq_skeleton]; unfold k0_part15_skel; refine step_outStart ?_; refine step_ret ?_; rintro _ -
  refine step_part ?_; rw [k0_part16_eq_skeleton]; unfold k0_part16_skel; refine step_inStart ?_; refine step_ret ?_; rintro _ -
  refine step_part ?_; rw [k0_part17_eq_skeleton]; unfold k0_part17_skel; refine step_inWait ?_; refine step_ret ?_; rintro _ rfl
  refine step_part ?_; rw [k0_part18_eq_skeleton]; unfold k0_part18_skel; refine step_loop k0_off6_eq ?_ ?_
  · rw [h166, h147]; clear * - i; revert i; decide +kernel
  refine step_ret ?_; rintro _ -
  refine step_part ?_; rw [k0_part19_eq_skeleton]; unfold k0_part19_skel; refine step_outStart ?_; refine step_ret ?_; rintro _ -
  refine step_part ?_; rw [k0_part20_eq_skeleton]; unfold k0_part20_skel; refine step_inStart ?_; refine step_ret ?_; rintro _ -
  refine step_part ?_; rw [k0_part21_eq_skeleton]; unfold k0_part21_skel; refine step_inWait ?_; refine step_loop k0_off8_eq ?_ ?_
  · rw [h166, h147]; clear * - i; revert i; decide +kernel
  refine step_ret ?_; rintro _ -
  refine step_part ?_; rw [k0_part22_eq_skeleton]; unfold k0_part22_skel; refine step_outStart ?_; refine step_ret ?_; rintro _ -
  refine step_part ?_; rw [k0_part23_eq_skeleton]; unfold k0_part23_skel; refine step_inStart ?_; refine step_ret ?_; rintro _ -
  refine step_part ?_; rw [k0_part24_eq_skeleton]; unfold k0_part24_skel; refine step_inWait ?_; refine step_ret ?_; rintro _ -
  refine step_part ?_; rw [k0_part25_eq_skeleton]; unfold k0_part25_skel; refine step_outWait ?_; refine step_loop k0_off10_eq ?_ ?_
  · rw [h166, h147]; clear * - i; revert i; decide +kernel
  refine step_ret ?_; rintro _ -
  refine step_part ?_; rw [k0_part26_eq_skeleton]; unfold k0_part26_skel; refine step_outStart ?_; refine step_ret ?_; rintro _ -
  refine step_part ?_; rw [k0_part27_eq_skeleton]; unfold k0_part27_skel; refine step_inStart ?_; refine step_ret ?_; rintro _ -
  refine step_part ?_; rw [k0_part28_eq_skeleton]; unfold k0_part28_skel; refine step_inWait ?_; refine step_ret ?_; rintro _ -
  refine step_part ?_; rw [k0_part29_eq_skeleton]; unfold k0_part29_skel; refine step_outWait ?_; refine step_ret ?_; rintro _ rfl
  refine step_part ?_; rw [k0_part30_eq_skeleton]; unfold k0_part30_skel; refine step_loop k0_off12_eq ?_ ?_
  · rw [h166, h147]; clear * - i; revert i; decide +kernel
  refine step_ret ?_; rintro _ -
  refine step_part ?_; rw [k0_part31_eq_skeleton]; unfold k0_part31_skel; refine step_outStart ?_; refine step_ret ?_; rintro _ -
  refine step_part ?_; rw [k0_part32_eq_skeleton]; unfold k0_part32_skel; refine step_inStart ?_; refine step_ret ?_; rintro _ -
  refine step_part ?_; rw [k0_part33_eq_skeleton]; unfold k0_part33_skel; refine step_inWait ?_; refine step_ret ?_; rintro _ -
  refine step_part ?_; rw [k0_part34_eq_skeleton]; unfold k0_part34_skel; refine step_outWait ?_; refine step_loop k0_off14_eq ?_ ?_
  · rw [h166, h147]; clear * - i; revert i; decide +kernel
  refine step_ret ?_; rintro _ -
  refine step_part ?_; rw [k0_part35_eq_skeleton]; unfold k0_part35_skel; refine step_outStart ?_; refine step_ret ?_; rintro _ -
  refine step_part ?_; rw [k0_part36_eq_skeleton]; unfold k0_part36_skel; refine step_inStart ?_; refine step_ret ?_; rintro _ -
  refine step_part ?_; rw [k0_part37_eq_skeleton]; unfold k0_part37_skel; refine step_inWait ?_; refine step_ret ?_; rintro _ -
  refine step_part ?_; rw [k0_part38_eq_skeleton]; unfold k0_part38_skel; refine step_outWait ?_; refine step_loop k0_off16_eq ?_ ?_
  · rw [h166, h147]; clear * - i; revert i; decide +kernel
  refine step_ret ?_; rintro _ -
  refine step_part ?_; rw [k0_part39_eq_skeleton]; unfold k0_part39_skel; refine step_outStart ?_; refine step_ret ?_; rintro _ -
  refine step_part ?_; rw [k0_part40_eq_skeleton]; unfold k0_part40_skel; refine step_inStart ?_; refine step_ret ?_; rintro _ -
  refine step_part ?_; rw [k0_part41_eq_skeleton]; unfold k0_part41_skel; refine step_inWait ?_; refine step_ret ?_; rintro _ -
  refine step_part ?_; rw [k0_part42_eq_skeleton]; unfold k0_part42_skel; refine step_outWait ?_; refine step_ret ?_; rintro _ rfl
  refine step_part ?_; rw [k0_part43_eq_skeleton]; unfold k0_part43_skel; refine step_loop k0_off18_eq ?_ ?_
  · rw [h166, h147]; clear * - i; revert i; decide +kernel
  refine step_ret ?_; rintro _ -
  refine step_part ?_; rw [k0_part44_eq_skeleton]; unfold k0_part44_skel; refine step_outStart ?_; refine step_ret ?_; rintro _ -
  refine step_part ?_; rw [k0_part45_eq_skeleton]; unfold k0_part45_skel; refine step_inStart ?_; refine step_ret ?_; rintro _ -
  refine step_part ?_; rw [k0_part46_eq_skeleton]; unfold k0_part46_skel; refine step_inWait ?_; refine step_ret ?_; rintro _ -
  refine step_part ?_; rw [k0_part47_eq_skeleton]; unfold k0_part47_skel; refine step_outWait ?_; refine step_loop k0_off20_eq ?_ ?_
  · rw [h166, h147]; clear * - i; revert i; decide +kernel
  refine step_ret ?_; rintro _ -
  refine step_part ?_; rw [k0_part48_eq_skeleton]; unfold k0_part48_skel; refine step_outStart ?_; refine step_ret ?_; rintro _ -
  refine step_part ?_; rw [k0_part49_eq_skeleton]; unfold k0_part49_skel; refine step_inStart ?_; refine step_ret ?_; rintro _ -
  refine step_part ?_; rw [k0_part50_eq_skeleton]; unfold k0_part50_skel; refine step_inWait ?_; refine step_ret ?_; rintro _ -
  refine step_part ?_; rw [k0_part51_eq_skeleton]; unfold k0_part51_skel; refine step_outWait ?_; refine step_loop k0_off22_eq ?_ ?_
  · rw [h166, h147]; clear * - i; revert i; decide +kernel
  refine step_ret ?_; rintro _ -
  refine step_part ?_; rw [k0_part52_eq_skeleton]; unfold k0_part52_skel; refine step_outStart ?_; refine step_ret ?_; rintro _ -
  refine step_part ?_; rw [k0_part53_eq_skeleton]; unfold k0_part53_skel; refine step_inStart ?_; refine step_ret ?_; rintro _ -
  refine step_part ?_; rw [k0_part54_eq_skeleton]; unfold k0_part54_skel; refine step_inWait ?_; refine step_ret ?_; rintro _ -
  refine step_part ?_; rw [k0_part55_eq_skeleton]; unfold k0_part55_skel; refine step_outWait ?_; refine step_ret ?_; rintro _ rfl
  refine step_part ?_; rw [k0_part56_eq_skeleton]; unfold k0_part56_skel; refine step_loop k0_off24_eq ?_ ?_
  · rw [h166, h147]; clear * - i; revert i; decide +kernel
  refine step_ret ?_; rintro _ -
  refine step_part ?_; rw [k0_part57_eq_skeleton]; unfold k0_part57_skel; refine step_outStart ?_; refine step_ret ?_; rintro _ -
  refine step_part ?_; rw [k0_part58_eq_skeleton]; unfold k0_part58_skel; refine step_inStart ?_; refine step_ret ?_; rintro _ -
  refine step_part ?_; rw [k0_part59_eq_skeleton]; unfold k0_part59_skel; refine step_inWait ?_; refine step_ret ?_; rintro _ -
  refine step_part ?_; rw [k0_part60_eq_skeleton]; unfold k0_part60_skel; refine step_outWait ?_; refine step_loop k0_off26_eq ?_ ?_
  · rw [h167, h165]; clear * - i; revert i; decide +kernel
  refine step_ret ?_; rintro _ -
  refine step_ret ?_; rintro _ rfl
  refine step_part ?_; rw [k0_part111_eq_skeleton]; unfold k0_part111_skel
  refine step_part ?_; rw [k0_part61_eq_skeleton]; unfold k0_part61_skel; refine step_outStart ?_; refine step_ret ?_; rintro _ -
  refine step_part ?_; rw [k0_part62_eq_skeleton]; unfold k0_part62_skel; refine step_inStart ?_; refine step_ret ?_; rintro _ -
  refine step_part ?_; rw [k0_part63_eq_skeleton]; unfold k0_part63_skel; refine step_inWait ?_; refine step_ret ?_; rintro _ -
  refine step_part ?_; rw [k0_part64_eq_skeleton]; unfold k0_part64_skel; refine step_outWait ?_; refine step_loop k0_off27_eq ?_ ?_
  · rw [h167, h165]; clear * - i; revert i; decide +kernel
  refine step_ret ?_; rintro _ -
  refine step_part ?_; rw [k0_part65_eq_skeleton]; unfold k0_part65_skel; refine step_outStart ?_; refine step_ret ?_; rintro _ -
  refine step_part ?_; rw [k0_part66_eq_skeleton]; unfold k0_part66_skel; refine step_inStart ?_; refine step_ret ?_; rintro _ -
  refine step_part ?_; rw [k0_part67_eq_skeleton]; unfold k0_part67_skel; refine step_inWait ?_; refine step_ret ?_; rintro _ -
  refine step_part ?_; rw [k0_part68_eq_skeleton]; unfold k0_part68_skel; refine step_outWait ?_; refine step_ret ?_; rintro _ rfl
  refine step_part ?_; rw [k0_part69_eq_skeleton]; unfold k0_part69_skel; refine step_loop k0_off28_eq ?_ ?_
  · rw [h167, h165]; clear * - i; revert i; decide +kernel
  refine step_ret ?_; rintro _ -
  refine step_part ?_; rw [k0_part70_eq_skeleton]; unfold k0_part70_skel; refine step_outStart ?_; refine step_ret ?_; rintro _ -
  refine step_part ?_; rw [k0_part71_eq_skeleton]; unfold k0_part71_skel; refine step_inStart ?_; refine step_ret ?_; rintro _ -
  refine step_part ?_; rw [k0_part72_eq_skeleton]; unfold k0_part72_skel; refine step_inWait ?_; refine step_ret ?_; rintro _ -
  refine step_part ?_; rw [k0_part73_eq_skeleton]; unfold k0_part73_skel; refine step_outWait ?_; refine step_loop k0_off29_eq ?_ ?_
  · rw [h167, h165]; clear * - i; revert i; decide +kernel
  refine step_ret ?_; rintro _ -
  refine step_part ?_; rw [k0_part74_eq_skeleton]; unfold k0_part74_skel; refine step_outStart ?_; refine step_ret ?_; rintro _ -
  refine step_part ?_; rw [k0_part75_eq_skeleton]; unfold k0_part75_skel; refine step_inStart ?_; refine step_ret ?_; rintro _ -
  refine step_part ?_; rw [k0_part76_eq_skeleton]; unfold k0_part76_skel; refine step_inWait ?_; refine step_ret ?_; rintro _ -
  refine step_part ?_; rw [k0_part77_eq_skeleton]; unfold k0_part77_skel; refine step_outWait ?_; refine step_loop k0_off30_eq ?_ ?_
  · rw [h167, h165]; clear * - i; revert i; decide +kernel
  refine step_ret ?_; rintro _ -
  refine step_part ?_; rw [k0_part78_eq_skeleton]; unfold k0_part78_skel; refine step_outStart ?_; refine step_ret ?_; rintro _ -
  refine step_part ?_; rw [k0_part79_eq_skeleton]; unfold k0_part79_skel; refine step_inStart ?_; refine step_ret ?_; rintro _ -
  refine step_part ?_; rw [k0_part80_eq_skeleton]; unfold k0_part80_skel; refine step_inWait ?_; refine step_ret ?_; rintro _ -
  refine step_part ?_; rw [k0_part81_eq_skeleton]; unfold k0_part81_skel; refine step_outWait ?_; refine step_ret ?_; rintro _ rfl
  refine step_part ?_; rw [k0_part82_eq_skeleton]; unfold k0_part82_skel; refine step_loop k0_off31_eq ?_ ?_
  · rw [h167, h165]; clear * - i; revert i; decide +kernel
  refine step_ret ?_; rintro _ -
  refine step_part ?_; rw [k0_part83_eq_skeleton]; unfold k0_part83_skel; refine step_outStart ?_; refine step_ret ?_; rintro _ -
  refine step_part ?_; rw [k0_part84_eq_skeleton]; unfold k0_part84_skel; refine step_inStart ?_; refine step_ret ?_; rintro _ -
  refine step_part ?_; rw [k0_part85_eq_skeleton]; unfold k0_part85_skel; refine step_inWait ?_; refine step_ret ?_; rintro _ -
  refine step_part ?_; rw [k0_part86_eq_skeleton]; unfold k0_part86_skel; refine step_outWait ?_; refine step_loop k0_off32_eq ?_ ?_
  · rw [h167, h165]; clear * - i; revert i; decide +kernel
  refine step_ret ?_; rintro _ -
  refine step_part ?_; rw [k0_part87_eq_skeleton]; unfold k0_part87_skel; refine step_outStart ?_; refine step_ret ?_; rintro _ -
  refine step_part ?_; rw [k0_part88_eq_skeleton]; unfold k0_part88_skel; refine step_inStart ?_; refine step_ret ?_; rintro _ -
  refine step_part ?_; rw [k0_part89_eq_skeleton]; unfold k0_part89_skel; refine step_inWait ?_; refine step_ret ?_; rintro _ -
  refine step_part ?_; rw [k0_part90_eq_skeleton]; unfold k0_part90_skel; refine step_outWait ?_; refine step_loop k0_off33_eq ?_ ?_
  · rw [h167, h165]; clear * - i; revert i; decide +kernel
  refine step_ret ?_; rintro _ -
  refine step_part ?_; rw [k0_part91_eq_skeleton]; unfold k0_part91_skel; refine step_outStart ?_; refine step_ret ?_; rintro _ -
  refine step_part ?_; rw [k0_part92_eq_skeleton]; unfold k0_part92_skel; refine step_inStart ?_; refine step_ret ?_; rintro _ -
  refine step_part ?_; rw [k0_part93_eq_skeleton]; unfold k0_part93_skel; refine step_inWait ?_; refine step_ret ?_; rintro _ -
  refine step_part ?_; rw [k0_part94_eq_skeleton]; unfold k0_part94_skel; refine step_outWait ?_; refine step_ret ?_; rintro _ rfl
  refine step_part ?_; rw [k0_part95_eq_skeleton]; unfold k0_part95_skel; refine step_loop k0_off34_eq ?_ ?_
  · rw [h167, h165]; clear * - i; revert i; decide +kernel
  refine step_ret ?_; rintro _ -
  refine step_part ?_; rw [k0_part96_eq_skeleton]; unfold k0_part96_skel; refine step_outStart ?_; refine step_ret ?_; rintro _ -
  refine step_part ?_; rw [k0_part97_eq_skeleton]; unfold k0_part97_skel; refine step_inWait ?_; refine step_ret ?_; rintro _ -
  refine step_part ?_; rw [k0_part98_eq_skeleton]; unfold k0_part98_skel; refine step_outWait ?_; refine step_loop k0_off35_eq ?_ ?_
  · rw [h167, h165]; clear * - i; revert i; decide +kernel
  refine step_ret ?_; rintro _ -
  refine step_part ?_; rw [k0_part99_eq_skeleton]; unfold k0_part99_skel; refine step_outStart ?_; refine step_ret ?_; rintro _ -
  refine step_part ?_; rw [k0_part100_eq_skeleton]; unfold k0_part100_skel; refine step_inWait ?_; refine step_ret ?_; rintro _ -
  refine step_part ?_; rw [k0_part101_eq_skeleton]; unfold k0_part101_skel; refine step_outWait ?_; refine step_loop k0_off36_eq ?_ ?_
  · rw [h167, h165]; clear * - i; revert i; decide +kernel
  refine step_ret ?_; rintro _ -
  refine step_part ?_; rw [k0_part102_eq_skeleton]; unfold k0_part102_skel; refine step_outStart ?_; refine step_ret ?_; rintro _ -
  refine step_part ?_; rw [k0_part103_eq_skeleton]; unfold k0_part103_skel; refine step_inWait ?_; refine step_ret ?_; rintro _ -
  refine step_part ?_; rw [k0_part104_eq_skeleton]; unfold k0_part104_skel; refine step_outWait ?_; refine step_ret ?_; rintro _ rfl
  refine step_part ?_; rw [k0_part105_eq_skeleton]; unfold k0_part105_skel; refine step_loop k0_off37_eq ?_ ?_
  · rw [h167, h165]; clear * - i; revert i; decide +kernel
  refine step_ret ?_; rintro _ -
  refine step_part ?_; rw [k0_part106_eq_skeleton]; unfold k0_part106_skel; refine step_outStart ?_; refine step_ret ?_; rintro _ -
  refine step_part ?_; rw [k0_part107_eq_skeleton]; unfold k0_part107_skel; refine step_outWait ?_; refine step_ret ?_; rintro _ -
  refine step_part ?_; rw [k0_part108_eq_skeleton]; unfold k0_part108_skel; refine step_outWait ?_; refine step_ret ?_; rintro _ -
  refine step_part ?_; rw [k0_part109_eq_skeleton]; unfold k0_part109_skel; refine step_outWait ?_; refine step_ret ?_; rintro _ -
  refine step_ret ?_; rintro _ -; refine step_outWait ?_; refine step_ret ?_; rintro _ rfl; exact h
end Body
end Cert.Proof.K
-- ==== Proof.Tile.lean ====
/-
  A whole tile's run, from what a tile is started with — its own buffers and semaphores, its shares of the array it reads
  and its pieces of the output — to what it hands back: the same, the pieces holding the result.
-/
module

public import proofs.«01_k».proof.Proof.Body

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A family of members of a set, taken out of a separating conjunction over the set. -/
theorem carve {I J : Type} [DecidableEq I] [Fintype J] (S : Finset I) (g : J ↪ I) (h : ∀ j, g j ∈ S) (Φ : I → sProp 𝕄) :
    bigSep S Φ = iprop((bigSep Finset.univ fun j => Φ (g j)) ∗ bigSep (S \ Finset.univ.map g) Φ) := by
  rw [bigSep_sdiff_split (t := Finset.univ.map g) (by
    intro x hx; obtain ⟨j, -, rfl⟩ := Finset.mem_map.mp hx; exact h j), bigSep_map]
  rfl

/-! ## The tile's own buffers and semaphores -/

/-- The scratch buffers' names: four for the copies in, four for the copies out. -/
def ibRef : Fin 4 → Ref sig .scVector
  | 0 => cc0_scratch0 | 1 => cc0_scratch1 | 2 => cc0_scratch2 | 3 => cc0_scratch3
def obRef : Fin 4 → Ref sig .scVector
  | 0 => cc0_scratch4 | 1 => cc0_scratch5 | 2 => cc0_scratch6 | 3 => cc0_scratch7

/-- The buffers are pairwise distinct. -/
theorem refs_injective : Function.Injective (Sum.elim ibRef obRef) := by decide
/-- The buffers are the call's own. -/
theorem refs_scoped : ∀ x, (Sum.elim ibRef obRef x).isScoped = true := by decide
/-- The semaphores are pairwise distinct. -/
theorem sems_injective : Function.Injective (Sum.elim (fun s => (SemLoc.dma (isem s) : SemLoc sig)) fun k => SemLoc.dma (osem k)) := by decide
/-- The semaphores are the call's own. -/
theorem sems_scoped : ∀ x, (Sum.elim (fun s => (SemLoc.dma (isem s) : SemLoc sig)) (fun k => SemLoc.dma (osem k)) x).isScoped .scVector = true := by decide

variable (d : Dev nD) (i : grid0.Coords)

/-- The buffers, and the semaphores, of the tile at `i`. -/
def bufE : Fin 4 ⊕ Fin 4 ↪ DevRef τ sig :=
  ⟨fun x => (thr d i).2.devRef (Sum.elim ibRef obRef x), (Proc.devRef_injective _).comp refs_injective⟩
def semE : Fin 4 ⊕ Fin 5 ↪ GSem nD τ sig :=
  ⟨fun x => (thr d i, Sum.elim (fun s => SemLoc.dma (isem s)) (fun k => SemLoc.dma (osem k)) x),
    fun _ _ h => sems_injective (congrArg Prod.snd h)⟩

/-- Each buffer is the tile's. -/
theorem bufE_mem : ∀ x, bufE d i x ∈ ownRefs (sig := sig) (thr d i).2
  | .inl 0 => Finset.mem_filter.mpr ⟨Finset.mem_univ _, rfl⟩ | .inl 1 => Finset.mem_filter.mpr ⟨Finset.mem_univ _, rfl⟩
  | .inl 2 => Finset.mem_filter.mpr ⟨Finset.mem_univ _, rfl⟩ | .inl 3 => Finset.mem_filter.mpr ⟨Finset.mem_univ _, rfl⟩
  | .inr 0 => Finset.mem_filter.mpr ⟨Finset.mem_univ _, rfl⟩ | .inr 1 => Finset.mem_filter.mpr ⟨Finset.mem_univ _, rfl⟩
  | .inr 2 => Finset.mem_filter.mpr ⟨Finset.mem_univ _, rfl⟩ | .inr 3 => Finset.mem_filter.mpr ⟨Finset.mem_univ _, rfl⟩
/-- Each semaphore is the tile's. -/
theorem semE_mem (x) : semE d i x ∈ ownCells (sig := sig) (thr d i) := mem_ownCells.mpr ⟨rfl, sems_scoped x⟩

/-- An input buffer with any contents is free. -/
theorem ib_any : ∀ s : Fin 4, (iprop(∃ f, (thr d i).loc (ibRef s) ↦{fullShare} f) : sProp 𝕄) = iprop(∃ f, (IB s).view.loc (thr d i) ↦{fullShare} f)
  | 0 => rfl | 1 => rfl | 2 => rfl | 3 => rfl
/-- An output buffer with any contents is free. -/
theorem ob_any : ∀ s : Fin 4, (iprop(∃ f, (thr d i).loc (obRef s) ↦{fullShare} f) : sProp 𝕄) = iprop(∃ f, (OB s).view.loc (thr d i) ↦{fullShare} f)
  | 0 => rfl | 1 => rfl | 2 => rfl | 3 => rfl

/-- The tile's other buffers, and its other semaphores. -/
def bufRest : sProp 𝕄 := bigSep (ownRefs (sig := sig) (thr d i).2 \ Finset.univ.map (bufE d i)) fun b => iprop(∃ f, (((thr d i).1, b) : Loc nD τ sig) ↦{fullShare} f)
def semRest : sProp 𝕄 := bigSep (ownCells (sig := sig) (thr d i) \ Finset.univ.map (semE d i)) fun g => semVal g 0

/-- The tile's own buffers are the eight scratch buffers and the others. -/
theorem ownBufs_thr : (ownBufs (thr d i) : sProp 𝕄)
    = iprop(((bigSep Finset.univ fun s : Fin 4 => iprop(∃ f, (IB s).view.loc (thr d i) ↦{fullShare} f))
        ∗ bigSep Finset.univ fun s : Fin 4 => iprop(∃ f, (OB s).view.loc (thr d i) ↦{fullShare} f)) ∗ bufRest d i) := by
  unfold SparseCore.Cfg.ownBufs bufRest
  rw [carve _ (bufE d i) (bufE_mem d i), bigSep_univ_sum,
    ← bigSep_congr (s := Finset.univ) (fun s _ => ib_any (F := F) d i s), ← bigSep_congr (s := Finset.univ) (fun s _ => ob_any (F := F) d i s)]
  rfl

/-- The tile's own semaphores are the nine it copies by and the others. -/
theorem ownSems_thr : (ownSems0 (thr d i) : sProp 𝕄)
    = iprop(((bigSep Finset.univ fun s : Fin 4 => semVal (thr d i, .dma (isem s)) 0)
        ∗ bigSep Finset.univ fun k : Fin 5 => semVal (thr d i, .dma (osem k)) 0) ∗ semRest d i) := by
  unfold SparseCore.Cfg.ownSems0 semRest
  rw [carve _ (semE d i) (semE_mem d i), bigSep_univ_sum]
  rfl

/-! ## The tile's state at its start and at its end -/

variable (w : S2x32x1x160000.Idx → Elt F .f32) (o : S2x32x1x152000.Idx → Elt F .f32) (q : Fin 4 → PosShare TreeShare)
  (O : CellTallies nD τ sig (HIx 1)) (W : Waits sig (HIx 1))

/-- The state with no copy under way and every buffer free. -/
theorem St_quiet (a b l c e : Nat) (h1 : ∀ s, inSt a b l s = .free) (h2 : ∀ s, outSt l c e s = .free) (h3 : ∀ k, busy c e k = false) :
    St d i w o q O W a b l c e
      = iprop(((bigSep Finset.univ fun s : Fin 4 => iprop(∃ f, (IB s).view.loc (thr d i) ↦{fullShare} f))
          ∗ (bigSep Finset.univ fun s : Fin 4 => wPts d i w (q s) Finset.univ)
          ∗ (bigSep Finset.univ fun s : Fin 4 => semVal (thr d i, .dma (isem s)) 0))
        ∗ (bigSep Finset.univ fun s : Fin 4 => iprop(∃ f, (OB s).view.loc (thr d i) ↦{fullShare} f))
        ∗ (bigSep Finset.univ fun k : Fin 5 => semVal (thr d i, .dma (osem k)) 0)
        ∗ (bigSep Finset.univ fun j : Fin 24 => pcRes d i w o j (pst c e j)) ∗ owesSt d i O W) := by
  unfold St
  rw [bigSep_congr (s := Finset.univ) (fun s _ => (congrArg (inRes d i w q s) (h1 s)).trans (inRes_free d i w q s)),
    bigSep_congr (s := Finset.univ) (fun s _ => (congrArg (outRes d i w s) (h2 s)).trans (outRes_free d i w s)),
    bigSep_congr (s := Finset.univ) (fun k _ => (congrArg (cellRes (F := F) d i k) (h3 k)).trans (cellRes_false d i k)),
    bigSep_sep', bigSep_sep']

/-- The state before the first item. -/
theorem St_first : St d i w o q O W 0 0 0 0 0
      = iprop(((bigSep Finset.univ fun s : Fin 4 => iprop(∃ f, (IB s).view.loc (thr d i) ↦{fullShare} f))
          ∗ (bigSep Finset.univ fun s : Fin 4 => wPts d i w (q s) Finset.univ)
          ∗ (bigSep Finset.univ fun s : Fin 4 => semVal (thr d i, .dma (isem s)) 0))
        ∗ (bigSep Finset.univ fun s : Fin 4 => iprop(∃ f, (OB s).view.loc (thr d i) ↦{fullShare} f))
        ∗ (bigSep Finset.univ fun k : Fin 5 => semVal (thr d i, .dma (osem k)) 0)
        ∗ (bigSep Finset.univ fun j : Fin 24 => oV.view.loc (thr d i) ↦[piece i j.val]{fullShare} o) ∗ owesSt d i O W) := by
  rw [St_quiet d i w o q O W 0 0 0 0 0 (by decide) (by decide) (by decide)]
  rw [bigSep_congr (s := Finset.univ) (fun (j : Fin 24) _ => (congrArg (pcRes d i w o j) (show pst 0 0 j = .old from rfl)).trans (pcRes_old d i w o j))]

/-- The state after the last item. -/
theorem St_last : St d i w o q O W 24 24 24 24 24
      = iprop(((bigSep Finset.univ fun s : Fin 4 => iprop(∃ f, (IB s).view.loc (thr d i) ↦{fullShare} f))
          ∗ (bigSep Finset.univ fun s : Fin 4 => wPts d i w (q s) Finset.univ)
          ∗ (bigSep Finset.univ fun s : Fin 4 => semVal (thr d i, .dma (isem s)) 0))
        ∗ (bigSep Finset.univ fun s : Fin 4 => iprop(∃ f, (OB s).view.loc (thr d i) ↦{fullShare} f))
        ∗ (bigSep Finset.univ fun k : Fin 5 => semVal (thr d i, .dma (osem k)) 0)
        ∗ (bigSep Finset.univ fun j : Fin 24 => oV.view.loc (thr d i) ↦[piece i j.val]{fullShare} G w) ∗ owesSt d i O W) := by
  rw [St_quiet d i w o q O W 24 24 24 24 24 (by decide) (by decide) (by decide)]
  rw [bigSep_congr (s := Finset.univ) (fun (j : Fin 24) _ => (congrArg (pcRes d i w o j) (show pst 24 24 j = .fin from if_pos j.isLt)).trans (pcRes_fin d i w o j))]

/-! ## The tile's run -/

/-- The share a tile's buffer `s` reads the whole array with. -/
def wq (i : grid0.Coords) (s : Fin 4) : PosShare TreeShare := Transfers.dealOf (Transfers.dealOf (Transfers.dealOf fullShare Finset.univ (i 0)) Finset.univ (i 1)) Finset.univ s

/-- What a tile holds of the two arrays: its shares of the one it reads, its pieces of the output. -/
def tileRes (w : S2x32x1x160000.Idx → Elt F .f32) (g : S2x32x1x152000.Idx → Elt F .f32) (d : Dev nD) (i : grid0.Coords) : sProp 𝕄 :=
  iprop((bigSep Finset.univ fun s : Fin 4 => wLoc d ↦[Finset.univ]{wq i s} w) ∗ bigSep Finset.univ fun j : Fin 24 => oLoc d ↦[piece i j.val]{fullShare} g)

/-- A tile's run: it ends, its pieces of the output holding the result, everything else as it was. -/
theorem tile_body (hF : (K (F := F)).Facts) (O : CellTallies nD τ sig (HIx 1)) (W : Waits sig (HIx 1)) (hO : ∀ g, O g none = 0) :
    iprop(levAts (K (F := F)).L (K (F := F)).lev ∗ emp ∗ tileRes w o d i
        ∗ scopedBufs (thr d i) ∗ scopedSems0 (thr d i) ∗ owes (thr d i) O W)
      ⊢ WP d i (cc0__sc_body i (Memref.whole main_arg0_scv) (Memref.isWhole_whole _) (Memref.whole main_v0_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _) cc0_scratch8 cc0_scratch9)
          fun _ => iprop(tileRes w (G w) d i ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems_thr, ownBufs_thr]
  have hrun := body_run (d := d) (i := i) (w := w) (o := o) (q := wq i) (O := O) (W := W)
    (fun _ => St d i w o (wq i) O W 24 24 24 24 24) .rfl
  refine BIBase.Entails.trans (Q := iprop(St d i w o (wq i) O W 0 0 0 0 0 ∗ (bufRest d i ∗ semRest d i))) ?_
    ((sep_mono hrun .rfl).trans ((wp_frame_r frame _ _).trans (wp_mono frame _ _ fun _ => ?_)))
  · rw [St_first]; unfold tileRes
    iintro ⟨#Hlv, -, ⟨Hw, Ho⟩, ⟨⟨Hib, Hob⟩, Hb⟩, ⟨⟨His, Hos⟩, Hs⟩, HO⟩
    ihave Hmw := (show levAts (K (F := F)).L (K (F := F)).lev ⊢ Transfers.MayWaits (thr d i) (default : HIx 1) O from
      (K (F := F)).mayWaits_none (thr := thr d i) hO) $$ Hlv
    isplitr [Hb Hs]
    · isplitl [Hib Hw His]
      · isplitl [Hib]; · iexact Hib
        isplitl [Hw]; · iexact Hw
        iexact His
      isplitl [Hob]; · iexact Hob
      isplitl [Hos]; · iexact Hos
      isplitl [Ho]; · iexact Ho
      isplitl [Hmw]; · iexact Hmw
      iexists W; isplitr; · ipureintro; exact fun p hp => .inl hp
      iexact HO
    · isplitl [Hb]; · iexact Hb
      iexact Hs
  · rw [St_last]; unfold tileRes
    iintro ⟨⟨⟨Hib, Hw, His⟩, Hob, Hos, Ho, -, HO⟩, Hb, Hs⟩
    isplitl [Hw Ho]
    · isplitl [Hw]; · iexact Hw
      iexact Ho
    isplitl [Hib Hob Hb]
    · isplitl [Hib Hob]
      · isplitl [Hib]; · iexact Hib
        iexact Hob
      iexact Hb
    isplitl [His Hos Hs]
    · isplitl [His Hos]
      · isplitl [His]; · iexact His
        iexact Hos
      iexact Hs
    iexact HO

end Cert.Proof.K

end
-- ==== Proof.Launch.lean ====
/-
  The launch: the arrays are dealt to the two cores' sixteen tiles each — a share of the one they read, the pieces of the
  output they write —, the tiles run, and the program ends with the output holding the result.
-/
module

public import proofs.«01_k».proof.Proof.Tile
public import proofs.«01_k».proof.Proof.Gen.Kernel

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays, dealt to the tiles -/

/-- The tile of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The whole array read is the tiles' buffers' shares of it. -/
theorem wav_deal (d : Dev nD) (w : S2x32x1x160000.Idx → Elt F .f32) :
    (wLoc d ↦{fullShare} w : sProp 𝕄)
      = bigSep Finset.univ fun c : Fin (grid0.bound 0) => bigSep Finset.univ fun t : Fin (grid0.bound 1) =>
          bigSep Finset.univ fun s : Fin 4 => wLoc d ↦[Finset.univ]{wq (coordsV c t) s} w := by
  rw [Transfers.pointsTo_deal (Finset.univ : Finset (Fin (grid0.bound 0))) ⟨⟨0, by decide⟩, Finset.mem_univ _⟩]
  refine bigSep_congr fun c _ => ?_
  rw [Transfers.pointsTo_deal (Finset.univ : Finset (Fin (grid0.bound 1))) ⟨⟨0, by decide⟩, Finset.mem_univ _⟩]
  refine bigSep_congr fun t _ => ?_
  rw [Transfers.pointsTo_deal (Finset.univ : Finset (Fin 4)) ⟨0, Finset.mem_univ _⟩]
  rfl

/-- The piece of the output of a core, a subcore and one of its items. -/
def pieceOf (x : Fin (grid0.bound 0) × Fin (grid0.bound 1) × Fin 24) : Finset S2x32x1x152000.Idx := piece (coordsV x.1 x.2.1) x.2.2.val

/-- The places of a piece, by coordinates. -/
theorem mem_pieceOf (x : Fin (grid0.bound 0) × Fin (grid0.bound 1) × Fin 24) (y : S2x32x1x152000.Idx) :
    y ∈ pieceOf x ↔ (y 0).val = (4 * x.2.1.val + 2 * x.1.val + x.2.2.val / 12) / 32 ∧ (y 1).val = (4 * x.2.1.val + 2 * x.1.val + x.2.2.val / 12) % 32
      ∧ x.2.2.val % 12 * 12672 ≤ (y 3).val ∧ (y 3).val < x.2.2.val % 12 * 12672 + csz x.2.2.val := by
  unfold pieceOf piece
  rw [Finset.mem_filter]
  exact and_iff_right (Finset.mem_univ y)

/-- No two pieces meet. -/
theorem pieces_disjoint : ∀ x ∈ (Finset.univ : Finset (Fin (grid0.bound 0) × Fin (grid0.bound 1) × Fin 24)), ∀ x' ∈ Finset.univ, x ≠ x' →
    Disjoint (pieceOf x) (pieceOf x') := by
  rintro ⟨c, t, j⟩ - ⟨c', t', j'⟩ - h
  refine Finset.disjoint_left.mpr fun y hy hy' => h ?_
  rw [mem_pieceOf] at hy hy'
  simp only at hy hy'
  have hc : c.val < 2 := c.isLt
  have hc' : c'.val < 2 := c'.isLt
  have ht : t.val < 16 := t.isLt
  have ht' : t'.val < 16 := t'.isLt
  have hj := csz_le j.val
  have hj' := csz_le j'.val
  have e1 : c.val = c'.val := by omega
  have e2 : t.val = t'.val := by omega
  have e3 : j.val = j'.val := by omega
  rw [Fin.ext e1, Fin.ext e2, Fin.ext e3]

/-- The pieces are the whole output. -/
theorem pieces_cover : (Finset.univ : Finset (Fin (grid0.bound 0) × Fin (grid0.bound 1) × Fin 24)).biUnion pieceOf = Finset.univ := by
  ext y
  simp only [Finset.mem_biUnion, Finset.mem_univ, true_and, iff_true]
  have h0 : (y 0).val < 2 := (y 0).isLt
  have h1 : (y 1).val < 32 := (y 1).isLt
  have h3 : (y 3).val < 152000 := (y 3).isLt
  refine ⟨⟨⟨(32 * (y 0).val + (y 1).val) % 4 / 2, by show _ < 2; omega⟩, ⟨(32 * (y 0).val + (y 1).val) / 4, by show _ < 16; omega⟩,
    ⟨12 * ((32 * (y 0).val + (y 1).val) % 2) + (y 3).val / 12672, by omega⟩⟩, ?_⟩
  rw [mem_pieceOf]
  simp only
  unfold csz
  refine ⟨by omega, by omega, by omega, ?_⟩
  split <;> omega

/-- The whole output is the tiles' pieces of it. -/
theorem out_split (d : Dev nD) (g : S2x32x1x152000.Idx → Elt F .f32) :
    (oLoc d ↦{fullShare} g : sProp 𝕄)
      = bigSep Finset.univ fun c : Fin (grid0.bound 0) => bigSep Finset.univ fun t : Fin (grid0.bound 1) =>
          bigSep Finset.univ fun j : Fin 24 => oLoc d ↦[piece (coordsV c t) j.val]{fullShare} g := by
  have h := pointsTo_biUnion (Ix := HIx 1) (Val := Elt F) (Name := ℕ) (U := UU) (Lvl := ℕ) (ℓ := oLoc d) (q := fullShare) (f := g)
    (Finset.univ : Finset (Fin (grid0.bound 0) × Fin (grid0.bound 1) × Fin 24)) pieceOf pieces_disjoint
  rw [pieces_cover] at h
  refine h.trans ?_
  rw [bigSep_univ_prod]
  refine bigSep_congr fun c _ => ?_
  rw [bigSep_univ_prod]
  rfl

/-- What the tiles hold is, all together, the two arrays. -/
theorem tiles_all (d : Dev nD) (w : S2x32x1x160000.Idx → Elt F .f32) (g : S2x32x1x152000.Idx → Elt F .f32) :
    (bigSep Finset.univ fun c : Fin (grid0.bound 0) => bigSep Finset.univ fun t : Fin (grid0.bound 1) => tileRes w g d (coordsV c t))
      = (iprop((wLoc d ↦{fullShare} w) ∗ oLoc d ↦{fullShare} g) : sProp 𝕄) := by
  rw [wav_deal, out_split]
  unfold tileRes
  rw [← bigSep_sep']
  refine bigSep_congr fun c _ => ?_
  rw [← bigSep_sep']

/-! ## What the threads hand one another -/

variable (m : (ℓ : Loc nD τ sig) → Buf (Elt F) ℓ) (ρ : Dev nD → PrngReg)

/-- The tile of core `c` and subcore `t` of the launch's own numbering. -/
abbrev cj (c : Fin ((K (F := F)).nCore 0)) (t : Fin ((K (F := F)).nSub 0)) : grid0.Coords := coordsV ⟨c.val, c.isLt⟩ ⟨t.val, t.isLt⟩

/-- What a tile is started with, and what it hands back. -/
abbrev tileIn (d : Dev nD) (i : grid0.Coords) : sProp 𝕄 := tileRes (m (wLoc d)) (m (oLoc d)) d i
abbrev tileOut (d : Dev nD) (i : grid0.Coords) : sProp 𝕄 := tileRes (m (wLoc d)) (G (m (wLoc d))) d i

instance tileRes_storable (w : S2x32x1x160000.Idx → Elt F .f32) (g : S2x32x1x152000.Idx → Elt F .f32) (d : Dev nD) (i : grid0.Coords) :
    BI.Storable (upEmb : UEmb _ 𝕄) (tileRes w g d i) := by
  unfold tileRes; infer_instance

def P : (K (F := F)).Pay (nD := nD) (Val := Elt F) (Name := ℕ) (U := UU) where
  st := fun q d c => match q with | 0 => bigSep Finset.univ fun t => tileIn m d (cj c t)
  dn := fun q d c => match q with | 0 => bigSep Finset.univ fun t => tileOut m d (cj c t)
  go := fun q d c t => match q with | 0 => tileIn m d (cj c t)
  td := fun q d c t => match q with | 0 => tileOut m d (cj c t)
  x := fun _ _ => iprop(emp)

instance P_storable : (P (F := F) m).IsStorable where
  st q d c := match q with
    | 0 => (inferInstance : BI.Storable (upEmb : UEmb _ 𝕄) (bigSep Finset.univ fun t => tileIn m d (cj c t)))
  dn q d c := match q with
    | 0 => (inferInstance : BI.Storable (upEmb : UEmb _ 𝕄) (bigSep Finset.univ fun t => tileOut m d (cj c t)))
  go q d c t := match q with | 0 => (inferInstance : BI.Storable (upEmb : UEmb _ 𝕄) (tileIn m d (cj c t)))
  td q d c t := match q with | 0 => (inferInstance : BI.Storable (upEmb : UEmb _ 𝕄) (tileOut m d (cj c t)))

/-! ## The obligation -/

/-- The call's task at a tile is the body there. -/
theorem defs₀_vector (c : Fin τ.nSC) (s : Fin τ.nSub) :
    defs₀ (F := F) (.scVector c s) 0 ()
      = SparseCore.onTile hcore0 hsub0 (fun c s => cc0__sc_body (coordsV c s)
          (Memref.whole main_arg0_scv) (Memref.isWhole_whole _) (Memref.whole main_v0_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _) cc0_scratch8 cc0_scratch9) ⟨⟩ c s := rfl

/-- A tile's waits at its end, as the launch states them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- A tile's part of the launch. -/
theorem tileObl (hF : (K (F := F)).Facts) : (K (F := F)).TileObl (D (F := F)) 𝒱 (P m) v₀ 0 := by
  intro d c t O W hO _ _
  simp only [show (P m).ox = fun _ _ => 0 from rfl, add_zero]
  have hci : ((K (F := F)).core 0 c).val < grid0.bound 0 ∧ ((K (F := F)).sub 0 t).val < grid0.bound 1 := ⟨c.isLt, t.isLt⟩
  change _ ⊢ wp _ _ _ (Pipeline.liftProg (defs₀ (F := F) (.scVector ((K (F := F)).core 0 c) ((K (F := F)).sub 0 t)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (wLoc d)) (m (oLoc d)) hF O W hO).trans (wp_mono frame _ _ fun _ => obl_post)

/-- A device's share splits into its tiles' shares and back. -/
theorem vecSplit : (K (F := F)).VecSplit' (P m) 0 := by
  intro d c
  show (bigSep Finset.univ fun t => tileIn m d (cj c t)) ⊢ |={Set.univ}=> iprop((bigSep Finset.univ fun t => tileIn m d (cj c t))
    ∗ ((bigSep Finset.univ fun t => tileOut m d (cj c t)) -∗ (bigSep Finset.univ fun t => tileOut m d (cj c t))))
  iintro H; imodintro
  isplitl [H]; · iexact H
  iintro H; iexact H

/-! ## The launch element of the certificate's ghost state -/

def u₀ : UU := (initOf (K (F := F)).hsCells (K (F := F)).hsToks, 1)

/-- A product of empty resources is empty. -/
theorem bigSep_emp' {I : Type} (s : Finset I) : (bigSep s fun _ => iprop(emp)) = (iprop(emp) : sProp 𝕄) := bigSep_emp_const s

/-- The ghost state at the start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The argument and the result are a device's buffers. -/
theorem unscopedBufs_eq (d : Dev nD) (W : (b : Ref sig .tc) → Buf (Elt F) ((d.tc : Thread nD τ).loc b)) :
    (unscopedBufs d W : sProp 𝕄) = iprop((wLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the tiles start from. -/
theorem st0_eq (d : Dev nD) : (bigSep Finset.univ fun c : Fin ((K (F := F)).nCore 0) => (P m).st 0 d c)
    = iprop((wLoc d ↦{fullShare} m (wLoc d)) ∗ oLoc d ↦{fullShare} m (oLoc d)) :=
  tiles_all d (m (wLoc d)) (m (oLoc d))
/-- What the tiles leave. -/
theorem dn0_eq (d : Dev nD) : (bigSep Finset.univ fun c : Fin ((K (F := F)).nCore 0) => (P m).dn 0 d c)
    = iprop((wLoc d ↦{fullShare} m (wLoc d)) ∗ oLoc d ↦{fullShare} G (m (wLoc d))) :=
  tiles_all d (m (wLoc d)) (G (m (wLoc d)))

/-- What device `d` ends with: the array read, unchanged, and the output, holding the result. -/
abbrev FIN (d : Dev nD) : sProp 𝕄 := iprop((wLoc d ↦{fullShare} m (wLoc d)) ∗ oLoc d ↦{fullShare} G (m (wLoc d)))

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hio, Hts, -⟩, -⟩
  iapply ((K (F := F)).wp_run (D (F := F)) 𝒱 (EH := EH) (P := P m) κ d 0) $$ [Hst Hio Hb Hts]
  isplitr; · iexact Hctx
  isplitl [Hst]; · iexact Hst
  isplitl [Hio]
  · rw [st0_eq]; iexact Hio
  iintro ⟨Hst, Hdn⟩
  ihave Hdn' := (Entails.of_eq (dn0_eq m d)) $$ Hdn
  imodintro
  isplitl [Hst]; · iexact Hst
  isplitr [Hb Hts]; · iexact Hdn'
  isplitl [Hb] <;> iassumption

/-- What a final state is to hold of device `d`'s arrays. -/
def fq (d : Dev nD) (s' : Phys nD τ sig (Elt F)) : Prop := s'.mem.mem (wLoc d) = m (wLoc d) ∧ s'.mem.mem (oLoc d) = G (m (wLoc d))

set_option maxRecDepth 16384 in
/-- The final resources fix the argument's and the result's contents. -/
theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := wLoc d) (I := Finset.univ) (q := fullShare) (f := m (wLoc d)))) $$ [HSI Hi]
  · isplitl [HSI] <;> iassumption
  icases H with ⟨%h1, HSI, -⟩
  ihave H := (SI_pointsTo_agree (st := s') (ℓ := oLoc d) (I := Finset.univ) (q := fullShare) (f := G (m (wLoc d)))) $$ [HSI Hx]
  · isplitl [HSI] <;> iassumption
  icases H with %h2
  ipureintro; exact ⟨funext fun i => h1 i (Finset.mem_univ i), funext fun i => h2 i (Finset.mem_univ i)⟩

/-! ## The program's run and the claims -/

/-- The array read unchanged, the output the result, every semaphore back at zero. -/
def QC : PUnit × MemSt nD τ sig (Elt F) → Prop := fun r =>
  (∀ c : Dev nD, r.2.mem (wLoc c) = m (wLoc c) ∧ r.2.mem (oLoc c) = G (m (wLoc c))) ∧ r.2.sem = fun _ => 0

/-- The kernel's run, over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The kernel over the reals runs and leaves its argument unchanged and the semaphores at zero. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The kernel over the machine's floats likewise. -/
theorem frame_kernel : Cert.quiescent_Kernel := fun m ρ _ =>
  (θ_run Cert.KernelIdeal.defs _ _).mono (fun _ h => ⟨fun c => (h.1 c).1, h.2⟩) (run_main (F := Bits) m ρ)

end Cert.Proof.K

end
-- ==== Proof.Value.lean ====
/-
  The two programs' results: the reference's is its argument shifted row by row by the kernel's table.
-/
module

public import proofs.«01_k».proof.Proof.Take
public import proofs.«01_k».proof.Proof.Run
public import proofs.«01_k».proof.Proof.Launch

@[expose] public section

noncomputable section

namespace Cert.Proof.Ref

open Cert.ReferenceIdeal Cert.ReferenceIdeal.Gen
open Idealize.ShloMosaic Idealize.ShloMosaic.StableHlo
open Idealize.SL.Sem

variable {F : FTy → Type} [FloatOps F] {V : Valuation τ sig (Elt F)}

/-- Two words one after the other. -/
theorem pair_eq {a b : IVec S_ 32} {h h' : S_.BroadcastsInDim S1 ![]} {hc : Shape.Concatenates [S1, S1] S2 0} :
    concatenate S2 0 [⟨S1, broadcastInDim S1 ![] h a⟩, ⟨S1, broadcastInDim S1 ![] h' b⟩] hc (ix 0) = a nil
    ∧ concatenate S2 0 [⟨S1, broadcastInDim S1 ![] h a⟩, ⟨S1, broadcastInDim S1 ![] h' b⟩] hc (ix 1) = b nil := by
  constructor
  · exact (concatenate_pair_apply ..).trans ((dif_pos (show (0 : Nat) < 1 from Nat.one_pos)).trans (bc0 _ _ _))
  · exact (concatenate_pair_apply ..).trans ((dif_neg (show ¬ (1 : Nat) < 1 from Nat.lt_irrefl 1)).trans (bc0 _ _ _))

/-- The seed's upper half and its lower half. -/
theorem seed_eq : IntOp.shrui .host 42#32 32#32 = 0#32 ∧ IntOp.andi 42#32 4294967295#32 = 42#32 := by decide

/-- The reference's result is its argument, each row read from its offset in the kernel's table on. -/
theorem main_val (d : Dev nD) (h : All ((mainL (F := F) d).E V)) :
    V (Proc.devRef .tc main_v13) = K.G (V (Proc.devRef .tc main_arg0)) := by
  obtain ⟨ec, ec0, e0, e1, e2, ec1, e3, e4, e5, e6, ec2, ec3, H⟩ := h
  obtain ⟨hr, e8, e9, e10, e11, e12, ht⟩ := H
  have k0 : (V (Proc.devRef .tc main_v6) : IVec S2 32) (ix 0) = (0#32 : BitVec 32) := by
    rw [e6, e2, e5, pair_eq.1, e1, e0, ec, ec0]; exact seed_eq.1
  have k1 : (V (Proc.devRef .tc main_v6) : IVec S2 32) (ix 1) = (42#32 : BitVec 32) := by
    rw [e6, e2, e5, pair_eq.2, e4, e3, ec, ec1]; exact seed_eq.2
  have off (a : Fin 2) (b : Fin 32) : (V (Proc.devRef .tc main_v7) : IVec S2x32x1x1 32)
      (fun x => match x with | ⟨0, _⟩ => a | ⟨1, _⟩ => b | ⟨2, _⟩ => (0 : Fin 1) | ⟨3, _⟩ => (0 : Fin 1)) = offAt a b := by
    refine (randint_val hr ec2 ec3 _).trans ?_
    exact congrArg₂ (fun k l => draw k l _) k0 k1
  have v12 (y : S2x32x1x152000.Idx) : ((V (Proc.devRef .tc main_v12) : IVec S2x32x1x152000 32) y).toNat
      = (y 3).val + K.OFF (32 * (y 0).val + (y 1).val) := by
    have e : (V (Proc.devRef .tc main_v12) : IVec S2x32x1x152000 32) y = BitVec.ofNat 32 (y 3).val + offAt (y 0) (y 1) := by
      rw [e12, e11, e10, e9, e8]
      refine congrArg (BitVec.ofNat 32 (y 3).val + ·) (Eq.trans (congrArg (V (Proc.devRef .tc main_v7) : IVec S2x32x1x1 32) (funext fun a => ?_)) (off (y 0) (y 1)))
      match a with
      | 0 => rfl
      | 1 => rfl
      | 2 => rfl
      | 3 => rfl
    have hy : (y 3).val < 152000 := (y 3).isLt
    have ho := K.OFF_lt (32 * (y 0).val + (y 1).val)
    have eo : (offAt (y 0) (y 1)).toNat = K.OFF (32 * (y 0).val + (y 1).val) := offAt_eq (y 0) (y 1)
    refine (congrArg BitVec.toNat e).trans ?_
    rw [BitVec.toNat_add, eo, BitVec.toNat_ofNat]
    omega
  have lt (y : S2x32x1x152000.Idx) : (y 3).val + K.OFF (32 * (y 0).val + (y 1).val) < 160000 := by
    have hy : (y 3).val < 152000 := (y 3).isLt
    have ho := K.OFF_lt (32 * (y 0).val + (y 1).val)
    omega
  funext y
  have h0 : (y 0).val < 2 := (y 0).isLt
  have h1 : (y 1).val < 32 := (y 1).isLt
  exact take_val ht.1 (fun y => (v12 y).trans_lt (lt y)) y (K.wIdx (32 * (y 0).val + (y 1).val) ((y 3).val + K.OFF (32 * (y 0).val + (y 1).val)))
    (show (32 * (y 0).val + (y 1).val) % 64 / 32 = (y 0).val by omega) (show (32 * (y 0).val + (y 1).val) % 32 = (y 1).val by omega)
    ((Nat.mod_eq_of_lt (lt y)).trans (v12 y).symm)

end Cert.Proof.Ref

namespace Cert.Proof

open Idealize.ShloMosaic Idealize.SL.Sem

/-- From memories with one argument the kernel over the reals and the reference end with one result: the argument, each
    row read from its offset in the kernel's table on. -/
theorem algebraic : Cert.algebraic_KernelIdeal_ReferenceIdeal := by
  intro m g m' g' _ ha
  refine ⟨fun c => K.G (m (K.wLoc c)), ?_, ?_⟩
  · exact (θ_run Cert.KernelIdeal.defs _ _).mono (fun _ h c => ⟨(h.1 c).2, (h.1 c).1⟩) (K.run_main (F := Ideal) m g)
  · refine (θ_run (Cert.ReferenceIdeal.defs (F := Ideal)) _ _).mono (fun r h c => ?_) (Ref.run_main m' g')
    obtain ⟨V, hV, hA, H⟩ := h c
    refine ⟨(hV _).trans ((Ref.main_val c H).trans ?_), (hV _).trans hA⟩
    exact congrArg K.G (hA.trans (ha c))

end Cert.Proof

end
-- ==== Proof.lean ====
/-
  The certificate's claim: the kernel's two readings and the reference each end with their argument as it was and their
  counters at zero; the ideal reading is the kernel's own text; and the kernel's result is the reference's.
-/
module

public import proofs.«01_k».proof.Proof.Value
public import proofs.«01_k».proof.Proof.Gen.KernelIdeal

@[expose] public section

noncomputable section

namespace Cert.Proof

/-- Every claim of the certificate. -/
theorem claim : Cert.Claim :=
  ⟨Cert.Kernel.Gen.facts, Cert.KernelIdeal.Gen.facts, Cert.ReferenceIdeal.Gen.facts,
    K.frame_kernel, K.frame_kernelIdeal, Ref.frame_reference, trivial, algebraic⟩

end Cert.Proof

end
